-- ==== Defs.lean ====
def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InCtx (m : (ℓ : Loc Cert.InCtx.nD Cert.InCtx.τ Cert.InCtx.sig) → Buf (Elt Bits) ℓ) : Prop :=
  True

def Pre_InCtxIdeal (m : (ℓ : Loc Cert.InCtxIdeal.nD Cert.InCtxIdeal.τ Cert.InCtxIdeal.sig) → Buf (Elt Ideal) ℓ) : Prop :=
  True

def Pre_InCtxRefIdeal (m : (ℓ : Loc Cert.InCtxRefIdeal.nD Cert.InCtxRefIdeal.τ Cert.InCtxRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_InCtx [hInCtx : Cert.InCtx.Facts] : Prop :=
  ∀ (m : (ℓ : Loc Cert.InCtx.nD Cert.InCtx.τ Cert.InCtx.sig) → Buf (Elt Bits) ℓ) (g : Dev Cert.InCtx.nD → PrngReg), Pre_InCtx m →
    θ_run (Cert.InCtx.defs (F := Bits)) (onTc (τ := Cert.InCtx.τ) (Cert.InCtx.main (F := Bits))) ⟨m, fun _ => 0, g⟩ (fun r => (∀ c : Dev Cert.InCtx.nD,
      r.2.mem ((c.tc : Thread Cert.InCtx.nD Cert.InCtx.τ).loc Cert.InCtx.main_arg0) = m ((c.tc : Thread Cert.InCtx.nD Cert.InCtx.τ).loc Cert.InCtx.main_arg0)
      ∧ r.2.mem ((c.tc : Thread Cert.InCtx.nD Cert.InCtx.τ).loc Cert.InCtx.main_arg1) = m ((c.tc : Thread Cert.InCtx.nD Cert.InCtx.τ).loc Cert.InCtx.main_arg1)
      ∧ r.2.mem ((c.tc : Thread Cert.InCtx.nD Cert.InCtx.τ).loc Cert.InCtx.main_arg2) = m ((c.tc : Thread Cert.InCtx.nD Cert.InCtx.τ).loc Cert.InCtx.main_arg2)
      ∧ r.2.mem ((c.tc : Thread Cert.InCtx.nD Cert.InCtx.τ).loc Cert.InCtx.main_arg3) = m ((c.tc : Thread Cert.InCtx.nD Cert.InCtx.τ).loc Cert.InCtx.main_arg3))
      ∧ r.2.sem = fun _ => 0)

def quiescent_InCtxIdeal [hInCtxIdeal : Cert.InCtxIdeal.Facts] : Prop :=
  ∀ (m : (ℓ : Loc Cert.InCtxIdeal.nD Cert.InCtxIdeal.τ Cert.InCtxIdeal.sig) → Buf (Elt Ideal) ℓ) (g : Dev Cert.InCtxIdeal.nD → PrngReg), Pre_InCtxIdeal m →
    θ_run (Cert.InCtxIdeal.defs (F := Ideal)) (onTc (τ := Cert.InCtxIdeal.τ) (Cert.InCtxIdeal.main (F := Ideal))) ⟨m, fun _ => 0, g⟩ (fun r => (∀ c : Dev Cert.InCtxIdeal.nD,
      r.2.mem ((c.tc : Thread Cert.InCtxIdeal.nD Cert.InCtxIdeal.τ).loc Cert.InCtxIdeal.main_arg0) = m ((c.tc : Thread Cert.InCtxIdeal.nD Cert.InCtxIdeal.τ).loc Cert.InCtxIdeal.main_arg0)
      ∧ r.2.mem ((c.tc : Thread Cert.InCtxIdeal.nD Cert.InCtxIdeal.τ).loc Cert.InCtxIdeal.main_arg1) = m ((c.tc : Thread Cert.InCtxIdeal.nD Cert.InCtxIdeal.τ).loc Cert.InCtxIdeal.main_arg1)
      ∧ r.2.mem ((c.tc : Thread Cert.InCtxIdeal.nD Cert.InCtxIdeal.τ).loc Cert.InCtxIdeal.main_arg2) = m ((c.tc : Thread Cert.InCtxIdeal.nD Cert.InCtxIdeal.τ).loc Cert.InCtxIdeal.main_arg2)
      ∧ r.2.mem ((c.tc : Thread Cert.InCtxIdeal.nD Cert.InCtxIdeal.τ).loc Cert.InCtxIdeal.main_arg3) = m ((c.tc : Thread Cert.InCtxIdeal.nD Cert.InCtxIdeal.τ).loc Cert.InCtxIdeal.main_arg3))
      ∧ r.2.sem = fun _ => 0)

def quiescent_InCtxRefIdeal [hInCtxRefIdeal : Cert.InCtxRefIdeal.Facts] : Prop :=
  ∀ (m : (ℓ : Loc Cert.InCtxRefIdeal.nD Cert.InCtxRefIdeal.τ Cert.InCtxRefIdeal.sig) → Buf (Elt Ideal) ℓ) (g : Dev Cert.InCtxRefIdeal.nD → PrngReg), Pre_InCtxRefIdeal m →
    θ_run (Cert.InCtxRefIdeal.defs (F := Ideal)) (onTc (τ := Cert.InCtxRefIdeal.τ) (Cert.InCtxRefIdeal.main (F := Ideal))) ⟨m, fun _ => 0, g⟩ (fun r => (∀ c : Dev Cert.InCtxRefIdeal.nD,
      r.2.mem ((c.tc : Thread Cert.InCtxRefIdeal.nD Cert.InCtxRefIdeal.τ).loc Cert.InCtxRefIdeal.main_arg0) = m ((c.tc : Thread Cert.InCtxRefIdeal.nD Cert.InCtxRefIdeal.τ).loc Cert.InCtxRefIdeal.main_arg0)
      ∧ r.2.mem ((c.tc : Thread Cert.InCtxRefIdeal.nD Cert.InCtxRefIdeal.τ).loc Cert.InCtxRefIdeal.main_arg1) = m ((c.tc : Thread Cert.InCtxRefIdeal.nD Cert.InCtxRefIdeal.τ).loc Cert.InCtxRefIdeal.main_arg1)
      ∧ r.2.mem ((c.tc : Thread Cert.InCtxRefIdeal.nD Cert.InCtxRefIdeal.τ).loc Cert.InCtxRefIdeal.main_arg2) = m ((c.tc : Thread Cert.InCtxRefIdeal.nD Cert.InCtxRefIdeal.τ).loc Cert.InCtxRefIdeal.main_arg2)
      ∧ r.2.mem ((c.tc : Thread Cert.InCtxRefIdeal.nD Cert.InCtxRefIdeal.τ).loc Cert.InCtxRefIdeal.main_arg3) = m ((c.tc : Thread Cert.InCtxRefIdeal.nD Cert.InCtxRefIdeal.τ).loc Cert.InCtxRefIdeal.main_arg3))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v26_0)) (v1 : (c : Dev Cert.OutProjIdeal.nD) → Buf (Elt Ideal) ((c.tc : Thread Cert.OutProjIdeal.nD Cert.OutProjIdeal.τ).loc Cert.OutProjIdeal.main_v26_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v26_0) = v0 c
          ∧ r.2.mem ((c.tc : Thread Cert.OutProjIdeal.nD Cert.OutProjIdeal.τ).loc Cert.OutProjIdeal.main_v26_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v62) = v0 c
          ∧ r.2.mem ((c.tc : Thread Cert.OutProjRefIdeal.nD Cert.OutProjRefIdeal.τ).loc Cert.OutProjRefIdeal.main_v82) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v61) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v26_0)) (v1 : (c : Dev Cert.InProjIdeal.nD) → Buf (Elt Ideal) ((c.tc : Thread Cert.InProjIdeal.nD Cert.InProjIdeal.τ).loc Cert.InProjIdeal.main_v26_1)) (v2 : (c : Dev Cert.InProjIdeal.nD) → Buf (Elt Ideal) ((c.tc : Thread Cert.InProjIdeal.nD Cert.InProjIdeal.τ).loc Cert.InProjIdeal.main_v26_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v26_0) = v0 c
          ∧ r.2.mem ((c.tc : Thread Cert.InProjIdeal.nD Cert.InProjIdeal.τ).loc Cert.InProjIdeal.main_v26_1) = v1 c
          ∧ r.2.mem ((c.tc : Thread Cert.InProjIdeal.nD Cert.InProjIdeal.τ).loc Cert.InProjIdeal.main_v26_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v62) = v0 c
          ∧ r.2.mem ((c.tc : Thread Cert.InProjRefIdeal.nD Cert.InProjRefIdeal.τ).loc Cert.InProjRefIdeal.main_v60) = v1 c
          ∧ r.2.mem ((c.tc : Thread Cert.InProjRefIdeal.nD Cert.InProjRefIdeal.τ).loc Cert.InProjRefIdeal.main_v61) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_InCtx_InCtxIdeal : Prop :=
  True

def algebraic_InCtxIdeal_InCtxRefIdeal [hInCtxIdeal : Cert.InCtxIdeal.Facts] [hInCtxRefIdeal : Cert.InCtxRefIdeal.Facts] : Prop :=
  ∀ (m : (ℓ : Loc Cert.InCtxIdeal.nD Cert.InCtxIdeal.τ Cert.InCtxIdeal.sig) → Buf (Elt Ideal) ℓ) (g : Dev Cert.InCtxIdeal.nD → PrngReg)
    (m' : (ℓ : Loc Cert.InCtxRefIdeal.nD Cert.InCtxRefIdeal.τ Cert.InCtxRefIdeal.sig) → Buf (Elt Ideal) ℓ) (g' : Dev Cert.InCtxRefIdeal.nD → PrngReg), Pre_InCtxIdeal m →
    (∀ c : Dev Cert.InCtxIdeal.nD,
      m' ((c.tc : Thread Cert.InCtxRefIdeal.nD Cert.InCtxRefIdeal.τ).loc Cert.InCtxRefIdeal.main_arg0) = m ((c.tc : Thread Cert.InCtxIdeal.nD Cert.InCtxIdeal.τ).loc Cert.InCtxIdeal.main_arg0)
      ∧ m' ((c.tc : Thread Cert.InCtxRefIdeal.nD Cert.InCtxRefIdeal.τ).loc Cert.InCtxRefIdeal.main_arg1) = m ((c.tc : Thread Cert.InCtxIdeal.nD Cert.InCtxIdeal.τ).loc Cert.InCtxIdeal.main_arg1)
      ∧ m' ((c.tc : Thread Cert.InCtxRefIdeal.nD Cert.InCtxRefIdeal.τ).loc Cert.InCtxRefIdeal.main_arg2) = m ((c.tc : Thread Cert.InCtxIdeal.nD Cert.InCtxIdeal.τ).loc Cert.InCtxIdeal.main_arg2)
      ∧ m' ((c.tc : Thread Cert.InCtxRefIdeal.nD Cert.InCtxRefIdeal.τ).loc Cert.InCtxRefIdeal.main_arg3) = m ((c.tc : Thread Cert.InCtxIdeal.nD Cert.InCtxIdeal.τ).loc Cert.InCtxIdeal.main_arg3)) →
    ∃ (v0 : (c : Dev Cert.InCtxIdeal.nD) → Buf (Elt Ideal) ((c.tc : Thread Cert.InCtxIdeal.nD Cert.InCtxIdeal.τ).loc Cert.InCtxIdeal.main_v3)),
      θ_run (Cert.InCtxIdeal.defs (F := Ideal)) (onTc (τ := Cert.InCtxIdeal.τ) (Cert.InCtxIdeal.main (F := Ideal))) ⟨m, fun _ => 0, g⟩ (fun r => ∀ c : Dev Cert.InCtxIdeal.nD,
          r.2.mem ((c.tc : Thread Cert.InCtxIdeal.nD Cert.InCtxIdeal.τ).loc Cert.InCtxIdeal.main_v3) = v0 c
          ∧ r.2.mem ((c.tc : Thread Cert.InCtxIdeal.nD Cert.InCtxIdeal.τ).loc Cert.InCtxIdeal.main_arg0) = m ((c.tc : Thread Cert.InCtxIdeal.nD Cert.InCtxIdeal.τ).loc Cert.InCtxIdeal.main_arg0)
          ∧ r.2.mem ((c.tc : Thread Cert.InCtxIdeal.nD Cert.InCtxIdeal.τ).loc Cert.InCtxIdeal.main_arg1) = m ((c.tc : Thread Cert.InCtxIdeal.nD Cert.InCtxIdeal.τ).loc Cert.InCtxIdeal.main_arg1)
          ∧ r.2.mem ((c.tc : Thread Cert.InCtxIdeal.nD Cert.InCtxIdeal.τ).loc Cert.InCtxIdeal.main_arg2) = m ((c.tc : Thread Cert.InCtxIdeal.nD Cert.InCtxIdeal.τ).loc Cert.InCtxIdeal.main_arg2)
          ∧ r.2.mem ((c.tc : Thread Cert.InCtxIdeal.nD Cert.InCtxIdeal.τ).loc Cert.InCtxIdeal.main_arg3) = m ((c.tc : Thread Cert.InCtxIdeal.nD Cert.InCtxIdeal.τ).loc Cert.InCtxIdeal.main_arg3))
      ∧ θ_run (Cert.InCtxRefIdeal.defs (F := Ideal)) (onTc (τ := Cert.InCtxRefIdeal.τ) (Cert.InCtxRefIdeal.main (F := Ideal))) ⟨m', fun _ => 0, g'⟩ (fun r => ∀ c : Dev Cert.InCtxRefIdeal.nD,
          r.2.mem ((c.tc : Thread Cert.InCtxRefIdeal.nD Cert.InCtxRefIdeal.τ).loc Cert.InCtxRefIdeal.main_v29) = v0 c
          ∧ r.2.mem ((c.tc : Thread Cert.InCtxRefIdeal.nD Cert.InCtxRefIdeal.τ).loc Cert.InCtxRefIdeal.main_arg0) = m' ((c.tc : Thread Cert.InCtxRefIdeal.nD Cert.InCtxRefIdeal.τ).loc Cert.InCtxRefIdeal.main_arg0)
          ∧ r.2.mem ((c.tc : Thread Cert.InCtxRefIdeal.nD Cert.InCtxRefIdeal.τ).loc Cert.InCtxRefIdeal.main_arg1) = m' ((c.tc : Thread Cert.InCtxRefIdeal.nD Cert.InCtxRefIdeal.τ).loc Cert.InCtxRefIdeal.main_arg1)
          ∧ r.2.mem ((c.tc : Thread Cert.InCtxRefIdeal.nD Cert.InCtxRefIdeal.τ).loc Cert.InCtxRefIdeal.main_arg2) = m' ((c.tc : Thread Cert.InCtxRefIdeal.nD Cert.InCtxRefIdeal.τ).loc Cert.InCtxRefIdeal.main_arg2)
          ∧ r.2.mem ((c.tc : Thread Cert.InCtxRefIdeal.nD Cert.InCtxRefIdeal.τ).loc Cert.InCtxRefIdeal.main_arg3) = m' ((c.tc : Thread Cert.InCtxRefIdeal.nD Cert.InCtxRefIdeal.τ).loc Cert.InCtxRefIdeal.main_arg3))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v4) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def Claim : Prop :=
  ∃ (hOutProj : Cert.OutProj.Facts) (hOutProjIdeal : Cert.OutProjIdeal.Facts) (hOutProjRefIdeal : Cert.OutProjRefIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hInCtx : Cert.InCtx.Facts) (hInCtxIdeal : Cert.InCtxIdeal.Facts) (hInCtxRefIdeal : Cert.InCtxRefIdeal.Facts) (hMod : Cert.Mod.Facts) (hModIdeal : Cert.ModIdeal.Facts) (hModRefIdeal : Cert.ModRefIdeal.Facts),
    quiescent_OutProj (hOutProj := hOutProj)
    ∧ quiescent_OutProjIdeal (hOutProjIdeal := hOutProjIdeal)
    ∧ quiescent_OutProjRefIdeal (hOutProjRefIdeal := hOutProjRefIdeal)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_InCtx (hInCtx := hInCtx)
    ∧ quiescent_InCtxIdeal (hInCtxIdeal := hInCtxIdeal)
    ∧ quiescent_InCtxRefIdeal (hInCtxRefIdeal := hInCtxRefIdeal)
    ∧ quiescent_Mod (hMod := hMod)
    ∧ quiescent_ModIdeal (hModIdeal := hModIdeal)
    ∧ quiescent_ModRefIdeal (hModRefIdeal := hModRefIdeal)
    ∧ preserves_OutProj_OutProjIdeal
    ∧ algebraic_OutProjIdeal_OutProjRefIdeal (hOutProjIdeal := hOutProjIdeal) (hOutProjRefIdeal := hOutProjRefIdeal)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_InCtx_InCtxIdeal
    ∧ algebraic_InCtxIdeal_InCtxRefIdeal (hInCtxIdeal := hInCtxIdeal) (hInCtxRefIdeal := hInCtxRefIdeal)
    ∧ preserves_Mod_ModIdeal
    ∧ algebraic_ModIdeal_ModRefIdeal (hModIdeal := hModIdeal) (hModRefIdeal := hModRefIdeal)
-- ==== OutProj.lean ====
abbrev S8x2048x1024 : Shape := ⟨3, ![8, 2048, 1024]⟩
abbrev S8x2048x2048 : Shape := ⟨3, ![8, 2048, 2048]⟩
abbrev S16x6x2048 : Shape := ⟨3, ![16, 6, 2048]⟩
abbrev S2048 : Shape := ⟨1, ![2048]⟩
abbrev S2048x2048 : Shape := ⟨2, ![2048, 2048]⟩
abbrev S512 : Shape := ⟨1, ![512]⟩
abbrev S_ : Shape := ⟨0, ![]⟩
abbrev S32 : Shape := ⟨1, ![32]⟩
abbrev S32x1 : Shape := ⟨2, ![32, 1]⟩
abbrev S1x512 : Shape := ⟨2, ![1, 512]⟩
abbrev S32x512 : Shape := ⟨2, ![32, 512]⟩
abbrev S32x1024 : Shape := ⟨2, ![32, 1024]⟩
abbrev S64 : Shape := ⟨1, ![64]⟩
abbrev S64x1 : Shape := ⟨2, ![64, 1]⟩
abbrev S64x512 : Shape := ⟨2, ![64, 512]⟩
abbrev S64x1024 : Shape := ⟨2, ![64, 1024]⟩
abbrev S1x2048 : Shape := ⟨2, ![1, 2048]⟩
abbrev S1x512x1024 : Shape := ⟨3, ![1, 512, 1024]⟩
abbrev S1x512x2048 : Shape := ⟨3, ![1, 512, 2048]⟩
abbrev S8x1024 : Shape := ⟨2, ![8, 1024]⟩
abbrev S1x6x2048 : Shape := ⟨3, ![1, 6, 2048]⟩
abbrev S1x1024 : Shape := ⟨2, ![1, 1024]⟩
abbrev S512x1024 : Shape := ⟨2, ![512, 1024]⟩
abbrev S512x2048 : Shape := ⟨2, ![512, 2048]⟩
abbrev S1x1x2048 : Shape := ⟨3, ![1, 1, 2048]⟩
abbrev S1x256x1024 : Shape := ⟨3, ![1, 256, 1024]⟩
abbrev S256x1024 : Shape := ⟨2, ![256, 1024]⟩
abbrev S1024x2048 : Shape := ⟨2, ![1024, 2048]⟩
abbrev S256x2048 : Shape := ⟨2, ![256, 2048]⟩
abbrev S1x256x2048 : Shape := ⟨3, ![1, 256, 2048]⟩
abbrev S256 : Shape := ⟨1, ![256]⟩
abbrev S256x1 : Shape := ⟨2, ![256, 1]⟩

abbrev nBuf : Space → Nat
  | .hbm => 37
  | .vmem => 18
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x2048, .f32⟩
  | .hbm, ⟨3, _⟩ => ⟨S16x6x2048, .f32⟩
  | .hbm, ⟨4, _⟩ => ⟨S2048, .f32⟩
  | .hbm, ⟨5, _⟩ => ⟨S2048, .f32⟩
  | .hbm, ⟨6, _⟩ => ⟨S2048x2048, .bf16⟩
  | .hbm, ⟨7, _⟩ => ⟨S512, .f32⟩
  | .hbm, ⟨8, _⟩ => ⟨S512, .f32⟩
  | .hbm, ⟨9, _⟩ => ⟨S_, .f32⟩
  | .hbm, ⟨10, _⟩ => ⟨S512, .f32⟩
  | .hbm, ⟨11, _⟩ => ⟨S512, .f32⟩
  | .hbm, ⟨12, _⟩ => ⟨S_, .f32⟩
  | .hbm, ⟨13, _⟩ => ⟨S512, .f32⟩
  | .hbm, ⟨14, _⟩ => ⟨S512, .f32⟩
  | .hbm, ⟨15, _⟩ => ⟨S32, .f32⟩
  | .hbm, ⟨16, _⟩ => ⟨S32x1, .f32⟩
  | .hbm, ⟨17, _⟩ => ⟨S1x512, .f32⟩
  | .hbm, ⟨18, _⟩ => ⟨S32x512, .f32⟩
  | .hbm, ⟨19, _⟩ => ⟨S32x512, .f32⟩
  | .hbm, ⟨20, _⟩ => ⟨S32x512, .f32⟩
  | .hbm, ⟨21, _⟩ => ⟨S32x512, .f32⟩
  | .hbm, ⟨22, _⟩ => ⟨S32x512, .f32⟩
  | .hbm, ⟨23, _⟩ => ⟨S32x1024, .f32⟩
  | .hbm, ⟨24, _⟩ => ⟨S64, .f32⟩
  | .hbm, ⟨25, _⟩ => ⟨S64x1, .f32⟩
  | .hbm, ⟨26, _⟩ => ⟨S1x512, .f32⟩
  | .hbm, ⟨27, _⟩ => ⟨S64x512, .f32⟩
  | .hbm, ⟨28, _⟩ => ⟨S64x512, .f32⟩
  | .hbm, ⟨29, _⟩ => ⟨S64x512, .f32⟩
  | .hbm, ⟨30, _⟩ => ⟨S64x512, .f32⟩
  | .hbm, ⟨31, _⟩ => ⟨S64x512, .f32⟩
  | .hbm, ⟨32, _⟩ => ⟨S64x1024, .f32⟩
  | .hbm, ⟨33, _⟩ => ⟨S1x2048, .f32⟩
  | .hbm, ⟨34, _⟩ => ⟨S1x2048, .f32⟩
  | .hbm, ⟨35, _⟩ => ⟨S8x2048x2048, .f32⟩
  | .hbm, ⟨36, _⟩ => ⟨S8x2048x2048, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x2048, .f32⟩
  | .local _ .vmem, ⟨5, _⟩ => ⟨S1x512x2048, .f32⟩
  | .local _ .vmem, ⟨6, _⟩ => ⟨S8x1024, .f32⟩
  | .local _ .vmem, ⟨7, _⟩ => ⟨S8x1024, .f32⟩
  | .local _ .vmem, ⟨8, _⟩ => ⟨S64x1024, .f32⟩
  | .local _ .vmem, ⟨9, _⟩ => ⟨S1x6x2048, .f32⟩
  | .local _ .vmem, ⟨10, _⟩ => ⟨S1x6x2048, .f32⟩
  | .local _ .vmem, ⟨11, _⟩ => ⟨S1x2048, .f32⟩
  | .local _ .vmem, ⟨12, _⟩ => ⟨S1x2048, .f32⟩
  | .local _ .vmem, ⟨13, _⟩ => ⟨S2048x2048, .bf16⟩
  | .local _ .vmem, ⟨14, _⟩ => ⟨S1x512x2048, .f32⟩
  | .local _ .vmem, ⟨15, _⟩ => ⟨S1x512x2048, .f32⟩
  | .local _ .vmem, ⟨16, _⟩ => ⟨S1x512x2048, .bf16⟩
  | .local _ .vmem, ⟨17, _⟩ => ⟨S1x512x2048, .bf16⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26_0 : Ref sig .tc := ⟨.hbm, 35, rfl⟩
abbrev main_v26_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x6x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== OutProjRefIdeal.lean ====
abbrev S8x2048x1024 : Shape := ⟨3, ![8, 2048, 1024]⟩
abbrev S8x2048x2048 : Shape := ⟨3, ![8, 2048, 2048]⟩
abbrev S16x6x2048 : Shape := ⟨3, ![16, 6, 2048]⟩
abbrev S2048 : Shape := ⟨1, ![2048]⟩
abbrev S2048x2048 : Shape := ⟨2, ![2048, 2048]⟩
abbrev S8x1x2048 : Shape := ⟨3, ![8, 1, 2048]⟩
abbrev S8x2048 : Shape := ⟨2, ![8, 2048]⟩
abbrev S32 : Shape := ⟨1, ![32]⟩
abbrev S32x64 : Shape := ⟨2, ![32, 64]⟩
abbrev S64 : Shape := ⟨1, ![64]⟩
abbrev S1x64 : Shape := ⟨2, ![1, 64]⟩
abbrev S512 : Shape := ⟨1, ![512]⟩
abbrev S_ : Shape := ⟨0, ![]⟩
abbrev S2048x1 : Shape := ⟨2, ![2048, 1]⟩
abbrev S1x512 : Shape := ⟨2, ![1, 512]⟩
abbrev S2048x512 : Shape := ⟨2, ![2048, 512]⟩
abbrev S2048x1024 : Shape := ⟨2, ![2048, 1024]⟩
abbrev S1x2048x2048 : Shape := ⟨3, ![1, 2048, 2048]⟩
abbrev S8x2048x1 : Shape := ⟨3, ![8, 2048, 1]⟩
abbrev S1x1x2048 : Shape := ⟨3, ![1, 1, 2048]⟩

abbrev nBuf : Space → Nat
  | .hbm => 99
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x2048, .f32⟩
  | .hbm, ⟨3, _⟩ => ⟨S16x6x2048, .f32⟩
  | .hbm, ⟨4, _⟩ => ⟨S2048, .f32⟩
  | .hbm, ⟨5, _⟩ => ⟨S2048, .f32⟩
  | .hbm, ⟨6, _⟩ => ⟨S2048x2048, .bf16⟩
  | .hbm, ⟨7, _⟩ => ⟨S8x1x2048, .f32⟩
  | .hbm, ⟨8, _⟩ => ⟨S8x2048, .f32⟩
  | .hbm, ⟨9, _⟩ => ⟨S8x1x2048, .f32⟩
  | .hbm, ⟨10, _⟩ => ⟨S8x1x2048, .f32⟩
  | .hbm, ⟨11, _⟩ => ⟨S8x2048, .f32⟩
  | .hbm, ⟨12, _⟩ => ⟨S8x1x2048, .f32⟩
  | .hbm, ⟨13, _⟩ => ⟨S8x1x2048, .f32⟩
  | .hbm, ⟨14, _⟩ => ⟨S8x2048, .f32⟩
  | .hbm, ⟨15, _⟩ => ⟨S8x1x2048, .f32⟩
  | .hbm, ⟨16, _⟩ => ⟨S32, .f32⟩
  | .hbm, ⟨17, _⟩ => ⟨S32x64, .f32⟩
  | .hbm, ⟨18, _⟩ => ⟨S2048, .f32⟩
  | .hbm, ⟨19, _⟩ => ⟨S64, .f32⟩
  | .hbm, ⟨20, _⟩ => ⟨S1x64, .f32⟩
  | .hbm, ⟨21, _⟩ => ⟨S32x64, .f32⟩
  | .hbm, ⟨22, _⟩ => ⟨S2048, .f32⟩
  | .hbm, ⟨23, _⟩ => ⟨S512, .f32⟩
  | .hbm, ⟨24, _⟩ => ⟨S512, .f32⟩
  | .hbm, ⟨25, _⟩ => ⟨S_, .f32⟩
  | .hbm, ⟨26, _⟩ => ⟨S512, .f32⟩
  | .hbm, ⟨27, _⟩ => ⟨S512, .f32⟩
  | .hbm, ⟨28, _⟩ => ⟨S_, .f32⟩
  | .hbm, ⟨29, _⟩ => ⟨S512, .f32⟩
  | .hbm, ⟨30, _⟩ => ⟨S512, .f32⟩
  | .hbm, ⟨31, _⟩ => ⟨S2048x1, .f32⟩
  | .hbm, ⟨32, _⟩ => ⟨S1x512, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x1024, .f32⟩
  | .hbm, ⟨39, _⟩ => ⟨S2048x1, .f32⟩
  | .hbm, ⟨40, _⟩ => ⟨S1x512, .f32⟩
  | .hbm, ⟨41, _⟩ => ⟨S2048x512, .f32⟩
  | .hbm, ⟨42, _⟩ => ⟨S2048x512, .f32⟩
  | .hbm, ⟨43, _⟩ => ⟨S2048x512, .f32⟩
  | .hbm, ⟨44, _⟩ => ⟨S2048x512, .f32⟩
  | .hbm, ⟨45, _⟩ => ⟨S2048x512, .f32⟩
  | .hbm, ⟨46, _⟩ => ⟨S2048x1024, .f32⟩
  | .hbm, ⟨47, _⟩ => ⟨S2048x2048, .f32⟩
  | .hbm, ⟨48, _⟩ => ⟨S1x2048x2048, .f32⟩
  | .hbm, ⟨49, _⟩ => ⟨S8x2048x2048, .f32⟩
  | .hbm, ⟨50, _⟩ => ⟨S8x2048x2048, .f32⟩
  | .hbm, ⟨51, _⟩ => ⟨S8x2048x1024, .f32⟩
  | .hbm, ⟨52, _⟩ => ⟨S8x2048x1024, .f32⟩
  | .hbm, ⟨53, _⟩ => ⟨S8x2048x2048, .f32⟩
  | .hbm, ⟨54, _⟩ => ⟨S2048x2048, .f32⟩
  | .hbm, ⟨55, _⟩ => ⟨S8x2048x2048, .f32⟩
  | .hbm, ⟨56, _⟩ => ⟨S8x2048x2048, .f32⟩
  | .hbm, ⟨57, _⟩ => ⟨S_, .f32⟩
  | .hbm, ⟨58, _⟩ => ⟨S8x2048, .f32⟩
  | .hbm, ⟨59, _⟩ => ⟨S8x2048x1, .f32⟩
  | .hbm, ⟨60, _⟩ => ⟨S_, .f32⟩
  | .hbm, ⟨61, _⟩ => ⟨S8x2048x1, .f32⟩
  | .hbm, ⟨62, _⟩ => ⟨S8x2048x1, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S8x2048x1, .f32⟩
  | .hbm, ⟨67, _⟩ => ⟨S8x2048x2048, .f32⟩
  | .hbm, ⟨68, _⟩ => ⟨S8x2048x2048, .f32⟩
  | .hbm, ⟨69, _⟩ => ⟨S1x1x2048, .f32⟩
  | .hbm, ⟨70, _⟩ => ⟨S8x2048x2048, .f32⟩
  | .hbm, ⟨71, _⟩ => ⟨S8x2048x2048, .f32⟩
  | .hbm, ⟨72, _⟩ => ⟨S8x2048x2048, .f32⟩
  | .hbm, ⟨73, _⟩ => ⟨S8x2048x2048, .f32⟩
  | .hbm, ⟨74, _⟩ => ⟨S8x2048x2048, .f32⟩
  | .hbm, ⟨75, _⟩ => ⟨S8x2048x2048, .f32⟩
  | .hbm, ⟨76, _⟩ => ⟨S_, .f32⟩
  | .hbm, ⟨77, _⟩ => ⟨S8x2048, .f32⟩
  | .hbm, ⟨78, _⟩ => ⟨S8x2048x1, .f32⟩
  | .hbm, ⟨79, _⟩ => ⟨S_, .f32⟩
  | .hbm, ⟨80, _⟩ => ⟨S8x2048x1, .f32⟩
  | .hbm, ⟨81, _⟩ => ⟨S8x2048x1, .f32⟩
  | .hbm, ⟨82, _⟩ => ⟨S_, .f32⟩
  | .hbm, ⟨83, _⟩ => ⟨S8x2048x1, .f32⟩
  | .hbm, ⟨84, _⟩ => ⟨S8x2048x1, .f32⟩
  | .hbm, ⟨85, _⟩ => ⟨S8x2048x1, .f32⟩
  | .hbm, ⟨86, _⟩ => ⟨S8x2048x2048, .f32⟩
  | .hbm, ⟨87, _⟩ => ⟨S8x2048x2048, .f32⟩
  | .hbm, ⟨88, _⟩ => ⟨S1x1x2048, .f32⟩
  | .hbm, ⟨89, _⟩ => ⟨S8x2048x2048, .f32⟩
  | .hbm, ⟨90, _⟩ => ⟨S8x2048x2048, .f32⟩
  | .hbm, ⟨91, _⟩ => ⟨S_, .f32⟩
  | .hbm, ⟨92, _⟩ => ⟨S8x1x2048, .f32⟩
  | .hbm, ⟨93, _⟩ => ⟨S8x1x2048, .f32⟩
  | .hbm, ⟨94, _⟩ => ⟨S8x2048x2048, .f32⟩
  | .hbm, ⟨95, _⟩ => ⟨S8x2048x2048, .f32⟩
  | .hbm, ⟨96, _⟩ => ⟨S8x2048x2048, .f32⟩
  | .hbm, ⟨97, _⟩ => ⟨S8x2048x2048, .f32⟩
  | .hbm, ⟨98, _⟩ => ⟨S8x2048x2048, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_1 : Ref sig .tc := ⟨.hbm, 57, rfl⟩
abbrev main_v48 : Ref sig .tc := ⟨.hbm, 58, rfl⟩
abbrev main_v49 : Ref sig .tc := ⟨.hbm, 59, rfl⟩
abbrev main_cst_2 : Ref sig .tc := ⟨.hbm, 60, rfl⟩
abbrev main_v50 : Ref sig .tc := ⟨.hbm, 61, rfl⟩
abbrev main_v51 : Ref sig .tc := ⟨.hbm, 62, rfl⟩
abbrev main_cst_3 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_4 : Ref sig .tc := ⟨.hbm, 76, rfl⟩
abbrev main_v64 : Ref sig .tc := ⟨.hbm, 77, rfl⟩
abbrev main_v65 : Ref sig .tc := ⟨.hbm, 78, rfl⟩
abbrev main_cst_5 : Ref sig .tc := ⟨.hbm, 79, rfl⟩
abbrev main_v66 : Ref sig .tc := ⟨.hbm, 80, rfl⟩
abbrev main_v67 : Ref sig .tc := ⟨.hbm, 81, rfl⟩
abbrev main_cst_6 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst_7 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩

abbrev nD : Nat := 1
abbrev τ : Topo := Topo.v7x

variable {F : FTy → Type} [FloatOps F]
-- ==== Ffn.lean ====
abbrev S8x2048x2048 : Shape := ⟨3, ![8, 2048, 2048]⟩
abbrev S16x6x2048 : Shape := ⟨3, ![16, 6, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S1x11264 : Shape := ⟨2, ![1, 11264]⟩
abbrev S1x2048 : Shape := ⟨2, ![1, 2048]⟩
abbrev S2048x512 : Shape := ⟨2, ![2048, 512]⟩
abbrev S3x512 : Shape := ⟨2, ![3, 512]⟩
abbrev S1x512 : Shape := ⟨2, ![1, 512]⟩
abbrev S512x2048 : Shape := ⟨2, ![512, 2048]⟩
abbrev S1x6x2048 : Shape := ⟨3, ![1, 6, 2048]⟩
abbrev S2x1056x2048 : Shape := ⟨3, ![2, 1056, 2048]⟩
abbrev S1024x2048 : Shape := ⟨2, ![1024, 2048]⟩
abbrev S2 : Shape := ⟨1, ![2]⟩
abbrev S1 : Shape := ⟨1, ![1]⟩
abbrev S_ : Shape := ⟨0, ![]⟩
abbrev S1x1040x2048 : Shape := ⟨3, ![1, 1040, 2048]⟩
abbrev S1040x2048 : Shape := ⟨2, ![1040, 2048]⟩
abbrev S16x2048 : Shape := ⟨2, ![16, 2048]⟩
abbrev S1x16x2048 : Shape := ⟨3, ![1, 16, 2048]⟩
abbrev S1x1024x2048 : Shape := ⟨3, ![1, 1024, 2048]⟩
abbrev S1x1056x2048 : Shape := ⟨3, ![1, 1056, 2048]⟩
abbrev S1056x2048 : Shape := ⟨2, ![1056, 2048]⟩
abbrev S1056x512 : Shape := ⟨2, ![1056, 512]⟩
abbrev S1024x512 : Shape := ⟨2, ![1024, 512]⟩
abbrev S1x1x2048 : Shape := ⟨3, ![1, 1, 2048]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩

abbrev nBuf : Space → Nat
  | .hbm => 11
  | .vmem => 20
  | .smem => 0
  | _ => 0

abbrev bufTy : (tb : Table) → Fin (tcTables nBuf tb) → BufTy
  | .hbm, ⟨0, _⟩ => ⟨S8x2048x2048, .bf16⟩
  | .hbm, ⟨1, _⟩ => ⟨S8x2048x2048, .f32⟩
  | .hbm, ⟨2, _⟩ => ⟨S16x6x2048, .f32⟩
  | .hbm, ⟨3, _⟩ => ⟨S2048, .f32⟩
  | .hbm, ⟨4, _⟩ => ⟨S2048x11264, .f32⟩
  | .hbm, ⟨5, _⟩ => ⟨S3x11264, .f32⟩
  | .hbm, ⟨6, _⟩ => ⟨S11264, .f32⟩
  | .hbm, ⟨7, _⟩ => ⟨S5632x2048, .f32⟩
  | .hbm, ⟨8, _⟩ => ⟨S1x11264, .f32⟩
  | .hbm, ⟨9, _⟩ => ⟨S1x2048, .f32⟩
  | .hbm, ⟨10, _⟩ => ⟨S8x2048x2048, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S3x512, .f32⟩
  | .local _ .vmem, ⟨5, _⟩ => ⟨S3x512, .f32⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x2048, .f32⟩
  | .local _ .vmem, ⟨13, _⟩ => ⟨S512x2048, .f32⟩
  | .local _ .vmem, ⟨14, _⟩ => ⟨S1x6x2048, .f32⟩
  | .local _ .vmem, ⟨15, _⟩ => ⟨S1x6x2048, .f32⟩
  | .local _ .vmem, ⟨16, _⟩ => ⟨S1x2048, .f32⟩
  | .local _ .vmem, ⟨17, _⟩ => ⟨S2x1056x2048, .bf16⟩
  | .local _ .vmem, ⟨18, _⟩ => ⟨S1024x2048, .f32⟩
  | .local _ .vmem, ⟨19, _⟩ => ⟨S1024x2048, .f32⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨3, ![8, 2, 11], ![false, false, false]⟩

def k0_cond1 (i : grid0.Coords) : BitVec 1 :=
  let arg2 : BitVec 32 := BitVec.ofNat 32 (i 2).val
  let c0_i32_4 : BitVec 32 := 0#32
  let v12 : BitVec 1 := Scalar.cmpi .eq arg2 c0_i32_4
  let v13 : BitVec 32 := Scalar.extui v12
  let c0_i32_5 : BitVec 32 := 0#32
  let v14 : BitVec 1 := Scalar.cmpi .ne v13 c0_i32_5
  v14

def k0_cond2 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32_14 : BitVec 32 := 0#32
  let v29 : BitVec 1 := Scalar.cmpi .eq v1 c0_i32_14
  let v30 : BitVec 32 := Scalar.extui v29
  let c0_i32_15 : BitVec 32 := 0#32
  let v31 : BitVec 1 := Scalar.cmpi .ne v30 c0_i32_15
  v31

def k0_cond3 (i : grid0.Coords) : BitVec 1 :=
  let arg1 : BitVec 32 := BitVec.ofNat 32 (i 1).val
  let c0_i32_24 : BitVec 32 := 0#32
  let v45 : BitVec 1 := Scalar.cmpi .eq arg1 c0_i32_24
  let v46 : BitVec 32 := Scalar.extui v45
  let c0_i32_25 : BitVec 32 := 0#32
  let v47 : BitVec 1 := Scalar.cmpi .ne v46 c0_i32_25
  v47

def k0_off1 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  ![v11.toNat]
def k0_off2 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c16_i32 : BitVec 32 := 16#32
  let c0_i32_28 : BitVec 32 := 0#32
  ![v11.toNat, 16, 0]
def k0_off3 (i : grid0.Coords) : Fin 3 → Nat :=
  let arg0 : BitVec 32 := BitVec.ofNat 32 (i 0).val
  let c0_i32_29 : BitVec 32 := 0#32
  let c0_i32_30 : BitVec 32 := 0#32
  ![arg0.toNat, 0, 0]
def k0_cond4 (i : grid0.Coords) : BitVec 1 :=
  let arg1 : BitVec 32 := BitVec.ofNat 32 (i 1).val
  let c1_i32_26 : BitVec 32 := 1#32
  let v48 : BitVec 1 := Scalar.cmpi .eq arg1 c1_i32_26
  let v49 : BitVec 32 := Scalar.extui v48
  let c0_i32_27 : BitVec 32 := 0#32
  let v50 : BitVec 1 := Scalar.cmpi .ne v49 c0_i32_27
  v50

def k0_off4 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  ![v11.toNat]
def k0_off5 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_28 : BitVec 32 := 0#32
  let c0_i32_29 : BitVec 32 := 0#32
  ![v11.toNat, 0, 0]
def k0_off6 (i : grid0.Coords) : Fin 3 → Nat :=
  let arg0 : BitVec 32 := BitVec.ofNat 32 (i 0).val
  let c1008_i32 : BitVec 32 := 1008#32
  let c0_i32_30 : BitVec 32 := 0#32
  ![arg0.toNat, 1008, 0]
def k0_cond5 (i : grid0.Coords) : BitVec 1 :=
  let arg1 : BitVec 32 := BitVec.ofNat 32 (i 1).val
  let c0_i32_16 : BitVec 32 := 0#32
  let v32 : BitVec 1 := Scalar.cmpi .eq arg1 c0_i32_16
  let v33 : BitVec 32 := Scalar.extui v32
  let c0_i32_17 : BitVec 32 := 0#32
  let v34 : BitVec 1 := Scalar.cmpi .ne v33 c0_i32_17
  v34

def k0_off7 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  ![v11.toNat]
def k0_off8 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c16_i32 : BitVec 32 := 16#32
  let c0_i32_24 : BitVec 32 := 0#32
  ![v11.toNat, 16, 0]
def k0_off9 (i : grid0.Coords) : Fin 3 → Nat :=
  let arg0 : BitVec 32 := BitVec.ofNat 32 (i 0).val
  let c0_i32_25 : BitVec 32 := 0#32
  let c0_i32_26 : BitVec 32 := 0#32
  ![arg0.toNat, 0, 0]
def k0_cond6 (i : grid0.Coords) : BitVec 1 :=
  let arg1 : BitVec 32 := BitVec.ofNat 32 (i 1).val
  let c1_i32_18 : BitVec 32 := 1#32
  let v35 : BitVec 1 := Scalar.cmpi .eq arg1 c1_i32_18
  let v36 : BitVec 32 := Scalar.extui v35
  let c0_i32_19 : BitVec 32 := 0#32
  let v37 : BitVec 1 := Scalar.cmpi .ne v36 c0_i32_19
  v37

def k0_off10 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  ![v11.toNat]
def k0_off11 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_24 : BitVec 32 := 0#32
  let c0_i32_25 : BitVec 32 := 0#32
  ![v11.toNat, 0, 0]
def k0_off12 (i : grid0.Coords) : Fin 3 → Nat :=
  let arg0 : BitVec 32 := BitVec.ofNat 32 (i 0).val
  let c1008_i32 : BitVec 32 := 1008#32
  let c0_i32_26 : BitVec 32 := 0#32
  ![arg0.toNat, 1008, 0]
def k0_cond7 (i : grid0.Coords) : BitVec 1 :=
  let arg1 : BitVec 32 := BitVec.ofNat 32 (i 1).val
  let c0_i32_20 : BitVec 32 := 0#32
  let v39 : BitVec 1 := Scalar.cmpi .eq arg1 c0_i32_20
  let v40 : BitVec 32 := Scalar.extui v39
  let c0_i32_21 : BitVec 32 := 0#32
  let v41 : BitVec 1 := Scalar.cmpi .ne v40 c0_i32_21
  v41

def k0_off13 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v45 : Index := Scalar.indexCast v11
  let c0 : Index := 0#32
  let c0_24 : Index := 0#32
  ![v45.toNat, 0, 0]
def k0_cond8 (i : grid0.Coords) : BitVec 1 :=
  let arg1 : BitVec 32 := BitVec.ofNat 32 (i 1).val
  let c1_i32_22 : BitVec 32 := 1#32
  let v42 : BitVec 1 := Scalar.cmpi .eq arg1 c1_i32_22
  let v43 : BitVec 32 := Scalar.extui v42
  let c0_i32_23 : BitVec 32 := 0#32
  let v44 : BitVec 1 := Scalar.cmpi .ne v43 c0_i32_23
  v44

def k0_off14 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v45 : Index := Scalar.indexCast v11
  let c1040 : Index := 1040#32
  let c0 : Index := 0#32
  ![v45.toNat, 1040, 0]
def k0_cond9 (i : grid0.Coords) : BitVec 1 :=
  let arg2 : BitVec 32 := BitVec.ofNat 32 (i 2).val
  let c1_i32_6 : BitVec 32 := 1#32
  let v15 : BitVec 1 := Scalar.cmpi .eq arg2 c1_i32_6
  let v16 : BitVec 32 := Scalar.extui v15
  let c0_i32_7 : BitVec 32 := 0#32
  let v17 : BitVec 1 := Scalar.cmpi .ne v16 c0_i32_7
  v17

def k0_cond10 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c15_i32 : BitVec 32 := 15#32
  let v31 : BitVec 1 := Scalar.cmpi .slt v1 c15_i32
  let v32 : BitVec 32 := Scalar.extui v31
  let c0_i32_16 : BitVec 32 := 0#32
  let v33 : BitVec 1 := Scalar.cmpi .ne v32 c0_i32_16
  v33

def k0_cond11 (i : grid0.Coords) : BitVec 1 :=
  let arg1 : BitVec 32 := BitVec.ofNat 32 (i 1).val
  let c1_i32_14 : BitVec 32 := 1#32
  let v29 : BitVec 32 := Scalar.addi arg1 c1_i32_14
  let c2_i32_15 : BitVec 32 := 2#32
  let v30 : BitVec 1 := Scalar.cmpi .slt v29 c2_i32_15
  let c1_i32_23 : BitVec 32 := 1#32
  let v46 : BitVec 32 := Scalar.addi arg1 c1_i32_23
  let c0_i32_24 : BitVec 32 := 0#32
  let v47 : BitVec 32 := Scalar.select v30 v46 c0_i32_24
  let c0_i32_26 : BitVec 32 := 0#32
  let v49 : BitVec 1 := Scalar.cmpi .eq v47 c0_i32_26
  let v50 : BitVec 32 := Scalar.extui v49
  let c0_i32_27 : BitVec 32 := 0#32
  let v51 : BitVec 1 := Scalar.cmpi .ne v50 c0_i32_27
  v51

def k0_off15 (i : grid0.Coords) : Fin 1 → Nat :=
  let c1_i32_25 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v48 : BitVec 32 := Scalar.subi c1_i32_25 v11
  ![v48.toNat]
def k0_off16 (i : grid0.Coords) : Fin 3 → Nat :=
  let c1_i32_25 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v48 : BitVec 32 := Scalar.subi c1_i32_25 v11
  let c16_i32 : BitVec 32 := 16#32
  let c0_i32_30 : BitVec 32 := 0#32
  ![v48.toNat, 16, 0]
def k0_off17 (i : grid0.Coords) : Fin 3 → Nat :=
  let arg1 : BitVec 32 := BitVec.ofNat 32 (i 1).val
  let c1_i32_14 : BitVec 32 := 1#32
  let v29 : BitVec 32 := Scalar.addi arg1 c1_i32_14
  let c2_i32_15 : BitVec 32 := 2#32
  let v30 : BitVec 1 := Scalar.cmpi .slt v29 c2_i32_15
  let arg0 : BitVec 32 := BitVec.ofNat 32 (i 0).val
  let c1_i32_22 : BitVec 32 := 1#32
  let v44 : BitVec 32 := Scalar.addi arg0 c1_i32_22
  let v45 : BitVec 32 := Scalar.select v30 arg0 v44
  let c0_i32_31 : BitVec 32 := 0#32
  let c0_i32_32 : BitVec 32 := 0#32
  ![v45.toNat, 0, 0]
def k0_cond12 (i : grid0.Coords) : BitVec 1 :=
  let arg1 : BitVec 32 := BitVec.ofNat 32 (i 1).val
  let c1_i32_14 : BitVec 32 := 1#32
  let v29 : BitVec 32 := Scalar.addi arg1 c1_i32_14
  let c2_i32_15 : BitVec 32 := 2#32
  let v30 : BitVec 1 := Scalar.cmpi .slt v29 c2_i32_15
  let c1_i32_23 : BitVec 32 := 1#32
  let v46 : BitVec 32 := Scalar.addi arg1 c1_i32_23
  let c0_i32_24 : BitVec 32 := 0#32
  let v47 : BitVec 32 := Scalar.select v30 v46 c0_i32_24
  let c1_i32_28 : BitVec 32 := 1#32
  let v52 : BitVec 1 := Scalar.cmpi .eq v47 c1_i32_28
  let v53 : BitVec 32 := Scalar.extui v52
  let c0_i32_29 : BitVec 32 := 0#32
  let v54 : BitVec 1 := Scalar.cmpi .ne v53 c0_i32_29
  v54

def k0_off18 (i : grid0.Coords) : Fin 1 → Nat :=
  let c1_i32_25 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v48 : BitVec 32 := Scalar.subi c1_i32_25 v11
  ![v48.toNat]
def k0_off19 (i : grid0.Coords) : Fin 3 → Nat :=
  let c1_i32_25 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v48 : BitVec 32 := Scalar.subi c1_i32_25 v11
  let c0_i32_30 : BitVec 32 := 0#32
  let c0_i32_31 : BitVec 32 := 0#32
  ![v48.toNat, 0, 0]
def k0_off20 (i : grid0.Coords) : Fin 3 → Nat :=
  let arg1 : BitVec 32 := BitVec.ofNat 32 (i 1).val
  let c1_i32_14 : BitVec 32 := 1#32
  let v29 : BitVec 32 := Scalar.addi arg1 c1_i32_14
  let c2_i32_15 : BitVec 32 := 2#32
  let v30 : BitVec 1 := Scalar.cmpi .slt v29 c2_i32_15
  let arg0 : BitVec 32 := BitVec.ofNat 32 (i 0).val
  let c1_i32_22 : BitVec 32 := 1#32
  let v44 : BitVec 32 := Scalar.addi arg0 c1_i32_22
  let v45 : BitVec 32 := Scalar.select v30 arg0 v44
  let c1008_i32 : BitVec 32 := 1008#32
  let c0_i32_32 : BitVec 32 := 0#32
  ![v45.toNat, 1008, 0]
def k0_cond13 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32_18 : BitVec 32 := 0#32
  let v35 : BitVec 1 := Scalar.cmpi .sgt v1 c0_i32_18
  let v36 : BitVec 32 := Scalar.extui v35
  let c0_i32_19 : BitVec 32 := 0#32
  let v37 : BitVec 1 := Scalar.cmpi .ne v36 c0_i32_19
  v37

def k0_mult1 (i : grid0.Coords) : BitVec 32 :=
  let arg1 : BitVec 32 := BitVec.ofNat 32 (i 1).val
  let c0_i32_17 : BitVec 32 := 0#32
  let v34 : BitVec 1 := Scalar.cmpi .sgt arg1 c0_i32_17
  let c1_i32_23 : BitVec 32 := 1#32
  let v46 : BitVec 32 := Scalar.subi arg1 c1_i32_23
  let c1_i32_24 : BitVec 32 := 1#32
  let v47 : BitVec 32 := Scalar.select v34 v46 c1_i32_24
  let c1024_i32_25 : BitVec 32 := 1024#32
  let v48 : BitVec 32 := Scalar.muli v47 c1024_i32_25
  v48
def k0_off21 (i : grid0.Coords) : Fin 3 → Nat :=
  let arg1 : BitVec 32 := BitVec.ofNat 32 (i 1).val
  let c0_i32_17 : BitVec 32 := 0#32
  let v34 : BitVec 1 := Scalar.cmpi .sgt arg1 c0_i32_17
  let arg0 : BitVec 32 := BitVec.ofNat 32 (i 0).val
  let c1_i32_22 : BitVec 32 := 1#32
  let v44 : BitVec 32 := Scalar.subi arg0 c1_i32_22
  let v45 : BitVec 32 := Scalar.select v34 arg0 v44
  let c1_i32_23 : BitVec 32 := 1#32
  let v46 : BitVec 32 := Scalar.subi arg1 c1_i32_23
  let c1_i32_24 : BitVec 32 := 1#32
  let v47 : BitVec 32 := Scalar.select v34 v46 c1_i32_24
  let c1024_i32_25 : BitVec 32 := 1024#32
  let v48 : BitVec 32 := Scalar.muli v47 c1024_i32_25
  let v49 : BitVec 32 := v48
  let c0_i32_27 : BitVec 32 := 0#32
  ![v45.toNat, v49.toNat, 0]
def k0_mult2 (i : grid0.Coords) : BitVec 32 :=
  let arg1 : BitVec 32 := BitVec.ofNat 32 (i 1).val
  let c1024_i32 : BitVec 32 := 1024#32
  let v38 : BitVec 32 := Scalar.muli arg1 c1024_i32
  v38
def k0_off22 (i : grid0.Coords) : Fin 3 → Nat :=
  let arg0 : BitVec 32 := BitVec.ofNat 32 (i 0).val
  let arg1 : BitVec 32 := BitVec.ofNat 32 (i 1).val
  let c1024_i32 : BitVec 32 := 1024#32
  let v38 : BitVec 32 := Scalar.muli arg1 c1024_i32
  let v39 : BitVec 32 := v38
  let c0_i32_21 : BitVec 32 := 0#32
  ![arg0.toNat, v39.toNat, 0]
def k0_cond14 (i : grid0.Coords) : BitVec 1 :=
  let arg2 : BitVec 32 := BitVec.ofNat 32 (i 2).val
  let c0_i32_8 : BitVec 32 := 0#32
  let v18 : BitVec 1 := Scalar.cmpi .eq arg2 c0_i32_8
  let v19 : BitVec 32 := Scalar.extui v18
  let c0_i32_9 : BitVec 32 := 0#32
  let v20 : BitVec 1 := Scalar.cmpi .ne v19 c0_i32_9
  v20

def k0_off23 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v29 : Index := Scalar.indexCast v11
  let c0 : Index := 0#32
  let c0_14 : Index := 0#32
  ![v29.toNat, 0, 0]
def k0_cond15 (i : grid0.Coords) : BitVec 1 :=
  let arg2 : BitVec 32 := BitVec.ofNat 32 (i 2).val
  let c0_i32_10 : BitVec 32 := 0#32
  let v21 : BitVec 1 := Scalar.cmpi .sgt arg2 c0_i32_10
  let c10_i32 : BitVec 32 := 10#32
  let v22 : BitVec 1 := Scalar.cmpi .slt arg2 c10_i32
  let v23 : BitVec 1 := Scalar.andi v21 v22
  let v24 : BitVec 32 := Scalar.extui v23
  let c0_i32_11 : BitVec 32 := 0#32
  let v25 : BitVec 1 := Scalar.cmpi .ne v24 c0_i32_11
  v25

def k0_off24 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v30 : Index := Scalar.indexCast v11
  let c0_15 : Index := 0#32
  let c0_16 : Index := 0#32
  ![v30.toNat, 0, 0]
def k0_cond16 (i : grid0.Coords) : BitVec 1 :=
  let arg2 : BitVec 32 := BitVec.ofNat 32 (i 2).val
  let c10_i32_12 : BitVec 32 := 10#32
  let v26 : BitVec 1 := Scalar.cmpi .eq arg2 c10_i32_12
  let v27 : BitVec 32 := Scalar.extui v26
  let c0_i32_13 : BitVec 32 := 0#32
  let v28 : BitVec 1 := Scalar.cmpi .ne v27 c0_i32_13
  v28

def k0_off25 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v29 : Index := Scalar.indexCast v11
  let c0 : Index := 0#32
  let c0_14 : Index := 0#32
  ![v29.toNat, 0, 0]
def k0_mult3 (i : grid0.Coords) : BitVec 32 :=
  let arg1 : BitVec 32 := BitVec.ofNat 32 (i 1).val
  let c1024_i32 : BitVec 32 := 1024#32
  let v102 : BitVec 32 := Scalar.muli arg1 c1024_i32
  v102
def k0_off26 (i : grid0.Coords) : Fin 3 → Nat :=
  let arg0 : BitVec 32 := BitVec.ofNat 32 (i 0).val
  let arg1 : BitVec 32 := BitVec.ofNat 32 (i 1).val
  let c1024_i32 : BitVec 32 := 1024#32
  let v102 : BitVec 32 := Scalar.muli arg1 c1024_i32
  let v103 : BitVec 32 := v102
  let c0_i32_48 : BitVec 32 := 0#32
  ![arg0.toNat, v103.toNat, 0]
def k0_mult4 (i : grid0.Coords) : BitVec 32 :=
  let arg1 : BitVec 32 := BitVec.ofNat 32 (i 1).val
  let c1024_i32_90 : BitVec 32 := 1024#32
  let v197 : BitVec 32 := Scalar.muli arg1 c1024_i32_90
  v197
def k0_cond17 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c15_i32 : BitVec 32 := 15#32
  let v203 : BitVec 1 := Scalar.cmpi .eq v1 c15_i32
  let v204 : BitVec 32 := Scalar.extui v203
  let c0_i32_93 : BitVec 32 := 0#32
  let v205 : BitVec 1 := Scalar.cmpi .ne v204 c0_i32_93
  v205

def k0_mult5 (i : grid0.Coords) : BitVec 32 :=
  let arg1 : BitVec 32 := BitVec.ofNat 32 (i 1).val
  let c1024_i32_94 : BitVec 32 := 1024#32
  let v206 : BitVec 32 := Scalar.muli arg1 c1024_i32_94
  v206
def k0_off27 (i : grid0.Coords) : Fin 3 → Nat :=
  let arg0 : BitVec 32 := BitVec.ofNat 32 (i 0).val
  let arg1 : BitVec 32 := BitVec.ofNat 32 (i 1).val
  let c1024_i32_94 : BitVec 32 := 1024#32
  let v206 : BitVec 32 := Scalar.muli arg1 c1024_i32_94
  let v207 : BitVec 32 := v206
  let c0_i32_96 : BitVec 32 := 0#32
  ![arg0.toNat, v207.toNat, 0]
def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg2 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg2 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg2 c11_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x6x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== FfnRefIdeal.lean ====
abbrev S8x2048x2048 : Shape := ⟨3, ![8, 2048, 2048]⟩
abbrev S16x6x2048 : Shape := ⟨3, ![16, 6, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S8x1x2048 : Shape := ⟨3, ![8, 1, 2048]⟩
abbrev S8x2048 : Shape := ⟨2, ![8, 2048]⟩
abbrev S8x2048x11264 : Shape := ⟨3, ![8, 2048, 11264]⟩
abbrev S_ : Shape := ⟨0, ![]⟩
abbrev S8x2050x11264 : Shape := ⟨3, ![8, 2050, 11264]⟩
abbrev S1x11264 : Shape := ⟨2, ![1, 11264]⟩
abbrev S1x1x11264 : Shape := ⟨3, ![1, 1, 11264]⟩
abbrev S8x2048x5632 : Shape := ⟨3, ![8, 2048, 5632]⟩
abbrev S8x2048x1 : Shape := ⟨3, ![8, 2048, 1]⟩
abbrev S1x1x2048 : Shape := ⟨3, ![1, 1, 2048]⟩

abbrev nBuf : Space → Nat
  | .hbm => 79
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S8x2048x2048, .f32⟩
  | .hbm, ⟨2, _⟩ => ⟨S16x6x2048, .f32⟩
  | .hbm, ⟨3, _⟩ => ⟨S2048, .f32⟩
  | .hbm, ⟨4, _⟩ => ⟨S2048x11264, .f32⟩
  | .hbm, ⟨5, _⟩ => ⟨S3x11264, .f32⟩
  | .hbm, ⟨6, _⟩ => ⟨S11264, .f32⟩
  | .hbm, ⟨7, _⟩ => ⟨S5632x2048, .f32⟩
  | .hbm, ⟨8, _⟩ => ⟨S8x1x2048, .f32⟩
  | .hbm, ⟨9, _⟩ => ⟨S8x2048, .f32⟩
  | .hbm, ⟨10, _⟩ => ⟨S8x1x2048, .f32⟩
  | .hbm, ⟨11, _⟩ => ⟨S8x2048x2048, .f32⟩
  | .hbm, ⟨12, _⟩ => ⟨S8x2048x11264, .f32⟩
  | .hbm, ⟨13, _⟩ => ⟨S_, .i32⟩
  | .hbm, ⟨14, _⟩ => ⟨S_, .f32⟩
  | .hbm, ⟨15, _⟩ => ⟨S8x2050x11264, .f32⟩
  | .hbm, ⟨16, _⟩ => ⟨S8x2048x11264, .f32⟩
  | .hbm, ⟨17, _⟩ => ⟨S1x11264, .f32⟩
  | .hbm, ⟨18, _⟩ => ⟨S11264, .f32⟩
  | .hbm, ⟨19, _⟩ => ⟨S1x1x11264, .f32⟩
  | .hbm, ⟨20, _⟩ => ⟨S8x2048x11264, .f32⟩
  | .hbm, ⟨21, _⟩ => ⟨S8x2048x11264, .f32⟩
  | .hbm, ⟨22, _⟩ => ⟨S1x1x11264, .f32⟩
  | .hbm, ⟨23, _⟩ => ⟨S8x2048x11264, .f32⟩
  | .hbm, ⟨24, _⟩ => ⟨S8x2048x11264, .f32⟩
  | .hbm, ⟨25, _⟩ => ⟨S8x2048x11264, .f32⟩
  | .hbm, ⟨26, _⟩ => ⟨S1x11264, .f32⟩
  | .hbm, ⟨27, _⟩ => ⟨S11264, .f32⟩
  | .hbm, ⟨28, _⟩ => ⟨S1x1x11264, .f32⟩
  | .hbm, ⟨29, _⟩ => ⟨S8x2048x11264, .f32⟩
  | .hbm, ⟨30, _⟩ => ⟨S8x2048x11264, .f32⟩
  | .hbm, ⟨31, _⟩ => ⟨S8x2048x11264, .f32⟩
  | .hbm, ⟨32, _⟩ => ⟨S8x2048x11264, .f32⟩
  | .hbm, ⟨33, _⟩ => ⟨S1x11264, .f32⟩
  | .hbm, ⟨34, _⟩ => ⟨S11264, .f32⟩
  | .hbm, ⟨35, _⟩ => ⟨S1x1x11264, .f32⟩
  | .hbm, ⟨36, _⟩ => ⟨S8x2048x11264, .f32⟩
  | .hbm, ⟨37, _⟩ => ⟨S8x2048x11264, .f32⟩
  | .hbm, ⟨38, _⟩ => ⟨S8x2048x11264, .f32⟩
  | .hbm, ⟨39, _⟩ => ⟨S8x2048x5632, .f32⟩
  | .hbm, ⟨40, _⟩ => ⟨S8x2048x5632, .f32⟩
  | .hbm, ⟨41, _⟩ => ⟨S8x2048x5632, .f32⟩
  | .hbm, ⟨42, _⟩ => ⟨S8x2048x5632, .f32⟩
  | .hbm, ⟨43, _⟩ => ⟨S_, .f32⟩
  | .hbm, ⟨44, _⟩ => ⟨S8x2048x5632, .f32⟩
  | .hbm, ⟨45, _⟩ => ⟨S8x2048x5632, .f32⟩
  | .hbm, ⟨46, _⟩ => ⟨S8x2048x5632, .f32⟩
  | .hbm, ⟨47, _⟩ => ⟨S_, .f32⟩
  | .hbm, ⟨48, _⟩ => ⟨S8x2048x5632, .f32⟩
  | .hbm, ⟨49, _⟩ => ⟨S8x2048x5632, .f32⟩
  | .hbm, ⟨50, _⟩ => ⟨S8x2048x5632, .f32⟩
  | .hbm, ⟨51, _⟩ => ⟨S_, .f32⟩
  | .hbm, ⟨52, _⟩ => ⟨S8x2048x5632, .f32⟩
  | .hbm, ⟨53, _⟩ => ⟨S8x2048x5632, .f32⟩
  | .hbm, ⟨54, _⟩ => ⟨S_, .f32⟩
  | .hbm, ⟨55, _⟩ => ⟨S8x2048x5632, .f32⟩
  | .hbm, ⟨56, _⟩ => ⟨S8x2048x5632, .f32⟩
  | .hbm, ⟨57, _⟩ => ⟨S8x2048x5632, .f32⟩
  | .hbm, ⟨58, _⟩ => ⟨S8x2048x5632, .f32⟩
  | .hbm, ⟨59, _⟩ => ⟨S8x2048x2048, .f32⟩
  | .hbm, ⟨60, _⟩ => ⟨S8x2048x2048, .f32⟩
  | .hbm, ⟨61, _⟩ => ⟨S_, .f32⟩
  | .hbm, ⟨62, _⟩ => ⟨S8x2048, .f32⟩
  | .hbm, ⟨63, _⟩ => ⟨S8x2048x1, .f32⟩
  | .hbm, ⟨64, _⟩ => ⟨S_, .f32⟩
  | .hbm, ⟨65, _⟩ => ⟨S8x2048x1, .f32⟩
  | .hbm, ⟨66, _⟩ => ⟨S8x2048x1, .f32⟩
  | .hbm, ⟨67, _⟩ => ⟨S_, .f32⟩
  | .hbm, ⟨68, _⟩ => ⟨S8x2048x1, .f32⟩
  | .hbm, ⟨69, _⟩ => ⟨S8x2048x1, .f32⟩
  | .hbm, ⟨70, _⟩ => ⟨S8x2048x1, .f32⟩
  | .hbm, ⟨71, _⟩ => ⟨S8x2048x2048, .f32⟩
  | .hbm, ⟨72, _⟩ => ⟨S8x2048x2048, .f32⟩
  | .hbm, ⟨73, _⟩ => ⟨S1x1x2048, .f32⟩
  | .hbm, ⟨74, _⟩ => ⟨S8x2048x2048, .f32⟩
  | .hbm, ⟨75, _⟩ => ⟨S8x2048x2048, .f32⟩
  | .hbm, ⟨76, _⟩ => ⟨S8x2048x2048, .f32⟩
  | .hbm, ⟨77, _⟩ => ⟨S8x2048x2048, .f32⟩
  | .hbm, ⟨78, _⟩ => ⟨S8x2048x2048, .f32⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_0 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_1 : Ref sig .tc := ⟨.hbm, 51, rfl⟩
abbrev main_v39 : Ref sig .tc := ⟨.hbm, 52, rfl⟩
abbrev main_v40 : Ref sig .tc := ⟨.hbm, 53, rfl⟩
abbrev main_cst_2 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_3 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_cst_5 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩

abbrev nD : Nat := 1
abbrev τ : Topo := Topo.v7x

variable {F : FTy → Type} [FloatOps F]
-- ==== InProj.lean ====
abbrev S8x2048x2048 : Shape := ⟨3, ![8, 2048, 2048]⟩
abbrev S16x6x2048 : Shape := ⟨3, ![16, 6, 2048]⟩
abbrev S2048 : Shape := ⟨1, ![2048]⟩
abbrev S2048x3072 : Shape := ⟨2, ![2048, 3072]⟩
abbrev S512 : Shape := ⟨1, ![512]⟩
abbrev S_ : Shape := ⟨0, ![]⟩
abbrev S32 : Shape := ⟨1, ![32]⟩
abbrev S32x1 : Shape := ⟨2, ![32, 1]⟩
abbrev S1x512 : Shape := ⟨2, ![1, 512]⟩
abbrev S32x512 : Shape := ⟨2, ![32, 512]⟩
abbrev S32x1024 : Shape := ⟨2, ![32, 1024]⟩
abbrev S64 : Shape := ⟨1, ![64]⟩
abbrev S64x1 : Shape := ⟨2, ![64, 1]⟩
abbrev S64x512 : Shape := ⟨2, ![64, 512]⟩
abbrev S64x1024 : Shape := ⟨2, ![64, 1024]⟩
abbrev S1x2048 : Shape := ⟨2, ![1, 2048]⟩
abbrev S8x2048x1024 : Shape := ⟨3, ![8, 2048, 1024]⟩
abbrev S1x1024x2048 : Shape := ⟨3, ![1, 1024, 2048]⟩
abbrev S16x1024 : Shape := ⟨2, ![16, 1024]⟩
abbrev S1x6x2048 : Shape := ⟨3, ![1, 6, 2048]⟩
abbrev S1x1024x1024 : Shape := ⟨3, ![1, 1024, 1024]⟩
abbrev S1x1024 : Shape := ⟨2, ![1, 1024]⟩
abbrev S1024x1024 : Shape := ⟨2, ![1024, 1024]⟩
abbrev S1024x2048 : Shape := ⟨2, ![1024, 2048]⟩
abbrev S1x1x2048 : Shape := ⟨3, ![1, 1, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S2048x1024 : Shape := ⟨2, ![2048, 1024]⟩
abbrev S256x1024 : Shape := ⟨2, ![256, 1024]⟩
abbrev S1x256x1024 : Shape := ⟨3, ![1, 256, 1024]⟩

abbrev nBuf : Space → Nat
  | .hbm => 35
  | .vmem => 15
  | .smem => 0
  | _ => 0

abbrev bufTy : (tb : Table) → Fin (tcTables nBuf tb) → BufTy
  | .hbm, ⟨0, _⟩ => ⟨S8x2048x2048, .f32⟩
  | .hbm, ⟨1, _⟩ => ⟨S16x6x2048, .f32⟩
  | .hbm, ⟨2, _⟩ => ⟨S2048, .f32⟩
  | .hbm, ⟨3, _⟩ => ⟨S2048x3072, .f32⟩
  | .hbm, ⟨4, _⟩ => ⟨S2048x3072, .bf16⟩
  | .hbm, ⟨5, _⟩ => ⟨S512, .f32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S32, .f32⟩
  | .hbm, ⟨14, _⟩ => ⟨S32x1, .f32⟩
  | .hbm, ⟨15, _⟩ => ⟨S1x512, .f32⟩
  | .hbm, ⟨16, _⟩ => ⟨S32x512, .f32⟩
  | .hbm, ⟨17, _⟩ => ⟨S32x512, .f32⟩
  | .hbm, ⟨18, _⟩ => ⟨S32x512, .f32⟩
  | .hbm, ⟨19, _⟩ => ⟨S32x512, .f32⟩
  | .hbm, ⟨20, _⟩ => ⟨S32x512, .f32⟩
  | .hbm, ⟨21, _⟩ => ⟨S32x1024, .f32⟩
  | .hbm, ⟨22, _⟩ => ⟨S64, .f32⟩
  | .hbm, ⟨23, _⟩ => ⟨S64x1, .f32⟩
  | .hbm, ⟨24, _⟩ => ⟨S1x512, .f32⟩
  | .hbm, ⟨25, _⟩ => ⟨S64x512, .f32⟩
  | .hbm, ⟨26, _⟩ => ⟨S64x512, .f32⟩
  | .hbm, ⟨27, _⟩ => ⟨S64x512, .f32⟩
  | .hbm, ⟨28, _⟩ => ⟨S64x512, .f32⟩
  | .hbm, ⟨29, _⟩ => ⟨S64x512, .f32⟩
  | .hbm, ⟨30, _⟩ => ⟨S64x1024, .f32⟩
  | .hbm, ⟨31, _⟩ => ⟨S1x2048, .f32⟩
  | .hbm, ⟨32, _⟩ => ⟨S8x2048x1024, .bf16⟩
  | .hbm, ⟨33, _⟩ => ⟨S8x2048x1024, .f32⟩
  | .hbm, ⟨34, _⟩ => ⟨S8x2048x1024, .f32⟩
  | .local _ .vmem, ⟨0, _⟩ => ⟨S1x1024x2048, .f32⟩
  | .local _ .vmem, ⟨1, _⟩ => ⟨S1x1024x2048, .f32⟩
  | .local _ .vmem, ⟨2, _⟩ => ⟨S16x1024, .f32⟩
  | .local _ .vmem, ⟨3, _⟩ => ⟨S16x1024, .f32⟩
  | .local _ .vmem, ⟨4, _⟩ => ⟨S64x1024, .f32⟩
  | .local _ .vmem, ⟨5, _⟩ => ⟨S1x6x2048, .f32⟩
  | .local _ .vmem, ⟨6, _⟩ => ⟨S1x6x2048, .f32⟩
  | .local _ .vmem, ⟨7, _⟩ => ⟨S1x2048, .f32⟩
  | .local _ .vmem, ⟨8, _⟩ => ⟨S2048x3072, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1x1024x1024, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26_0 : Ref sig .tc := ⟨.hbm, 32, rfl⟩
abbrev main_v26_1 : Ref sig .tc := ⟨.hbm, 33, rfl⟩
abbrev main_v26_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== InProjRefIdeal.lean ====
abbrev S8x2048x2048 : Shape := ⟨3, ![8, 2048, 2048]⟩
abbrev S16x6x2048 : Shape := ⟨3, ![16, 6, 2048]⟩
abbrev S2048 : Shape := ⟨1, ![2048]⟩
abbrev S2048x3072 : Shape := ⟨2, ![2048, 3072]⟩
abbrev S8x1x2048 : Shape := ⟨3, ![8, 1, 2048]⟩
abbrev S8x2048 : Shape := ⟨2, ![8, 2048]⟩
abbrev S32 : Shape := ⟨1, ![32]⟩
abbrev S32x64 : Shape := ⟨2, ![32, 64]⟩
abbrev S64 : Shape := ⟨1, ![64]⟩
abbrev S1x64 : Shape := ⟨2, ![1, 64]⟩
abbrev S512 : Shape := ⟨1, ![512]⟩
abbrev S_ : Shape := ⟨0, ![]⟩
abbrev S2048x1 : Shape := ⟨2, ![2048, 1]⟩
abbrev S1x512 : Shape := ⟨2, ![1, 512]⟩
abbrev S2048x512 : Shape := ⟨2, ![2048, 512]⟩
abbrev S2048x1024 : Shape := ⟨2, ![2048, 1024]⟩
abbrev S2048x2048 : Shape := ⟨2, ![2048, 2048]⟩
abbrev S1x2048x2048 : Shape := ⟨3, ![1, 2048, 2048]⟩
abbrev S8x2048x1 : Shape := ⟨3, ![8, 2048, 1]⟩
abbrev S1x1x2048 : Shape := ⟨3, ![1, 1, 2048]⟩
abbrev S8x2048x3072 : Shape := ⟨3, ![8, 2048, 3072]⟩
abbrev S8x2048x1024 : Shape := ⟨3, ![8, 2048, 1024]⟩

abbrev nBuf : Space → Nat
  | .hbm => 73
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S16x6x2048, .f32⟩
  | .hbm, ⟨2, _⟩ => ⟨S2048, .f32⟩
  | .hbm, ⟨3, _⟩ => ⟨S2048x3072, .f32⟩
  | .hbm, ⟨4, _⟩ => ⟨S8x1x2048, .f32⟩
  | .hbm, ⟨5, _⟩ => ⟨S8x2048, .f32⟩
  | .hbm, ⟨6, _⟩ => ⟨S8x1x2048, .f32⟩
  | .hbm, ⟨7, _⟩ => ⟨S8x1x2048, .f32⟩
  | .hbm, ⟨8, _⟩ => ⟨S8x2048, .f32⟩
  | .hbm, ⟨9, _⟩ => ⟨S8x1x2048, .f32⟩
  | .hbm, ⟨10, _⟩ => ⟨S32, .f32⟩
  | .hbm, ⟨11, _⟩ => ⟨S32x64, .f32⟩
  | .hbm, ⟨12, _⟩ => ⟨S2048, .f32⟩
  | .hbm, ⟨13, _⟩ => ⟨S64, .f32⟩
  | .hbm, ⟨14, _⟩ => ⟨S1x64, .f32⟩
  | .hbm, ⟨15, _⟩ => ⟨S32x64, .f32⟩
  | .hbm, ⟨16, _⟩ => ⟨S2048, .f32⟩
  | .hbm, ⟨17, _⟩ => ⟨S512, .f32⟩
  | .hbm, ⟨18, _⟩ => ⟨S512, .f32⟩
  | .hbm, ⟨19, _⟩ => ⟨S_, .f32⟩
  | .hbm, ⟨20, _⟩ => ⟨S512, .f32⟩
  | .hbm, ⟨21, _⟩ => ⟨S512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S2048x1, .f32⟩
  | .hbm, ⟨26, _⟩ => ⟨S1x512, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S2048x1024, .f32⟩
  | .hbm, ⟨33, _⟩ => ⟨S2048x1, .f32⟩
  | .hbm, ⟨34, _⟩ => ⟨S1x512, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S2048x1024, .f32⟩
  | .hbm, ⟨41, _⟩ => ⟨S2048x2048, .f32⟩
  | .hbm, ⟨42, _⟩ => ⟨S1x2048x2048, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S8x2048x1, .f32⟩
  | .hbm, ⟨56, _⟩ => ⟨S8x2048x2048, .f32⟩
  | .hbm, ⟨57, _⟩ => ⟨S8x2048x2048, .f32⟩
  | .hbm, ⟨58, _⟩ => ⟨S1x1x2048, .f32⟩
  | .hbm, ⟨59, _⟩ => ⟨S8x2048x2048, .f32⟩
  | .hbm, ⟨60, _⟩ => ⟨S8x2048x2048, .f32⟩
  | .hbm, ⟨61, _⟩ => ⟨S_, .f32⟩
  | .hbm, ⟨62, _⟩ => ⟨S8x1x2048, .f32⟩
  | .hbm, ⟨63, _⟩ => ⟨S8x1x2048, .f32⟩
  | .hbm, ⟨64, _⟩ => ⟨S8x2048x2048, .f32⟩
  | .hbm, ⟨65, _⟩ => ⟨S8x2048x2048, .f32⟩
  | .hbm, ⟨66, _⟩ => ⟨S8x2048x2048, .f32⟩
  | .hbm, ⟨67, _⟩ => ⟨S8x2048x2048, .f32⟩
  | .hbm, ⟨68, _⟩ => ⟨S8x2048x3072, .f32⟩
  | .hbm, ⟨69, _⟩ => ⟨S8x2048x1024, .f32⟩
  | .hbm, ⟨70, _⟩ => ⟨S8x2048x1024, .f32⟩
  | .hbm, ⟨71, _⟩ => ⟨S8x2048x1024, .f32⟩
  | .hbm, ⟨72, _⟩ => ⟨S8x2048x1024, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_1 : Ref sig .tc := ⟨.hbm, 46, rfl⟩
abbrev main_v40 : Ref sig .tc := ⟨.hbm, 47, rfl⟩
abbrev main_v41 : Ref sig .tc := ⟨.hbm, 48, rfl⟩
abbrev main_cst_2 : Ref sig .tc := ⟨.hbm, 49, rfl⟩
abbrev main_v42 : Ref sig .tc := ⟨.hbm, 50, rfl⟩
abbrev main_v43 : Ref sig .tc := ⟨.hbm, 51, rfl⟩
abbrev main_cst_3 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_4 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩

abbrev nD : Nat := 1
abbrev τ : Topo := Topo.v7x

variable {F : FTy → Type} [FloatOps F]
-- ==== InCtx.lean ====
abbrev S8x256x2048 : Shape := ⟨3, ![8, 256, 2048]⟩
abbrev S16x6x2048 : Shape := ⟨3, ![16, 6, 2048]⟩
abbrev S2048 : Shape := ⟨1, ![2048]⟩
abbrev S2048x3072 : Shape := ⟨2, ![2048, 3072]⟩
abbrev S1x2048x2048 : Shape := ⟨3, ![1, 2048, 2048]⟩
abbrev S1x2048 : Shape := ⟨2, ![1, 2048]⟩
abbrev S1x2048x1024 : Shape := ⟨3, ![1, 2048, 1024]⟩
abbrev S1x1024x2048 : Shape := ⟨3, ![1, 1024, 2048]⟩
abbrev S1x6x2048 : Shape := ⟨3, ![1, 6, 2048]⟩
abbrev S2048x1024 : Shape := ⟨2, ![2048, 1024]⟩
abbrev S1x1024x1024 : Shape := ⟨3, ![1, 1024, 1024]⟩
abbrev S1x1x2048 : Shape := ⟨3, ![1, 1, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S1x256x1024 : Shape := ⟨3, ![1, 256, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8x256x2048, .f32⟩
  | .hbm, ⟨1, _⟩ => ⟨S16x6x2048, .f32⟩
  | .hbm, ⟨2, _⟩ => ⟨S2048, .f32⟩
  | .hbm, ⟨3, _⟩ => ⟨S2048x3072, .f32⟩
  | .hbm, ⟨4, _⟩ => ⟨S2048x3072, .bf16⟩
  | .hbm, ⟨5, _⟩ => ⟨S1x2048x2048, .f32⟩
  | .hbm, ⟨6, _⟩ => ⟨S1x2048, .f32⟩
  | .hbm, ⟨7, _⟩ => ⟨S1x2048x1024, .f32⟩
  | .local _ .vmem, ⟨0, _⟩ => ⟨S1x1024x2048, .f32⟩
  | .local _ .vmem, ⟨1, _⟩ => ⟨S1x1024x2048, .f32⟩
  | .local _ .vmem, ⟨2, _⟩ => ⟨S1x6x2048, .f32⟩
  | .local _ .vmem, ⟨3, _⟩ => ⟨S1x2048, .f32⟩
  | .local _ .vmem, ⟨4, _⟩ => ⟨S2048x1024, .bf16⟩
  | .local _ .vmem, ⟨5, _⟩ => ⟨S1x1024x1024, .f32⟩
  | .local _ .vmem, ⟨6, _⟩ => ⟨S1x1024x1024, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x6x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InCtxRefIdeal.lean ====
abbrev S8x256x2048 : Shape := ⟨3, ![8, 256, 2048]⟩
abbrev S16x6x2048 : Shape := ⟨3, ![16, 6, 2048]⟩
abbrev S2048 : Shape := ⟨1, ![2048]⟩
abbrev S2048x3072 : Shape := ⟨2, ![2048, 3072]⟩
abbrev S1x1x2048 : Shape := ⟨3, ![1, 1, 2048]⟩
abbrev S1x2048 : Shape := ⟨2, ![1, 2048]⟩
abbrev S_ : Shape := ⟨0, ![]⟩
abbrev S8x256 : Shape := ⟨2, ![8, 256]⟩
abbrev S8x256x1 : Shape := ⟨3, ![8, 256, 1]⟩
abbrev S8x256x3072 : Shape := ⟨3, ![8, 256, 3072]⟩
abbrev S8x256x1024 : Shape := ⟨3, ![8, 256, 1024]⟩
abbrev S1x2048x1024 : Shape := ⟨3, ![1, 2048, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S16x6x2048, .f32⟩
  | .hbm, ⟨2, _⟩ => ⟨S2048, .f32⟩
  | .hbm, ⟨3, _⟩ => ⟨S2048x3072, .f32⟩
  | .hbm, ⟨4, _⟩ => ⟨S1x1x2048, .f32⟩
  | .hbm, ⟨5, _⟩ => ⟨S1x2048, .f32⟩
  | .hbm, ⟨6, _⟩ => ⟨S1x1x2048, .f32⟩
  | .hbm, ⟨7, _⟩ => ⟨S1x1x2048, .f32⟩
  | .hbm, ⟨8, _⟩ => ⟨S1x2048, .f32⟩
  | .hbm, ⟨9, _⟩ => ⟨S1x1x2048, .f32⟩
  | .hbm, ⟨10, _⟩ => ⟨S8x256x2048, .f32⟩
  | .hbm, ⟨11, _⟩ => ⟨S_, .f32⟩
  | .hbm, ⟨12, _⟩ => ⟨S8x256, .f32⟩
  | .hbm, ⟨13, _⟩ => ⟨S8x256x1, .f32⟩
  | .hbm, ⟨14, _⟩ => ⟨S_, .f32⟩
  | .hbm, ⟨15, _⟩ => ⟨S8x256x1, .f32⟩
  | .hbm, ⟨16, _⟩ => ⟨S8x256x1, .f32⟩
  | .hbm, ⟨17, _⟩ => ⟨S_, .f32⟩
  | .hbm, ⟨18, _⟩ => ⟨S8x256x1, .f32⟩
  | .hbm, ⟨19, _⟩ => ⟨S8x256x1, .f32⟩
  | .hbm, ⟨20, _⟩ => ⟨S8x256x1, .f32⟩
  | .hbm, ⟨21, _⟩ => ⟨S8x256x2048, .f32⟩
  | .hbm, ⟨22, _⟩ => ⟨S8x256x2048, .f32⟩
  | .hbm, ⟨23, _⟩ => ⟨S1x1x2048, .f32⟩
  | .hbm, ⟨24, _⟩ => ⟨S8x256x2048, .f32⟩
  | .hbm, ⟨25, _⟩ => ⟨S8x256x2048, .f32⟩
  | .hbm, ⟨26, _⟩ => ⟨S_, .f32⟩
  | .hbm, ⟨27, _⟩ => ⟨S1x1x2048, .f32⟩
  | .hbm, ⟨28, _⟩ => ⟨S1x1x2048, .f32⟩
  | .hbm, ⟨29, _⟩ => ⟨S8x256x2048, .f32⟩
  | .hbm, ⟨30, _⟩ => ⟨S8x256x2048, .f32⟩
  | .hbm, ⟨31, _⟩ => ⟨S8x256x2048, .f32⟩
  | .hbm, ⟨32, _⟩ => ⟨S8x256x2048, .f32⟩
  | .hbm, ⟨33, _⟩ => ⟨S8x256x3072, .f32⟩
  | .hbm, ⟨34, _⟩ => ⟨S8x256x1024, .f32⟩
  | .hbm, ⟨35, _⟩ => ⟨S8x256x1024, .f32⟩
  | .hbm, ⟨36, _⟩ => ⟨S8x256x1024, .f32⟩
  | .hbm, ⟨37, _⟩ => ⟨S1x2048x1024, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Mod.lean ====
abbrev S16x2048 : Shape := ⟨2, ![16, 2048]⟩
abbrev S2048x12288 : Shape := ⟨2, ![2048, 12288]⟩
abbrev S12288 : Shape := ⟨1, ![12288]⟩
abbrev S1x12288 : Shape := ⟨2, ![1, 12288]⟩
abbrev S16x12288 : Shape := ⟨2, ![16, 12288]⟩
abbrev S2048x1024 : Shape := ⟨2, ![2048, 1024]⟩
abbrev S1x1024 : Shape := ⟨2, ![1, 1024]⟩
abbrev S16x1024 : Shape := ⟨2, ![16, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2048x12288, .f32⟩
  | .hbm, ⟨2, _⟩ => ⟨S12288, .f32⟩
  | .hbm, ⟨3, _⟩ => ⟨S1x12288, .f32⟩
  | .hbm, ⟨4, _⟩ => ⟨S16x12288, .f32⟩
  | .local _ .vmem, ⟨0, _⟩ => ⟨S16x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S16x2048 : Shape := ⟨2, ![16, 2048]⟩
abbrev S2048x12288 : Shape := ⟨2, ![2048, 12288]⟩
abbrev S12288 : Shape := ⟨1, ![12288]⟩
abbrev S_ : Shape := ⟨0, ![]⟩
abbrev S16x12288 : Shape := ⟨2, ![16, 12288]⟩
abbrev S1x12288 : Shape := ⟨2, ![1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048x12288, .f32⟩
  | .hbm, ⟨2, _⟩ => ⟨S12288, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S16x12288, .f32⟩
  | .hbm, ⟨13, _⟩ => ⟨S1x12288, .f32⟩
  | .hbm, ⟨14, _⟩ => ⟨S16x12288, .f32⟩
  | .hbm, ⟨15, _⟩ => ⟨S16x12288, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.OutRef.lean ====
/- The output projection's reference, read at an index. -/
module

public import proofs.«01_k».proof.Proof.Gen.OutProjRefIdeal.Run
public import Idealize.ShloMosaic.Lib.Pointwise

@[expose] public section

set_option maxRecDepth 16384

noncomputable section

namespace Cert.OutMath

open Idealize.ShloMosaic Idealize.ShloMosaic.TcCoe Idealize.SL.Sem

/-- One over the root mean square of a row, the small constant added under the root. -/
def rr (v : Fin 2048 → EReal) : EReal :=
  Ideal.rsqrt (Ideal.div (∑ k : Fin 2048, v k * v k) (Ideal.ofBits .f32 0x45000000#32) + Ideal.ofBits .f32 0x358637BD#32)

/-- The number `n` as a float. -/
def fi (n : ℕ) : EReal := FloatOps.sitofp (F := Ideal) .f32 (BitVec.ofNat 32 n)

/-- The angular frequency of column `n` of the position table. -/
def freq (n : ℕ) : EReal :=
  Ideal.pow (Ideal.ofBits .f32 0x461C4000#32) (Ideal.div (-(fi n)) (Ideal.ofBits .f32 0x44000000#32))

/-- The sine and cosine columns of one coordinate `p`. -/
def enc (p n : ℕ) : EReal :=
  if n < 512 then Ideal.sin (fi p * freq n) else Ideal.cos (fi p * freq (n - 512))

/-- The position table at token `l`, column `n`. -/
def pe (l n : ℕ) : EReal := if n < 1024 then enc (l / 64) n else enc (l % 64) (n - 1024)

/-- The mixer's output at a row, before its norm: the two halves of the contraction. -/
def ym (yf yl : Fin 1024 → EReal) (w : Fin 2048 → Fin 2048 → EReal) (d : Fin 2048) : EReal :=
  ∑ k : Fin 1024, yf k * w ⟨k.val, by omega⟩ d + ∑ k : Fin 1024, yl k * w ⟨1024 + k.val, by omega⟩ d

/-- The residual stream after the mixer; `p` is the row of the position table. -/
def x1 (yf yl : Fin 1024 → EReal) (w : Fin 2048 → Fin 2048 → EReal) (x p gt g : Fin 2048 → EReal) (d : Fin 2048) : EReal :=
  (x d + p d) + ym yf yl w d * rr (ym yf yl w) * (gt d * g d)

/-- The ConvFFN's input. -/
def h2 (v : Fin 2048 → EReal) (sh sc g : Fin 2048 → EReal) (d : Fin 2048) : EReal :=
  v d * rr v * (g d * (1 + sc d)) + sh d

end Cert.OutMath

namespace Cert.OutProjRefIdeal.Value

open Cert.OutProjRefIdeal Cert.OutProjRefIdeal.Gen Idealize.ShloMosaic Idealize.ShloMosaic.TcCoe Idealize.SL.Sem
open Cert.OutMath

variable (m : (ℓ : Loc nD τ sig) → Buf (Elt Ideal) ℓ)

/-- The residual stream, of the argument arrays. -/
def X1 (yf yl : FVec Ideal S8x2048x1024 .bf16) (x : FVec Ideal S8x2048x2048 .f32) (md : FVec Ideal S16x6x2048 .f32)
    (gp : FVec Ideal S2048 .f32) (w : FVec Ideal S2048x2048 .bf16) (b : Fin 8) (l d : Fin 2048) : EReal :=
  x1 (fun k => yf (ix3 b l k)) (fun k => yl (ix3 b l k)) (fun k n => w (ix2 k n)) (fun n => x (ix3 b l n)) (fun n => pe l.val n.val)
    (fun n => md (ix3 ⟨b.val, by omega⟩ 2 n)) (fun n => gp (ix1 n)) d

/-- The ConvFFN's input, of the argument arrays. -/
def H2 (yf yl : FVec Ideal S8x2048x1024 .bf16) (x : FVec Ideal S8x2048x2048 .f32) (md : FVec Ideal S16x6x2048 .f32)
    (gp gq : FVec Ideal S2048 .f32) (w : FVec Ideal S2048x2048 .bf16) (b : Fin 8) (l d : Fin 2048) : EReal :=
  h2 (X1 yf yl x md gp w b l) (fun n => md (ix3 ⟨b.val, by omega⟩ 3 n)) (fun n => md (ix3 ⟨b.val, by omega⟩ 4 n))
    (fun n => gq (ix1 n)) d

theorem ref0 (c : Dev nD) (b : Fin 8) (l d : Fin 2048) : res_main_v62 m c (ix3 b l d) =
    X1 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg6)) b l d := by
  pointwise [res_main_v62]
  unfold X1 x1 pe enc freq fi rr ym
  refine Ideal.add_congr (Ideal.add_congr rfl ?_) ?_
  · rfl
  · rw [mul_comm]
    simp only [mul_assoc]
    refine Ideal.mul_congr rfl (Ideal.mul_congr rfl ?_)
    exact mul_comm _ _

theorem ref1 (c : Dev nD) (b : Fin 8) (l d : Fin 2048) : res_main_v82 m c (ix3 b l d) =
    H2 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) b l d := by
  have hx := ref0 m c b l
  unfold res_main_v82
  unfold res_main_v62 at hx
  generalize addf (F := Ideal) (φ := .f32) (addf (m ((c.tc : Thread nD τ).loc main_arg2)) _) _ = V at hx ⊢
  refine Eq.trans (b := h2 (fun n => V (ix3 b l n)) (fun n => m ((c.tc : Thread nD τ).loc main_arg3) (ix3 ⟨b.val, by omega⟩ 3 n))
    (fun n => m ((c.tc : Thread nD τ).loc main_arg3) (ix3 ⟨b.val, by omega⟩ 4 n))
    (fun n => m ((c.tc : Thread nD τ).loc main_arg5) (ix1 n)) d) ?_ (by unfold H2; rw [← funext hx])
  unfold h2 rr
  pointwise
  exact Ideal.add_congr (mul_assoc _ _ _) rfl

end Cert.OutProjRefIdeal.Value

end
-- ==== Proof.OutPos.lean ====
/- The output projection's tile of the position table, read at an index. -/
module

public import proofs.«01_k».proof.Proof.Gen.OutProjIdeal.Frame
public import Idealize.ShloMosaic.Lib.Pointwise
public import Idealize.ShloMosaic.Lib.Pipeline.ValueKit

@[expose] public section

set_option maxRecDepth 16384

noncomputable section

namespace Cert.OutProjIdeal.Value

open Cert.OutProjIdeal Cert.OutProjIdeal.Gen Idealize.ShloMosaic Idealize.ShloMosaic.TcCoe Idealize.SL.Sem
open Idealize.ShloMosaic.Pipeline (Dat)

/-- The row of the position table a tile's row `r` adds, out of the two coordinate tables. -/
def peRow (x3 : Vec Ideal S8x1024 .f32) (x4 : Vec Ideal S64x1024 .f32) (r : Fin 512) (n : Fin 2048) : EReal :=
  if h : n.val < 1024 then x3 (ix2 ⟨r.val / 64, by omega⟩ ⟨n.val, h⟩) else x4 (ix2 ⟨r.val % 64, by omega⟩ ⟨n.val - 1024, by omega⟩)

set_option maxHeartbeats 1600000 in
theorem pe_at (x3 : Vec Ideal S8x1024 .f32) (x4 : Vec Ideal S64x1024 .f32) (r : Fin 512) (n : Fin 2048) :
    k0_pay2 (View.ld x3 r0_0) (View.ld x3 r0_1) (View.ld x3 r0_2) (View.ld x3 r0_3) (View.ld x3 r0_4) (View.ld x3 r0_5)
      (View.ld x3 r0_6) (View.ld x3 r0_7) (View.ld x4 r0_8) (ix2 r n) = peRow x3 x4 r n := by
  pointwise [k0_pay2]
  unfold peRow
  split_ifs <;> first
    | exact congrArg x3 (congrArg₂ ix2 (Fin.ext (by simp only [Fin.val_zero, Fin.val_one, Fin.coe_ofNat_eq_mod]; omega)) rfl)
    | exact congrArg x4 (congrArg₂ ix2 (Fin.ext (by simp only; omega)) rfl)

end Cert.OutProjIdeal.Value

end
-- ==== Proof.OutValue.lean ====
/- The output projection's two results: each launch point writes its tile of the reference. -/
module

public import proofs.«01_k».proof.Proof.Gen.OutProjIdeal.Value
public import proofs.«01_k».proof.Proof.OutRef
public import proofs.«01_k».proof.Proof.OutPos
public import Idealize.ShloMosaic.Lib.Pipeline.ValueKit

@[expose] public section

set_option maxRecDepth 16384

noncomputable section

namespace Cert.OutProjIdeal.Value

open Cert.OutProjIdeal Cert.OutProjIdeal.Gen Idealize.ShloMosaic Idealize.ShloMosaic.TcCoe Idealize.SL.Sem
open Cert.OutMath
open Idealize.ShloMosaic.Pipeline (Dat)

variable (m : (ℓ : Loc nD τ sig) → Buf (Elt Ideal) ℓ)

/-- A tile row's value of the residual stream, from the blocks. -/
def tileX (x0 x1 : Vec Ideal S1x512x1024 .bf16) (x2 : Vec Ideal S1x512x2048 .f32) (x5 : Vec Ideal S1x6x2048 .f32)
    (x6 : Vec Ideal S1x2048 .f32) (x8 : Vec Ideal S2048x2048 .bf16) (p : Fin 2048 → EReal) (r : Fin 512) : Fin 2048 → EReal :=
  OutMath.x1 (fun k => x0 (ix3 0 r k)) (fun k => x1 (ix3 0 r k)) (fun k n => x8 (ix2 k n))
      (fun n => x2 (ix3 0 r n)) p (fun n => x5 (ix3 0 2 n)) (fun n => x6 (ix2 0 n))

/-- A tile row's value of the ConvFFN's input, from the blocks. -/
def tileH (v : Fin 2048 → EReal) (x5 : Vec Ideal S1x6x2048 .f32) (x7 : Vec Ideal S1x2048 .f32) : Fin 2048 → EReal :=
  OutMath.h2 v (fun n => x5 (ix3 0 3 n)) (fun n => x5 (ix3 0 4 n)) (fun n => x7 (ix2 0 n))

set_option maxHeartbeats 1600000 in
theorem pay8_at (x0 x1 : Vec Ideal S1x512x1024 .bf16) (x2 : Vec Ideal S1x512x2048 .f32) (x5 : Vec Ideal S1x6x2048 .f32)
    (x6 : Vec Ideal S1x2048 .f32) (x8 : Vec Ideal S2048x2048 .bf16) (P : FVec Ideal S512x2048 .f32) (r : Fin 256) (d : Fin 2048) :
    k0_pay8 (k0_pay3 (View.ld x5 r0_9) (View.ld x6 r0_10)) (k0_pay5 (View.ld x0 r0_12) (View.ld x8 r0_13) (View.ld x1 r0_12) (View.ld x8 r0_14))
      (k0_pay6 P (View.ld x2 r0_15)) (k0_pay7 (View.ld x0 r0_12) (View.ld x8 r0_13) (View.ld x1 r0_12) (View.ld x8 r0_14)) (ix2 r d)
      = tileX x0 x1 x2 x5 x6 x8 (fun n => P (ix2 ⟨r.val, by omega⟩ n)) ⟨r.val, by omega⟩ d := by
  pointwise [k0_pay8, k0_pay3, k0_pay5, k0_pay6, k0_pay7]
  rfl

set_option maxHeartbeats 1600000 in
theorem pay13_at (x0 x1 : Vec Ideal S1x512x1024 .bf16) (x2 : Vec Ideal S1x512x2048 .f32) (x5 : Vec Ideal S1x6x2048 .f32)
    (x6 : Vec Ideal S1x2048 .f32) (x8 : Vec Ideal S2048x2048 .bf16) (P : FVec Ideal S512x2048 .f32) (r : Fin 256) (d : Fin 2048) :
    k0_pay13 P (k0_pay3 (View.ld x5 r0_9) (View.ld x6 r0_10)) (k0_pay11 (View.ld x0 r0_17) (View.ld x8 r0_13))
      (k0_pay12 (View.ld x1 r0_17)) (View.ld x8 r0_14) (constant S256x2048 .f32 0#32) (View.ld x2 r0_18) (ix2 r d)
      = tileX x0 x1 x2 x5 x6 x8 (fun n => P (ix2 ⟨256 + r.val, by omega⟩ n)) ⟨256 + r.val, by omega⟩ d := by
  pointwise [k0_pay13, k0_pay3, k0_pay11, k0_pay12]
  rfl

set_option maxHeartbeats 1600000 in
theorem pay10_at (v41 : FVec Ideal S1x2048 .f32) (v57 v61 v70 : FVec Ideal S256x2048 .f32) (x5 : Vec Ideal S1x6x2048 .f32)
    (x7 : Vec Ideal S1x2048 .f32) (r : Fin 256) (d : Fin 2048) :
    k0_pay10 v41 (k0_pay4 (View.ld x7 r0_10) (View.ld x5 r0_11)) v57 v61 v70 (View.ld x5 r0_16) (ix3 0 r d)
      = tileH (fun n => k0_pay8 v41 v57 v61 v70 (ix2 r n)) x5 x7 d := by
  unfold k0_pay10
  generalize k0_pay8 v41 v57 v61 v70 = V
  pointwise [k0_pay4]
  rfl

set_option maxHeartbeats 1600000 in
theorem pay15_at (v36 : FVec Ideal S512x2048 .f32) (v41 : FVec Ideal S1x2048 .f32) (v101 : FVec Ideal S256x2048 .f32)
    (v103 : FVec Ideal S256x1024 .bf16) (v104 : Vec Ideal S1024x2048 .bf16) (cst_59 : FVec Ideal S256x2048 .f32)
    (v107 : Vec Ideal S1x256x2048 .f32) (x5 : Vec Ideal S1x6x2048 .f32)
    (x7 : Vec Ideal S1x2048 .f32) (r : Fin 256) (d : Fin 2048) :
    k0_pay1 (k0_pay15 v36 v41 (k0_pay4 (View.ld x7 r0_10) (View.ld x5 r0_11)) v101 v103 v104 cst_59 v107 (View.ld x5 r0_16)) (ix3 0 r d)
      = tileH (fun n => k0_pay13 v36 v41 v101 v103 v104 cst_59 v107 (ix2 r n)) x5 x7 d := by
  unfold k0_pay1 k0_pay15
  generalize k0_pay13 v36 v41 v101 v103 v104 cst_59 v107 = V
  pointwise [k0_pay4]
  rfl

theorem cast_at (v : FVec Ideal S256x2048 .f32) (x : S1x256x2048.Idx) :
    shapeCast S1x256x2048 v shapeCasts_S256x2048_S1x256x2048 x = v (ix2 (x 1) (x 2)) := by
  idx_vars x
  pointwise

set_option maxHeartbeats 1600000 in
theorem out9 (a0 : Vec Ideal S1x512x1024 .bf16) (a1 : Vec Ideal S1x512x1024 .bf16) (a2 : Vec Ideal S1x512x2048 .f32) (a3 : Vec Ideal S8x1024 .f32) (a4 : Vec Ideal S64x1024 .f32) (a5 : Vec Ideal S1x6x2048 .f32) (a6 : Vec Ideal S1x2048 .f32) (a7 : Vec Ideal S1x2048 .f32) (a8 : Vec Ideal S2048x2048 .bf16) (y : S1x512x2048.Idx) :
    out0_9 a0 a1 a2 a3 a4 a5 a6 a7 a8 y = tileX a0 a1 a2 a5 a6 a8 (peRow a3 a4 (y 1)) (y 1) (y 2) := by
  unfold_out out0_9
  canon_tiles x h
  · have e1 : y 1 = (⟨256 + (x 1).val, by omega⟩ : Fin 512) := Fin.ext h1
    have e2 : y 2 = x 2 := Fin.ext h2
    rw [e1, e2]
    clear e1 e2
    unfold k0_pay14
    refine (cast_at _ x).trans ?_
    refine (pay13_at a0 a1 a2 a5 a6 a8 _ (x 1) (x 2)).trans ?_
    simp only [pe_at]
  · have e1 : y 1 = (⟨(x 1).val, by omega⟩ : Fin 512) := Fin.ext (by omega)
    have e2 : y 2 = x 2 := Fin.ext h2
    rw [e1, e2]
    clear e1 e2
    unfold k0_pay9
    refine (cast_at _ x).trans ?_
    refine (pay8_at a0 a1 a2 a5 a6 a8 _ (x 1) (x 2)).trans ?_
    simp only [pe_at]

set_option maxHeartbeats 1600000 in
theorem out10 (a0 : Vec Ideal S1x512x1024 .bf16) (a1 : Vec Ideal S1x512x1024 .bf16) (a2 : Vec Ideal S1x512x2048 .f32) (a3 : Vec Ideal S8x1024 .f32) (a4 : Vec Ideal S64x1024 .f32) (a5 : Vec Ideal S1x6x2048 .f32) (a6 : Vec Ideal S1x2048 .f32) (a7 : Vec Ideal S1x2048 .f32) (a8 : Vec Ideal S2048x2048 .bf16) (y : S1x512x2048.Idx) :
    out0_10 a0 a1 a2 a3 a4 a5 a6 a7 a8 y = tileH (tileX a0 a1 a2 a5 a6 a8 (peRow a3 a4 (y 1)) (y 1)) a5 a7 (y 2) := by
  unfold_out out0_10
  canon_tiles x h
  · have e1 : y 1 = (⟨256 + (x 1).val, by omega⟩ : Fin 512) := Fin.ext h1
    have e2 : y 2 = x 2 := Fin.ext h2
    rw [e1, e2]
    clear e1 e2
    idx_vars x
    obtain rfl : x0 = 0 := Subsingleton.elim _ _
    rw [pay15_at]
    simp only [pay13_at, pe_at]
  · have e1 : y 1 = (⟨(x 1).val, by omega⟩ : Fin 512) := Fin.ext (by omega)
    have e2 : y 2 = x 2 := Fin.ext h2
    rw [e1, e2]
    clear e1 e2
    idx_vars x
    obtain rfl : x0 = 0 := Subsingleton.elim _ _
    rw [pay10_at]
    simp only [pay8_at, pe_at]

end Cert.OutProjIdeal.Value

end
-- ==== Proof.OutFinal.lean ====
/- The output projection's two result arrays after the launch, in closed form. -/
module

public import proofs.«01_k».proof.Proof.OutValue
public import Idealize.ShloMosaic.Lib.Claim

@[expose] public section

set_option maxRecDepth 16384

noncomputable section

namespace Cert.OutProjIdeal.Value

open Cert.OutProjIdeal Cert.OutProjIdeal.Gen Idealize.ShloMosaic Idealize.ShloMosaic.TcCoe Idealize.SL.Sem
open Cert.OutMath
open Idealize.ShloMosaic.Pipeline (Dat)
open Cert.OutProjRefIdeal.Value (X1 H2)

variable (m : (ℓ : Loc nD τ sig) → Buf (Elt Ideal) ℓ)

/-- Every window's block index at a launch point. -/
theorem idx_val : ∀ t : Fin cfg0.N, win0_0.index t = ![t.val % 8, t.val / 8, 0]
    ∧ win0_1.index t = ![t.val % 8, t.val / 8, 0]
    ∧ win0_2.index t = ![t.val % 8, t.val / 8, 0]
    ∧ win0_3.index t = ![t.val / 8, 0]
    ∧ win0_4.index t = ![0, 0]
    ∧ win0_5.index t = ![t.val % 8, 0, 0]
    ∧ win0_6.index t = ![0, 0]
    ∧ win0_7.index t = ![0, 0]
    ∧ win0_8.index t = ![0, 0]
    ∧ win0_9.index t = ![t.val % 8, t.val / 8, 0]
    ∧ win0_10.index t = ![t.val % 8, t.val / 8, 0] :=
  (by decide +kernel : ∀ t : Fin grid0.N, _)

/-- The row table the host makes. -/
theorem tab3 (c : Dev nD) (r : Fin 32) (n : Fin 1024) :
    (show FVec Ideal S32x1024 .f32 from V m c main_v14) (ix2 r n) = enc r.val n.val := by
  entry_read
  pointwise
  rfl

/-- The column table the host makes. -/
theorem tab4 (c : Dev nD) (r : Fin 64) (n : Fin 1024) :
    (show FVec Ideal S64x1024 .f32 from V m c main_v23) (ix2 r n) = enc r.val n.val := by
  entry_read
  pointwise
  rfl

section reads
variable (c : Dev nD) (t : Fin cfg0.N) (b : Fin 8) (hb : b.val = t.val % 8)
include hb

theorem rd0 (r : Fin 512) (l : Fin 2048) (hl : l.val = t.val / 8 * 512 + r.val) (k : Fin 1024) :
    (show FVec Ideal S1x512x1024 .bf16 from iblk m c 0 t) (ix3 0 r k) = m ((c : Thread nD τ).loc main_arg0) (ix3 b l k) := by
  blk_ext [iblk, V, idx_val t]
theorem rd1 (r : Fin 512) (l : Fin 2048) (hl : l.val = t.val / 8 * 512 + r.val) (k : Fin 1024) :
    (show FVec Ideal S1x512x1024 .bf16 from iblk m c 1 t) (ix3 0 r k) = m ((c : Thread nD τ).loc main_arg1) (ix3 b l k) := by
  blk_ext [iblk, V, idx_val t]
theorem rd2 (r : Fin 512) (l : Fin 2048) (hl : l.val = t.val / 8 * 512 + r.val) (k : Fin 2048) :
    (show FVec Ideal S1x512x2048 .f32 from iblk m c 2 t) (ix3 0 r k) = m ((c : Thread nD τ).loc main_arg2) (ix3 b l k) := by
  blk_ext [iblk, V, idx_val t]
theorem rd5 (j : Fin 6) (k : Fin 2048) :
    (show FVec Ideal S1x6x2048 .f32 from iblk m c 5 t) (ix3 0 j k) = m ((c : Thread nD τ).loc main_arg3) (ix3 ⟨b.val, by omega⟩ j k) := by
  blk_ext [iblk, V, idx_val t]
omit hb
theorem rd6 (k : Fin 2048) :
    (show FVec Ideal S1x2048 .f32 from iblk m c 6 t) (ix2 0 k) = m ((c : Thread nD τ).loc main_arg4) (ix1 k) := by
  refine Eq.trans (b := (show FVec Ideal S1x2048 .f32 from V m c main_v24) (ix2 0 k)) (by blk_ext [iblk, idx_val t]) ?_
  entry_read
  pointwise
theorem rd7 (k : Fin 2048) :
    (show FVec Ideal S1x2048 .f32 from iblk m c 7 t) (ix2 0 k) = m ((c : Thread nD τ).loc main_arg5) (ix1 k) := by
  refine Eq.trans (b := (show FVec Ideal S1x2048 .f32 from V m c main_v25) (ix2 0 k)) (by blk_ext [iblk, idx_val t]) ?_
  entry_read
  pointwise
theorem rd8 (k n : Fin 2048) :
    (show FVec Ideal S2048x2048 .bf16 from iblk m c 8 t) (ix2 k n) = m ((c : Thread nD τ).loc main_arg6) (ix2 k n) := by
  blk_ext [iblk, V, idx_val t]
theorem rdPos (r : Fin 512) (l : Fin 2048) (hl : l.val = t.val / 8 * 512 + r.val) (n : Fin 2048) :
    peRow (iblk m c 3 t) (iblk m c 4 t) r n = pe l.val n.val := by
  have ht : t.val < 32 := lt_of_lt_of_eq t.isLt N_0
  unfold peRow pe
  by_cases h : n.val < 1024
  · rw [dif_pos h, if_pos h]
    refine Eq.trans (b := (show FVec Ideal S32x1024 .f32 from V m c main_v14) (ix2 ⟨t.val / 8 * 8 + r.val / 64, by omega⟩ ⟨n.val, h⟩))
      (by blk_ext [iblk, idx_val t]) ?_
    rw [tab3]
    congr 1
    simp only
    omega
  · rw [dif_neg h, if_neg h]
    refine Eq.trans (b := (show FVec Ideal S64x1024 .f32 from V m c main_v23) (ix2 ⟨r.val % 64, by omega⟩ ⟨n.val - 1024, by omega⟩))
      (by blk_ext [iblk, idx_val t]) ?_
    rw [tab4]
    congr 1
    simp only
    omega

end reads

theorem x1_congr {yf yf' yl yl' : Fin 1024 → EReal} {w w' : Fin 2048 → Fin 2048 → EReal} {x x' p p' gt gt' g g' : Fin 2048 → EReal}
    (h0 : yf = yf') (h1 : yl = yl') (h2 : w = w') (h3 : x = x') (h4 : p = p') (h5 : gt = gt') (h6 : g = g') (d : Fin 2048) :
    OutMath.x1 yf yl w x p gt g d = OutMath.x1 yf' yl' w' x' p' gt' g' d := by
  subst h0 h1 h2 h3 h4 h5 h6; rfl
theorem h2_congr {v v' sh sh' sc sc' g g' : Fin 2048 → EReal}
    (h0 : v = v') (h1 : sh = sh') (h2 : sc = sc') (h3 : g = g') {d d' : Fin 2048} (h4 : d = d') :
    OutMath.h2 v sh sc g d = OutMath.h2 v' sh' sc' g' d' := by
  subst h0 h1 h2 h3 h4; rfl

theorem tileX_at (c : Dev nD) (t : Fin cfg0.N) (b : Fin 8) (hb : b.val = t.val % 8) (r : Fin 512) (l : Fin 2048)
    (hl : l.val = t.val / 8 * 512 + r.val) :
    tileX (iblk m c 0 t) (iblk m c 1 t) (iblk m c 2 t) (iblk m c 5 t) (iblk m c 6 t) (iblk m c 8 t) (peRow (iblk m c 3 t) (iblk m c 4 t) r) r
      = X1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg6)) b l := by
  funext d
  unfold X1
  exact x1_congr (funext (rd0 m c t b hb r l hl)) (funext (rd1 m c t b hb r l hl)) (funext fun k => funext (rd8 m c t k))
    (funext (rd2 m c t b hb r l hl)) (funext (rdPos m c t r l hl)) (funext (rd5 m c t b hb 2)) (funext (rd6 m c t)) d

theorem final9 (c : Dev nD) : (dats m 0 c).arrAt 9 cfg0.N = fun i : S8x2048x2048.Idx =>
    X1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg6)) (i 0) (i 1) (i 2) := by
  refine (dats m 0 c).arrAt_eq_of_covers 9 _ (by decide +kernel) fun t hf y => ?_
  blk_simp
  rw [after0_9]
  refine (out9 _ _ _ _ _ _ _ _ _ y).trans ?_
  rw [tileX_at m c t _ _ (y 1) _ _]
  · refine congrArg _ (Fin.ext ?_)
    blk_simp [idx_val t]
  · blk_simp [idx_val t]
  · blk_simp [idx_val t]

theorem final10 (c : Dev nD) : (dats m 0 c).arrAt 10 cfg0.N = fun i : S8x2048x2048.Idx =>
    H2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (i 0) (i 1) (i 2) := by
  refine (dats m 0 c).arrAt_eq_of_covers 10 _ (by decide +kernel) fun t hf y => ?_
  blk_simp
  rw [after0_10]
  refine (out10 _ _ _ _ _ _ _ _ _ y).trans ?_
  rw [tileX_at m c t _ _ (y 1) _ _]
  · unfold tileH H2
    refine h2_congr rfl (funext (rd5 m c t _ ?_ 3)) (funext (rd5 m c t _ ?_ 4)) (funext (rd7 m c t)) (Fin.ext ?_)
    all_goals blk_simp [idx_val t]
  · blk_simp [idx_val t]
  · blk_simp [idx_val t]

end Cert.OutProjIdeal.Value

end
-- ==== Proof.InRef.lean ====
/- The input projection's reference, read at an index. -/
module

public import proofs.«01_k».proof.Proof.Gen.InProjRefIdeal.Run
public import proofs.«01_k».proof.Proof.OutRef
public import Idealize.ShloMosaic.Lib.Pointwise

@[expose] public section

set_option maxRecDepth 16384

noncomputable section

namespace Cert.InProjRefIdeal.Value

open Cert.InProjRefIdeal Cert.InProjRefIdeal.Gen Idealize.ShloMosaic Idealize.ShloMosaic.TcCoe Idealize.SL.Sem
open Cert.OutMath

variable (m : (ℓ : Loc nD τ sig) → Buf (Elt Ideal) ℓ)

/-- The input projection at column `j` of the weight: the embedded, normed and modulated token against that column. -/
def U (x : FVec Ideal S8x2048x2048 .f32) (md : FVec Ideal S16x6x2048 .f32) (g : FVec Ideal S2048 .f32)
    (w : FVec Ideal S2048x3072 .f32) (b : Fin 8) (l : Fin 2048) (j : Fin 3072) : EReal :=
  ∑ k : Fin 2048, h2 (fun n => x (ix3 b l n) + pe l.val n.val) (fun n => md (ix3 ⟨b.val, by omega⟩ 0 n))
    (fun n => md (ix3 ⟨b.val, by omega⟩ 1 n)) (fun n => g (ix1 n)) k * w (ix2 k j)

theorem ref0 (c : Dev nD) (b : Fin 8) (l : Fin 2048) (d : Fin 1024) : res_main_v62 m c (ix3 b l d) =
    U (m ((c.tc : Thread nD τ).loc main_arg0)) (m ((c.tc : Thread nD τ).loc main_arg1)) (m ((c.tc : Thread nD τ).loc main_arg2))
      (m ((c.tc : Thread nD τ).loc main_arg3)) b l ⟨d.val, by omega⟩ := by
  pointwise [res_main_v62]
  unfold U h2 pe enc freq fi rr
  exact Finset.sum_congr (M := EReal) rfl fun k _ => Ideal.mul_congr (Ideal.add_congr (mul_assoc _ _ _) rfl) rfl

theorem ref1 (c : Dev nD) (b : Fin 8) (l : Fin 2048) (d : Fin 1024) : res_main_v60 m c (ix3 b l d) =
    U (m ((c.tc : Thread nD τ).loc main_arg0)) (m ((c.tc : Thread nD τ).loc main_arg1)) (m ((c.tc : Thread nD τ).loc main_arg2))
      (m ((c.tc : Thread nD τ).loc main_arg3)) b l ⟨1024 + d.val, by omega⟩ := by
  pointwise [res_main_v60]
  unfold U h2 pe enc freq fi rr
  exact Finset.sum_congr (M := EReal) rfl fun k _ => Ideal.mul_congr (Ideal.add_congr (mul_assoc _ _ _) rfl) rfl

theorem ref2 (c : Dev nD) (b : Fin 8) (l : Fin 2048) (d : Fin 1024) : res_main_v61 m c (ix3 b l d) =
    U (m ((c.tc : Thread nD τ).loc main_arg0)) (m ((c.tc : Thread nD τ).loc main_arg1)) (m ((c.tc : Thread nD τ).loc main_arg2))
      (m ((c.tc : Thread nD τ).loc main_arg3)) b l ⟨2048 + d.val, by omega⟩ := by
  pointwise [res_main_v61]
  unfold U h2 pe enc freq fi rr
  exact Finset.sum_congr (M := EReal) rfl fun k _ => Ideal.mul_congr (Ideal.add_congr (mul_assoc _ _ _) rfl) rfl

end Cert.InProjRefIdeal.Value

end
-- ==== Proof.InPos.lean ====
/- The input projection's tile of the position table, read at an index. -/
module

public import proofs.«01_k».proof.Proof.Gen.InProjIdeal.Frame
public import Idealize.ShloMosaic.Lib.Pointwise
public import Idealize.ShloMosaic.Lib.Pipeline.Value
public import Idealize.ShloMosaic.Lib.Pipeline.ValueKit

@[expose] public section

set_option maxRecDepth 16384

noncomputable section

namespace Cert.InProjIdeal.Value

open Cert.InProjIdeal Cert.InProjIdeal.Gen Idealize.ShloMosaic Idealize.ShloMosaic.TcCoe Idealize.SL.Sem
open Idealize.ShloMosaic.Pipeline (Dat)

/-- The row of the position table a tile's row `r` adds, out of the two coordinate tables. -/
def peRow (x1 : Vec Ideal S16x1024 .f32) (x2 : Vec Ideal S64x1024 .f32) (r : Fin 1024) (n : Fin 2048) : EReal :=
  if h : n.val < 1024 then x1 (ix2 ⟨r.val / 64, by omega⟩ ⟨n.val, h⟩) else x2 (ix2 ⟨r.val % 64, by omega⟩ ⟨n.val - 1024, by omega⟩)

/-- Sixteen pieces one under another. -/
theorem cat16 (v : Fin 16 → FVec Ideal S64x1024 .f32)
    (h : Shape.Concatenates ((List.ofFn fun n : Fin 16 => (⟨S64x1024, v n⟩ : (s : Shape) × (s.Idx → EReal))).map (·.1)) S1024x1024 0)
    (r k : Fin 1024) :
    concatenate S1024x1024 0 (List.ofFn fun n : Fin 16 => (⟨S64x1024, v n⟩ : (s : Shape) × (s.Idx → EReal))) h (ix2 r k)
      = v ⟨r.val / 64, by omega⟩ (ix2 ⟨r.val % 64, by omega⟩ k) := by
  refine concatenate_ofFn_apply 0 v h rfl 64 rfl (ix2 r k) ⟨r.val / 64, by omega⟩ rfl _ rfl fun b hb => ?_
  match b, hb with
  | ⟨0, _⟩, hb => exact absurd (Fin.ext rfl) hb
  | ⟨1, _⟩, _ => rfl

/-- Two squares side by side. -/
theorem cat2 (A B : FVec Ideal S1024x1024 .f32) (r : Fin 1024) (n : Fin 2048) :
    concatenate S1024x2048 1 [⟨S1024x1024, A⟩, ⟨S1024x1024, B⟩] concatenates_S1024x1024_S1024x1024_S1024x2048_d1 (ix2 r n)
      = if h : n.val < 1024 then A (ix2 r ⟨n.val, h⟩) else B (ix2 r ⟨n.val - 1024, by omega⟩) := by
  pointwise

/-- The sixteen rows of the row table, each repeated. -/
def rows (x1 : Vec Ideal S16x1024 .f32) : Fin 16 → FVec Ideal S64x1024 .f32 :=
  ![k0_pay4 (View.ld x1 r0_0),
    k0_pay5 (View.ld x1 r0_1),
    k0_pay6 (View.ld x1 r0_2),
    k0_pay7 (View.ld x1 r0_3),
    k0_pay8 (View.ld x1 r0_4),
    k0_pay9 (View.ld x1 r0_5),
    k0_pay10 (View.ld x1 r0_6),
    k0_pay11 (View.ld x1 r0_7),
    k0_pay12 (View.ld x1 r0_8),
    broadcastTo S64x1024 (shapeCast S1x1024 (k0_pay13 (View.ld x1 r0_9)) shapeCasts_S1x1024_S1x1024) broadcasts_S1x1024_S64x1024,
    broadcastTo S64x1024 (shapeCast S1x1024 (shapeCast S1x1024 (View.ld x1 r0_10) shapeCasts_S1x1024_S1x1024) shapeCasts_S1x1024_S1x1024) broadcasts_S1x1024_S64x1024,
    broadcastTo S64x1024 (shapeCast S1x1024 (shapeCast S1x1024 (View.ld x1 r0_11) shapeCasts_S1x1024_S1x1024) shapeCasts_S1x1024_S1x1024) broadcasts_S1x1024_S64x1024,
    broadcastTo S64x1024 (shapeCast S1x1024 (shapeCast S1x1024 (View.ld x1 r0_12) shapeCasts_S1x1024_S1x1024) shapeCasts_S1x1024_S1x1024) broadcasts_S1x1024_S64x1024,
    broadcastTo S64x1024 (shapeCast S1x1024 (shapeCast S1x1024 (View.ld x1 r0_13) shapeCasts_S1x1024_S1x1024) shapeCasts_S1x1024_S1x1024) broadcasts_S1x1024_S64x1024,
    broadcastTo S64x1024 (shapeCast S1x1024 (shapeCast S1x1024 (View.ld x1 r0_14) shapeCasts_S1x1024_S1x1024) shapeCasts_S1x1024_S1x1024) broadcasts_S1x1024_S64x1024,
    broadcastTo S64x1024 (shapeCast S1x1024 (shapeCast S1x1024 (View.ld x1 r0_15) shapeCasts_S1x1024_S1x1024) shapeCasts_S1x1024_S1x1024) broadcasts_S1x1024_S64x1024]

theorem rows_at (x1 : Vec Ideal S16x1024 .f32) (i : Fin 16) (a : Fin 64) (k : Fin 1024) : rows x1 i (ix2 a k) = x1 (ix2 i k) := by
  match i with
  | ⟨0, _⟩ =>
    show (k0_pay4 (View.ld x1 r0_0)) (ix2 a k) = _
    pointwise [k0_pay4]
  | ⟨1, _⟩ =>
    show (k0_pay5 (View.ld x1 r0_1)) (ix2 a k) = _
    pointwise [k0_pay5]
  | ⟨2, _⟩ =>
    show (k0_pay6 (View.ld x1 r0_2)) (ix2 a k) = _
    pointwise [k0_pay6]
  | ⟨3, _⟩ =>
    show (k0_pay7 (View.ld x1 r0_3)) (ix2 a k) = _
    pointwise [k0_pay7]
  | ⟨4, _⟩ =>
    show (k0_pay8 (View.ld x1 r0_4)) (ix2 a k) = _
    pointwise [k0_pay8]
  | ⟨5, _⟩ =>
    show (k0_pay9 (View.ld x1 r0_5)) (ix2 a k) = _
    pointwise [k0_pay9]
  | ⟨6, _⟩ =>
    show (k0_pay10 (View.ld x1 r0_6)) (ix2 a k) = _
    pointwise [k0_pay10]
  | ⟨7, _⟩ =>
    show (k0_pay11 (View.ld x1 r0_7)) (ix2 a k) = _
    pointwise [k0_pay11]
  | ⟨8, _⟩ =>
    show (k0_pay12 (View.ld x1 r0_8)) (ix2 a k) = _
    pointwise [k0_pay12]
  | ⟨9, _⟩ =>
    show (broadcastTo S64x1024 (shapeCast S1x1024 (k0_pay13 (View.ld x1 r0_9)) shapeCasts_S1x1024_S1x1024) broadcasts_S1x1024_S64x1024) (ix2 a k) = _
    pointwise [k0_pay13]
  | ⟨10, _⟩ =>
    show (broadcastTo S64x1024 (shapeCast S1x1024 (shapeCast S1x1024 (View.ld x1 r0_10) shapeCasts_S1x1024_S1x1024) shapeCasts_S1x1024_S1x1024) broadcasts_S1x1024_S64x1024) (ix2 a k) = _
    pointwise
  | ⟨11, _⟩ =>
    show (broadcastTo S64x1024 (shapeCast S1x1024 (shapeCast S1x1024 (View.ld x1 r0_11) shapeCasts_S1x1024_S1x1024) shapeCasts_S1x1024_S1x1024) broadcasts_S1x1024_S64x1024) (ix2 a k) = _
    pointwise
  | ⟨12, _⟩ =>
    show (broadcastTo S64x1024 (shapeCast S1x1024 (shapeCast S1x1024 (View.ld x1 r0_12) shapeCasts_S1x1024_S1x1024) shapeCasts_S1x1024_S1x1024) broadcasts_S1x1024_S64x1024) (ix2 a k) = _
    pointwise
  | ⟨13, _⟩ =>
    show (broadcastTo S64x1024 (shapeCast S1x1024 (shapeCast S1x1024 (View.ld x1 r0_13) shapeCasts_S1x1024_S1x1024) shapeCasts_S1x1024_S1x1024) broadcasts_S1x1024_S64x1024) (ix2 a k) = _
    pointwise
  | ⟨14, _⟩ =>
    show (broadcastTo S64x1024 (shapeCast S1x1024 (shapeCast S1x1024 (View.ld x1 r0_14) shapeCasts_S1x1024_S1x1024) shapeCasts_S1x1024_S1x1024) broadcasts_S1x1024_S64x1024) (ix2 a k) = _
    pointwise
  | ⟨15, _⟩ =>
    show (broadcastTo S64x1024 (shapeCast S1x1024 (shapeCast S1x1024 (View.ld x1 r0_15) shapeCasts_S1x1024_S1x1024) shapeCasts_S1x1024_S1x1024) broadcasts_S1x1024_S64x1024) (ix2 a k) = _
    pointwise
  | ⟨n + 16, hn⟩ => exact absurd hn (by omega)

theorem pe_at (x0 : Vec Ideal S1x1024x2048 .f32) (x1 : Vec Ideal S16x1024 .f32) (x2 : Vec Ideal S64x1024 .f32)
    (x3 : Vec Ideal S1x6x2048 .f32) (x4 : Vec Ideal S1x2048 .f32) (x5 : Vec Ideal S2048x3072 .bf16) (r : Fin 1024) (n : Fin 2048) :
    k0_pay32 x0 x1 x2 x3 x4 x5 (ix2 r n) = peRow x1 x2 r n := by
  unfold k0_pay32 k0_pay14 peRow
  refine (cat2 _ _ r n).trans ?_
  by_cases h : n.val < 1024
  · rw [dif_pos h, dif_pos h]
    exact (cat16 (rows x1) _ r ⟨n.val, h⟩).trans (rows_at x1 _ _ _)
  · rw [dif_neg h, dif_neg h]
    refine (cat16 (fun _ => shapeCast S64x1024 (View.ld x2 r0_16) shapeCasts_S64x1024_S64x1024) _ r ⟨n.val - 1024, by omega⟩).trans ?_
    pointwise

end Cert.InProjIdeal.Value

end
-- ==== Proof.InNorm.lean ====
/- The input projection's four chunks of normed rows, and their products with the weight, read at an index. -/
module

public import proofs.«01_k».proof.Proof.Gen.InProjIdeal.Frame
public import proofs.«01_k».proof.Proof.OutRef
public import Idealize.ShloMosaic.Lib.Pointwise
public import Idealize.ShloMosaic.Lib.Pipeline.ValueKit

@[expose] public section

set_option maxRecDepth 16384

noncomputable section

namespace Cert.InProjIdeal.Value

open Cert.InProjIdeal Cert.InProjIdeal.Gen Idealize.ShloMosaic Idealize.ShloMosaic.TcCoe Idealize.SL.Sem
open Idealize.ShloMosaic.Pipeline (Dat)

/-- A tile row embedded, normed and modulated, from the blocks; `p` is the row of the position table. -/
def tileN (x0 : Vec Ideal S1x1024x2048 .f32) (x3 : Vec Ideal S1x6x2048 .f32) (x4 : Vec Ideal S1x2048 .f32)
    (p : Fin 2048 → EReal) (r : Fin 1024) : Fin 2048 → EReal :=
  OutMath.h2 (fun n => x0 (ix3 0 r n) + p n) (fun n => x3 (ix3 0 0 n)) (fun n => x3 (ix3 0 1 n)) (fun n => x4 (ix2 0 n))

set_option maxHeartbeats 1600000 in
theorem pay16_at (x0 : Vec Ideal S1x1024x2048 .f32) (x3 : Vec Ideal S1x6x2048 .f32) (x4 : Vec Ideal S1x2048 .f32)
    (P : FVec Ideal S1024x2048 .f32) (r : Fin 256) (k : Fin 2048) :
    k0_pay16 P (k0_pay15 (View.ld x4 r0_17) (View.ld x3 r0_18)) (View.ld x0 r0_19) (View.ld x3 r0_20) (ix2 r k)
      = tileN x0 x3 x4 (fun n => P (ix2 ⟨r.val, by omega⟩ n)) ⟨r.val, by omega⟩ k := by
  pointwise [k0_pay16, k0_pay15]
  rfl

set_option maxHeartbeats 1600000 in
theorem pay21_at (x0 : Vec Ideal S1x1024x2048 .f32) (x3 : Vec Ideal S1x6x2048 .f32) (x4 : Vec Ideal S1x2048 .f32)
    (P : FVec Ideal S1024x2048 .f32) (r : Fin 256) (k : Fin 2048) :
    k0_pay21 P (k0_pay15 (View.ld x4 r0_17) (View.ld x3 r0_18)) (View.ld x0 r0_25) (View.ld x3 r0_20) (ix2 r k)
      = tileN x0 x3 x4 (fun n => P (ix2 ⟨256 + r.val, by omega⟩ n)) ⟨256 + r.val, by omega⟩ k := by
  pointwise [k0_pay21, k0_pay15]
  rfl

set_option maxHeartbeats 1600000 in
theorem pay26_at (x0 : Vec Ideal S1x1024x2048 .f32) (x3 : Vec Ideal S1x6x2048 .f32) (x4 : Vec Ideal S1x2048 .f32)
    (P : FVec Ideal S1024x2048 .f32) (r : Fin 256) (k : Fin 2048) :
    k0_pay26 P (k0_pay15 (View.ld x4 r0_17) (View.ld x3 r0_18)) (View.ld x0 r0_27) (View.ld x3 r0_20) (ix2 r k)
      = tileN x0 x3 x4 (fun n => P (ix2 ⟨512 + r.val, by omega⟩ n)) ⟨512 + r.val, by omega⟩ k := by
  pointwise [k0_pay26, k0_pay15]
  rfl

set_option maxHeartbeats 1600000 in
theorem pay31_at (x0 : Vec Ideal S1x1024x2048 .f32) (x3 : Vec Ideal S1x6x2048 .f32) (x4 : Vec Ideal S1x2048 .f32)
    (P : FVec Ideal S1024x2048 .f32) (r : Fin 256) (k : Fin 2048) :
    k0_pay31 P (k0_pay15 (View.ld x4 r0_17) (View.ld x3 r0_18)) (View.ld x0 r0_29) (View.ld x3 r0_20) (ix2 r k)
      = tileN x0 x3 x4 (fun n => P (ix2 ⟨768 + r.val, by omega⟩ n)) ⟨768 + r.val, by omega⟩ k := by
  pointwise [k0_pay31, k0_pay15]
  rfl

/-- A chunk's rows against a third of the weight. -/
def mm (N : FVec Ideal S256x2048 .bf16) (w : Vec Ideal S2048x1024 .bf16) (r : Fin 256) (d : Fin 1024) : EReal :=
  ∑ k : Fin 2048, N (ix2 r k) * w (ix2 k d)

section prods
variable (N : FVec Ideal S256x2048 .bf16) (w : Vec Ideal S2048x1024 .bf16) (r : Fin 256) (d : Fin 1024)

theorem pay1_at : k0_pay1 N w (ix3 0 r d) = mm N w r d := by
  pointwise [k0_pay1]
  rfl
theorem pay2_at : k0_pay2 N w (ix3 0 r d) = mm N w r d := by
  pointwise [k0_pay2]
  rfl
theorem pay3_at : k0_pay3 N w (ix3 0 r d) = mm N w r d := by
  pointwise [k0_pay3]
  rfl
theorem pay25_at : k0_pay25 N w (ix3 0 r d) = mm N w r d := by
  pointwise [k0_pay25]
  rfl
theorem pay29_at : k0_pay29 N w (ix3 0 r d) = mm N w r d := by
  pointwise [k0_pay29]
  rfl
theorem pay30_at : k0_pay30 N w (ix3 0 r d) = mm N w r d := by
  pointwise [k0_pay30]
  rfl
theorem pay20_at : k0_pay20 N (k0_pay19 w) (constant S256x1024 .f32 0x00000000#32) (ix3 0 r d) = mm N w r d := by
  pointwise [k0_pay20, k0_pay19]
  rfl

variable (v68 : FVec Ideal S1024x2048 .f32) (v75 : FVec Ideal S1x2048 .f32) (x : Vec Ideal S1x256x2048 .f32) (s : Vec Ideal S1x1x2048 .f32)

theorem pay17_at : k0_pay17 v68 v75 x s w (ix3 0 r d) = mm (k0_pay16 v68 v75 x s) w r d := by
  unfold k0_pay17
  generalize k0_pay16 v68 v75 x s = N
  pointwise
  rfl
theorem pay18_at : k0_pay18 v68 v75 x s w (ix3 0 r d) = mm (k0_pay16 v68 v75 x s) w r d := by
  unfold k0_pay18
  generalize k0_pay16 v68 v75 x s = N
  pointwise
  rfl
theorem pay22_at : k0_pay22 v68 v75 x s w (ix3 0 r d) = mm (k0_pay21 v68 v75 x s) w r d := by
  unfold k0_pay22
  generalize k0_pay21 v68 v75 x s = N
  pointwise
  rfl
theorem pay24_at : k0_pay24 (k0_pay23 v68 v75 x s w) (ix3 0 r d) = mm (k0_pay21 v68 v75 x s) w r d := by
  unfold k0_pay24 k0_pay23
  generalize k0_pay21 v68 v75 x s = N
  pointwise
  rfl
theorem pay28_at : k0_pay28 (k0_pay27 v68 v75 x s w) (ix3 0 r d) = mm (k0_pay26 v68 v75 x s) w r d := by
  unfold k0_pay28 k0_pay27
  generalize k0_pay26 v68 v75 x s = N
  pointwise
  rfl

end prods

end Cert.InProjIdeal.Value

end
-- ==== Proof.InValue.lean ====
/- The input projection's three results: each launch point writes its tile of the reference. -/
module

public import proofs.«01_k».proof.Proof.InPos
public import proofs.«01_k».proof.Proof.InNorm
public import Idealize.ShloMosaic.Lib.Pipeline.ValueKit

@[expose] public section

set_option maxRecDepth 16384

noncomputable section

namespace Cert.InProjIdeal.Value

open Cert.InProjIdeal Cert.InProjIdeal.Gen Idealize.ShloMosaic Idealize.ShloMosaic.TcCoe Idealize.SL.Sem
open Cert.OutMath
open Idealize.ShloMosaic.Pipeline (Dat)

/-- A tile row against column `j` of the weight, from the blocks. -/
def tileU (x0 : Vec Ideal S1x1024x2048 .f32) (x3 : Vec Ideal S1x6x2048 .f32) (x4 : Vec Ideal S1x2048 .f32)
    (x5 : Vec Ideal S2048x3072 .bf16) (p : Fin 2048 → EReal) (r : Fin 1024) (j : Fin 3072) : EReal :=
  ∑ k : Fin 2048, tileN x0 x3 x4 p r k * x5 (ix2 k j)

theorem w21_at (x5 : Vec Ideal S2048x3072 .bf16) (k : Fin 2048) (d : Fin 1024) :
    (show FVec Ideal S2048x1024 .bf16 from View.ld x5 r0_21) (ix2 k d) = x5 (ix2 k ⟨d.val, by omega⟩) := by
  pointwise

theorem w23_at (x5 : Vec Ideal S2048x3072 .bf16) (k : Fin 2048) (d : Fin 1024) :
    (show FVec Ideal S2048x1024 .bf16 from View.ld x5 r0_23) (ix2 k d) = x5 (ix2 k ⟨1024 + d.val, by omega⟩) := by
  pointwise

theorem w24_at (x5 : Vec Ideal S2048x3072 .bf16) (k : Fin 2048) (d : Fin 1024) :
    (show FVec Ideal S2048x1024 .bf16 from View.ld x5 r0_24) (ix2 k d) = x5 (ix2 k ⟨2048 + d.val, by omega⟩) := by
  pointwise

theorem mm16_21 (a0 : Vec Ideal S1x1024x2048 .f32) (a1 : Vec Ideal S16x1024 .f32) (a2 : Vec Ideal S64x1024 .f32) (a3 : Vec Ideal S1x6x2048 .f32) (a4 : Vec Ideal S1x2048 .f32) (a5 : Vec Ideal S2048x3072 .bf16) (r : Fin 256) (d : Fin 1024) :
    mm (k0_pay16 (k0_pay32 a0 a1 a2 a3 a4 a5) (k0_pay15 (View.ld a4 r0_17) (View.ld a3 r0_18)) (View.ld a0 r0_19) (View.ld a3 r0_20)) (View.ld a5 r0_21) r d
      = tileU a0 a3 a4 a5 (peRow a1 a2 ⟨r.val, by omega⟩) ⟨r.val, by omega⟩ ⟨d.val, by omega⟩ := by
  unfold mm tileU
  refine Finset.sum_congr rfl fun k _ => Ideal.mul_congr ?_ (w21_at a5 k d)
  rw [pay16_at]
  simp only [pe_at]

theorem mm16_23 (a0 : Vec Ideal S1x1024x2048 .f32) (a1 : Vec Ideal S16x1024 .f32) (a2 : Vec Ideal S64x1024 .f32) (a3 : Vec Ideal S1x6x2048 .f32) (a4 : Vec Ideal S1x2048 .f32) (a5 : Vec Ideal S2048x3072 .bf16) (r : Fin 256) (d : Fin 1024) :
    mm (k0_pay16 (k0_pay32 a0 a1 a2 a3 a4 a5) (k0_pay15 (View.ld a4 r0_17) (View.ld a3 r0_18)) (View.ld a0 r0_19) (View.ld a3 r0_20)) (View.ld a5 r0_23) r d
      = tileU a0 a3 a4 a5 (peRow a1 a2 ⟨r.val, by omega⟩) ⟨r.val, by omega⟩ ⟨1024 + d.val, by omega⟩ := by
  unfold mm tileU
  refine Finset.sum_congr rfl fun k _ => Ideal.mul_congr ?_ (w23_at a5 k d)
  rw [pay16_at]
  simp only [pe_at]

theorem mm16_24 (a0 : Vec Ideal S1x1024x2048 .f32) (a1 : Vec Ideal S16x1024 .f32) (a2 : Vec Ideal S64x1024 .f32) (a3 : Vec Ideal S1x6x2048 .f32) (a4 : Vec Ideal S1x2048 .f32) (a5 : Vec Ideal S2048x3072 .bf16) (r : Fin 256) (d : Fin 1024) :
    mm (k0_pay16 (k0_pay32 a0 a1 a2 a3 a4 a5) (k0_pay15 (View.ld a4 r0_17) (View.ld a3 r0_18)) (View.ld a0 r0_19) (View.ld a3 r0_20)) (View.ld a5 r0_24) r d
      = tileU a0 a3 a4 a5 (peRow a1 a2 ⟨r.val, by omega⟩) ⟨r.val, by omega⟩ ⟨2048 + d.val, by omega⟩ := by
  unfold mm tileU
  refine Finset.sum_congr rfl fun k _ => Ideal.mul_congr ?_ (w24_at a5 k d)
  rw [pay16_at]
  simp only [pe_at]

theorem mm21_21 (a0 : Vec Ideal S1x1024x2048 .f32) (a1 : Vec Ideal S16x1024 .f32) (a2 : Vec Ideal S64x1024 .f32) (a3 : Vec Ideal S1x6x2048 .f32) (a4 : Vec Ideal S1x2048 .f32) (a5 : Vec Ideal S2048x3072 .bf16) (r : Fin 256) (d : Fin 1024) :
    mm (k0_pay21 (k0_pay32 a0 a1 a2 a3 a4 a5) (k0_pay15 (View.ld a4 r0_17) (View.ld a3 r0_18)) (View.ld a0 r0_25) (View.ld a3 r0_20)) (View.ld a5 r0_21) r d
      = tileU a0 a3 a4 a5 (peRow a1 a2 ⟨256 + r.val, by omega⟩) ⟨256 + r.val, by omega⟩ ⟨d.val, by omega⟩ := by
  unfold mm tileU
  refine Finset.sum_congr rfl fun k _ => Ideal.mul_congr ?_ (w21_at a5 k d)
  rw [pay21_at]
  simp only [pe_at]

theorem mm21_23 (a0 : Vec Ideal S1x1024x2048 .f32) (a1 : Vec Ideal S16x1024 .f32) (a2 : Vec Ideal S64x1024 .f32) (a3 : Vec Ideal S1x6x2048 .f32) (a4 : Vec Ideal S1x2048 .f32) (a5 : Vec Ideal S2048x3072 .bf16) (r : Fin 256) (d : Fin 1024) :
    mm (k0_pay21 (k0_pay32 a0 a1 a2 a3 a4 a5) (k0_pay15 (View.ld a4 r0_17) (View.ld a3 r0_18)) (View.ld a0 r0_25) (View.ld a3 r0_20)) (View.ld a5 r0_23) r d
      = tileU a0 a3 a4 a5 (peRow a1 a2 ⟨256 + r.val, by omega⟩) ⟨256 + r.val, by omega⟩ ⟨1024 + d.val, by omega⟩ := by
  unfold mm tileU
  refine Finset.sum_congr rfl fun k _ => Ideal.mul_congr ?_ (w23_at a5 k d)
  rw [pay21_at]
  simp only [pe_at]

theorem mm21_24 (a0 : Vec Ideal S1x1024x2048 .f32) (a1 : Vec Ideal S16x1024 .f32) (a2 : Vec Ideal S64x1024 .f32) (a3 : Vec Ideal S1x6x2048 .f32) (a4 : Vec Ideal S1x2048 .f32) (a5 : Vec Ideal S2048x3072 .bf16) (r : Fin 256) (d : Fin 1024) :
    mm (k0_pay21 (k0_pay32 a0 a1 a2 a3 a4 a5) (k0_pay15 (View.ld a4 r0_17) (View.ld a3 r0_18)) (View.ld a0 r0_25) (View.ld a3 r0_20)) (View.ld a5 r0_24) r d
      = tileU a0 a3 a4 a5 (peRow a1 a2 ⟨256 + r.val, by omega⟩) ⟨256 + r.val, by omega⟩ ⟨2048 + d.val, by omega⟩ := by
  unfold mm tileU
  refine Finset.sum_congr rfl fun k _ => Ideal.mul_congr ?_ (w24_at a5 k d)
  rw [pay21_at]
  simp only [pe_at]

theorem mm26_21 (a0 : Vec Ideal S1x1024x2048 .f32) (a1 : Vec Ideal S16x1024 .f32) (a2 : Vec Ideal S64x1024 .f32) (a3 : Vec Ideal S1x6x2048 .f32) (a4 : Vec Ideal S1x2048 .f32) (a5 : Vec Ideal S2048x3072 .bf16) (r : Fin 256) (d : Fin 1024) :
    mm (k0_pay26 (k0_pay32 a0 a1 a2 a3 a4 a5) (k0_pay15 (View.ld a4 r0_17) (View.ld a3 r0_18)) (View.ld a0 r0_27) (View.ld a3 r0_20)) (View.ld a5 r0_21) r d
      = tileU a0 a3 a4 a5 (peRow a1 a2 ⟨512 + r.val, by omega⟩) ⟨512 + r.val, by omega⟩ ⟨d.val, by omega⟩ := by
  unfold mm tileU
  refine Finset.sum_congr rfl fun k _ => Ideal.mul_congr ?_ (w21_at a5 k d)
  rw [pay26_at]
  simp only [pe_at]

theorem mm26_23 (a0 : Vec Ideal S1x1024x2048 .f32) (a1 : Vec Ideal S16x1024 .f32) (a2 : Vec Ideal S64x1024 .f32) (a3 : Vec Ideal S1x6x2048 .f32) (a4 : Vec Ideal S1x2048 .f32) (a5 : Vec Ideal S2048x3072 .bf16) (r : Fin 256) (d : Fin 1024) :
    mm (k0_pay26 (k0_pay32 a0 a1 a2 a3 a4 a5) (k0_pay15 (View.ld a4 r0_17) (View.ld a3 r0_18)) (View.ld a0 r0_27) (View.ld a3 r0_20)) (View.ld a5 r0_23) r d
      = tileU a0 a3 a4 a5 (peRow a1 a2 ⟨512 + r.val, by omega⟩) ⟨512 + r.val, by omega⟩ ⟨1024 + d.val, by omega⟩ := by
  unfold mm tileU
  refine Finset.sum_congr rfl fun k _ => Ideal.mul_congr ?_ (w23_at a5 k d)
  rw [pay26_at]
  simp only [pe_at]

theorem mm26_24 (a0 : Vec Ideal S1x1024x2048 .f32) (a1 : Vec Ideal S16x1024 .f32) (a2 : Vec Ideal S64x1024 .f32) (a3 : Vec Ideal S1x6x2048 .f32) (a4 : Vec Ideal S1x2048 .f32) (a5 : Vec Ideal S2048x3072 .bf16) (r : Fin 256) (d : Fin 1024) :
    mm (k0_pay26 (k0_pay32 a0 a1 a2 a3 a4 a5) (k0_pay15 (View.ld a4 r0_17) (View.ld a3 r0_18)) (View.ld a0 r0_27) (View.ld a3 r0_20)) (View.ld a5 r0_24) r d
      = tileU a0 a3 a4 a5 (peRow a1 a2 ⟨512 + r.val, by omega⟩) ⟨512 + r.val, by omega⟩ ⟨2048 + d.val, by omega⟩ := by
  unfold mm tileU
  refine Finset.sum_congr rfl fun k _ => Ideal.mul_congr ?_ (w24_at a5 k d)
  rw [pay26_at]
  simp only [pe_at]

theorem mm31_21 (a0 : Vec Ideal S1x1024x2048 .f32) (a1 : Vec Ideal S16x1024 .f32) (a2 : Vec Ideal S64x1024 .f32) (a3 : Vec Ideal S1x6x2048 .f32) (a4 : Vec Ideal S1x2048 .f32) (a5 : Vec Ideal S2048x3072 .bf16) (r : Fin 256) (d : Fin 1024) :
    mm (k0_pay31 (k0_pay32 a0 a1 a2 a3 a4 a5) (k0_pay15 (View.ld a4 r0_17) (View.ld a3 r0_18)) (View.ld a0 r0_29) (View.ld a3 r0_20)) (View.ld a5 r0_21) r d
      = tileU a0 a3 a4 a5 (peRow a1 a2 ⟨768 + r.val, by omega⟩) ⟨768 + r.val, by omega⟩ ⟨d.val, by omega⟩ := by
  unfold mm tileU
  refine Finset.sum_congr rfl fun k _ => Ideal.mul_congr ?_ (w21_at a5 k d)
  rw [pay31_at]
  simp only [pe_at]

theorem mm31_23 (a0 : Vec Ideal S1x1024x2048 .f32) (a1 : Vec Ideal S16x1024 .f32) (a2 : Vec Ideal S64x1024 .f32) (a3 : Vec Ideal S1x6x2048 .f32) (a4 : Vec Ideal S1x2048 .f32) (a5 : Vec Ideal S2048x3072 .bf16) (r : Fin 256) (d : Fin 1024) :
    mm (k0_pay31 (k0_pay32 a0 a1 a2 a3 a4 a5) (k0_pay15 (View.ld a4 r0_17) (View.ld a3 r0_18)) (View.ld a0 r0_29) (View.ld a3 r0_20)) (View.ld a5 r0_23) r d
      = tileU a0 a3 a4 a5 (peRow a1 a2 ⟨768 + r.val, by omega⟩) ⟨768 + r.val, by omega⟩ ⟨1024 + d.val, by omega⟩ := by
  unfold mm tileU
  refine Finset.sum_congr rfl fun k _ => Ideal.mul_congr ?_ (w23_at a5 k d)
  rw [pay31_at]
  simp only [pe_at]

theorem mm31_24 (a0 : Vec Ideal S1x1024x2048 .f32) (a1 : Vec Ideal S16x1024 .f32) (a2 : Vec Ideal S64x1024 .f32) (a3 : Vec Ideal S1x6x2048 .f32) (a4 : Vec Ideal S1x2048 .f32) (a5 : Vec Ideal S2048x3072 .bf16) (r : Fin 256) (d : Fin 1024) :
    mm (k0_pay31 (k0_pay32 a0 a1 a2 a3 a4 a5) (k0_pay15 (View.ld a4 r0_17) (View.ld a3 r0_18)) (View.ld a0 r0_29) (View.ld a3 r0_20)) (View.ld a5 r0_24) r d
      = tileU a0 a3 a4 a5 (peRow a1 a2 ⟨768 + r.val, by omega⟩) ⟨768 + r.val, by omega⟩ ⟨2048 + d.val, by omega⟩ := by
  unfold mm tileU
  refine Finset.sum_congr rfl fun k _ => Ideal.mul_congr ?_ (w24_at a5 k d)
  rw [pay31_at]
  simp only [pe_at]

set_option maxHeartbeats 1600000 in
theorem out6 (a0 : Vec Ideal S1x1024x2048 .f32) (a1 : Vec Ideal S16x1024 .f32) (a2 : Vec Ideal S64x1024 .f32) (a3 : Vec Ideal S1x6x2048 .f32) (a4 : Vec Ideal S1x2048 .f32) (a5 : Vec Ideal S2048x3072 .bf16) (y : S1x1024x1024.Idx) (j : Fin 3072) (hj : j.val = (y 2).val) :
    out0_6 a0 a1 a2 a3 a4 a5 y = tileU a0 a3 a4 a5 (peRow a1 a2 (y 1)) (y 1) j := by
  unfold out0_6 k0_pay35 k0_pay33
  canon_tiles x h
  · have e1 : y 1 = (⟨768 + (x 1).val, by omega⟩ : Fin 1024) := Fin.ext h1
    obtain rfl : j = ⟨(x 2).val, by clear hj; omega⟩ := Fin.ext (by simp only; omega)
    rw [e1]
    clear e1
    idx_vars x
    obtain rfl : x0 = 0 := Subsingleton.elim _ _
    exact (pay1_at _ _ _ _).trans (mm31_21 a0 a1 a2 a3 a4 a5 x1 x2)
  · have e1 : y 1 = (⟨512 + (x 1).val, by omega⟩ : Fin 1024) := Fin.ext h1
    obtain rfl : j = ⟨(x 2).val, by clear hj; omega⟩ := Fin.ext (by simp only; omega)
    rw [e1]
    clear e1
    idx_vars x
    obtain rfl : x0 = 0 := Subsingleton.elim _ _
    exact (pay28_at _ _ _ _ _ _ _).trans (mm26_21 a0 a1 a2 a3 a4 a5 x1 x2)
  · have e1 : y 1 = (⟨256 + (x 1).val, by omega⟩ : Fin 1024) := Fin.ext h1
    obtain rfl : j = ⟨(x 2).val, by clear hj; omega⟩ := Fin.ext (by simp only; omega)
    rw [e1]
    clear e1
    idx_vars x
    obtain rfl : x0 = 0 := Subsingleton.elim _ _
    exact (pay22_at _ _ _ _ _ _ _).trans (mm21_21 a0 a1 a2 a3 a4 a5 x1 x2)
  · have e1 : y 1 = (⟨(x 1).val, by omega⟩ : Fin 1024) := Fin.ext (by omega)
    obtain rfl : j = ⟨(x 2).val, by clear hj; omega⟩ := Fin.ext (by simp only; omega)
    rw [e1]
    clear e1
    idx_vars x
    obtain rfl : x0 = 0 := Subsingleton.elim _ _
    exact (pay17_at _ _ _ _ _ _ _).trans (mm16_21 a0 a1 a2 a3 a4 a5 x1 x2)

set_option maxHeartbeats 1600000 in
theorem out7 (a0 : Vec Ideal S1x1024x2048 .f32) (a1 : Vec Ideal S16x1024 .f32) (a2 : Vec Ideal S64x1024 .f32) (a3 : Vec Ideal S1x6x2048 .f32) (a4 : Vec Ideal S1x2048 .f32) (a5 : Vec Ideal S2048x3072 .bf16) (y : S1x1024x1024.Idx) (j : Fin 3072) (hj : j.val = 1024 + (y 2).val) :
    out0_7 a0 a1 a2 a3 a4 a5 y = tileU a0 a3 a4 a5 (peRow a1 a2 (y 1)) (y 1) j := by
  unfold out0_7 k0_pay35 k0_pay34 k0_pay33
  canon_tiles x h
  · have e1 : y 1 = (⟨768 + (x 1).val, by omega⟩ : Fin 1024) := Fin.ext h1
    obtain rfl : j = ⟨1024 + (x 2).val, by clear hj; omega⟩ := Fin.ext (by simp only; omega)
    rw [e1]
    clear e1
    idx_vars x
    obtain rfl : x0 = 0 := Subsingleton.elim _ _
    exact (pay2_at _ _ _ _).trans (mm31_23 a0 a1 a2 a3 a4 a5 x1 x2)
  · have e1 : y 1 = (⟨512 + (x 1).val, by omega⟩ : Fin 1024) := Fin.ext h1
    obtain rfl : j = ⟨1024 + (x 2).val, by clear hj; omega⟩ := Fin.ext (by simp only; omega)
    rw [e1]
    clear e1
    idx_vars x
    obtain rfl : x0 = 0 := Subsingleton.elim _ _
    exact (pay29_at _ _ _ _).trans (mm26_23 a0 a1 a2 a3 a4 a5 x1 x2)
  · have e1 : y 1 = (⟨256 + (x 1).val, by omega⟩ : Fin 1024) := Fin.ext h1
    obtain rfl : j = ⟨1024 + (x 2).val, by clear hj; omega⟩ := Fin.ext (by simp only; omega)
    rw [e1]
    clear e1
    idx_vars x
    obtain rfl : x0 = 0 := Subsingleton.elim _ _
    exact (pay24_at _ _ _ _ _ _ _).trans (mm21_23 a0 a1 a2 a3 a4 a5 x1 x2)
  · have e1 : y 1 = (⟨(x 1).val, by omega⟩ : Fin 1024) := Fin.ext (by omega)
    obtain rfl : j = ⟨1024 + (x 2).val, by clear hj; omega⟩ := Fin.ext (by simp only; omega)
    rw [e1]
    clear e1
    idx_vars x
    obtain rfl : x0 = 0 := Subsingleton.elim _ _
    exact (pay18_at _ _ _ _ _ _ _).trans (mm16_23 a0 a1 a2 a3 a4 a5 x1 x2)

set_option maxHeartbeats 1600000 in
theorem out8 (a0 : Vec Ideal S1x1024x2048 .f32) (a1 : Vec Ideal S16x1024 .f32) (a2 : Vec Ideal S64x1024 .f32) (a3 : Vec Ideal S1x6x2048 .f32) (a4 : Vec Ideal S1x2048 .f32) (a5 : Vec Ideal S2048x3072 .bf16) (y : S1x1024x1024.Idx) (j : Fin 3072) (hj : j.val = 2048 + (y 2).val) :
    out0_8 a0 a1 a2 a3 a4 a5 y = tileU a0 a3 a4 a5 (peRow a1 a2 (y 1)) (y 1) j := by
  unfold out0_8 k0_pay35 k0_pay34 k0_pay33
  canon_tiles x h
  · have e1 : y 1 = (⟨768 + (x 1).val, by omega⟩ : Fin 1024) := Fin.ext h1
    obtain rfl : j = ⟨2048 + (x 2).val, by clear hj; omega⟩ := Fin.ext (by simp only; omega)
    rw [e1]
    clear e1
    idx_vars x
    obtain rfl : x0 = 0 := Subsingleton.elim _ _
    exact (pay3_at _ _ _ _).trans (mm31_24 a0 a1 a2 a3 a4 a5 x1 x2)
  · have e1 : y 1 = (⟨512 + (x 1).val, by omega⟩ : Fin 1024) := Fin.ext h1
    obtain rfl : j = ⟨2048 + (x 2).val, by clear hj; omega⟩ := Fin.ext (by simp only; omega)
    rw [e1]
    clear e1
    idx_vars x
    obtain rfl : x0 = 0 := Subsingleton.elim _ _
    exact (pay30_at _ _ _ _).trans (mm26_24 a0 a1 a2 a3 a4 a5 x1 x2)
  · have e1 : y 1 = (⟨256 + (x 1).val, by omega⟩ : Fin 1024) := Fin.ext h1
    obtain rfl : j = ⟨2048 + (x 2).val, by clear hj; omega⟩ := Fin.ext (by simp only; omega)
    rw [e1]
    clear e1
    idx_vars x
    obtain rfl : x0 = 0 := Subsingleton.elim _ _
    exact (pay25_at _ _ _ _).trans (mm21_24 a0 a1 a2 a3 a4 a5 x1 x2)
  · have e1 : y 1 = (⟨(x 1).val, by omega⟩ : Fin 1024) := Fin.ext (by omega)
    obtain rfl : j = ⟨2048 + (x 2).val, by clear hj; omega⟩ := Fin.ext (by simp only; omega)
    rw [e1]
    clear e1
    idx_vars x
    obtain rfl : x0 = 0 := Subsingleton.elim _ _
    exact (pay20_at _ _ _ _).trans (mm16_24 a0 a1 a2 a3 a4 a5 x1 x2)

end Cert.InProjIdeal.Value

end
-- ==== Proof.InFinal.lean ====
/- The input projection's three result arrays after the launch, in closed form. -/
module

public import proofs.«01_k».proof.Proof.Gen.InProjIdeal.Value
public import proofs.«01_k».proof.Proof.InRef
public import proofs.«01_k».proof.Proof.InValue
public import Idealize.ShloMosaic.Lib.Claim

@[expose] public section

set_option maxRecDepth 16384

noncomputable section

namespace Cert.InProjIdeal.Value

open Cert.InProjIdeal Cert.InProjIdeal.Gen Idealize.ShloMosaic Idealize.ShloMosaic.TcCoe Idealize.SL.Sem
open Cert.OutMath
open Idealize.ShloMosaic.Pipeline (Dat)
open Cert.InProjRefIdeal.Value (U)

variable (m : (ℓ : Loc nD τ sig) → Buf (Elt Ideal) ℓ)

/-- Every window's block index at a launch point. -/
theorem idx_val : ∀ t : Fin cfg0.N, win0_0.index t = ![t.val % 8, t.val / 8, 0]
    ∧ win0_1.index t = ![t.val / 8, 0]
    ∧ win0_2.index t = ![0, 0]
    ∧ win0_3.index t = ![t.val % 8, 0, 0]
    ∧ win0_4.index t = ![0, 0]
    ∧ win0_5.index t = ![0, 0]
    ∧ win0_6.index t = ![t.val % 8, t.val / 8, 0]
    ∧ win0_7.index t = ![t.val % 8, t.val / 8, 0]
    ∧ win0_8.index t = ![t.val % 8, t.val / 8, 0] :=
  (by decide +kernel : ∀ t : Fin grid0.N, _)

/-- The row table the host makes. -/
theorem tab1 (c : Dev nD) (r : Fin 32) (n : Fin 1024) :
    (show FVec Ideal S32x1024 .f32 from V m c main_v15) (ix2 r n) = enc r.val n.val := by
  entry_read
  pointwise
  rfl

/-- The column table the host makes. -/
theorem tab2 (c : Dev nD) (r : Fin 64) (n : Fin 1024) :
    (show FVec Ideal S64x1024 .f32 from V m c main_v24) (ix2 r n) = enc r.val n.val := by
  entry_read
  pointwise
  rfl

section reads
variable (c : Dev nD) (t : Fin cfg0.N) (b : Fin 8) (hb : b.val = t.val % 8)
include hb

theorem rd0 (r : Fin 1024) (l : Fin 2048) (hl : l.val = t.val / 8 * 1024 + r.val) (k : Fin 2048) :
    (show FVec Ideal S1x1024x2048 .f32 from iblk m c 0 t) (ix3 0 r k) = m ((c : Thread nD τ).loc main_arg0) (ix3 b l k) := by
  blk_ext [iblk, V, idx_val t]
theorem rd3 (j : Fin 6) (k : Fin 2048) :
    (show FVec Ideal S1x6x2048 .f32 from iblk m c 3 t) (ix3 0 j k) = m ((c : Thread nD τ).loc main_arg1) (ix3 ⟨b.val, by omega⟩ j k) := by
  blk_ext [iblk, V, idx_val t]
omit hb
theorem rd4 (k : Fin 2048) :
    (show FVec Ideal S1x2048 .f32 from iblk m c 4 t) (ix2 0 k) = m ((c : Thread nD τ).loc main_arg2) (ix1 k) := by
  refine Eq.trans (b := (show FVec Ideal S1x2048 .f32 from V m c main_v25) (ix2 0 k)) (by blk_ext [iblk, idx_val t]) ?_
  entry_read
  pointwise
theorem rd5 (k : Fin 2048) (n : Fin 3072) :
    (show FVec Ideal S2048x3072 .bf16 from iblk m c 5 t) (ix2 k n) = m ((c : Thread nD τ).loc main_arg3) (ix2 k n) := by
  refine Eq.trans (b := (show FVec Ideal S2048x3072 .bf16 from V m c main_v0) (ix2 k n)) (by blk_ext [iblk, idx_val t]) ?_
  entry_read
  pointwise
theorem rdPos (r : Fin 1024) (l : Fin 2048) (hl : l.val = t.val / 8 * 1024 + r.val) (n : Fin 2048) :
    peRow (iblk m c 1 t) (iblk m c 2 t) r n = pe l.val n.val := by
  have ht : t.val < 16 := lt_of_lt_of_eq t.isLt N_0
  unfold peRow pe
  by_cases h : n.val < 1024
  · rw [dif_pos h, if_pos h]
    refine Eq.trans (b := (show FVec Ideal S32x1024 .f32 from V m c main_v15) (ix2 ⟨t.val / 8 * 16 + r.val / 64, by omega⟩ ⟨n.val, h⟩))
      (by blk_ext [iblk, idx_val t]) ?_
    rw [tab1]
    congr 1
    simp only
    omega
  · rw [dif_neg h, if_neg h]
    refine Eq.trans (b := (show FVec Ideal S64x1024 .f32 from V m c main_v24) (ix2 ⟨r.val % 64, by omega⟩ ⟨n.val - 1024, by omega⟩))
      (by blk_ext [iblk, idx_val t]) ?_
    rw [tab2]
    congr 1
    simp only
    omega

end reads

theorem u_congr {x x' p p' sh sh' sc sc' g g' : Fin 2048 → EReal} {w w' : Fin 2048 → EReal}
    (h0 : x = x') (h1 : p = p') (h2 : sh = sh') (h3 : sc = sc') (h4 : g = g') (h5 : w = w') :
    (∑ k : Fin 2048, OutMath.h2 (fun n => x n + p n) sh sc g k * w k) = ∑ k : Fin 2048, OutMath.h2 (fun n => x' n + p' n) sh' sc' g' k * w' k := by
  subst h0 h1 h2 h3 h4 h5; rfl

theorem tileU_at (c : Dev nD) (t : Fin cfg0.N) (b : Fin 8) (hb : b.val = t.val % 8) (r : Fin 1024) (l : Fin 2048)
    (hl : l.val = t.val / 8 * 1024 + r.val) (j j' : Fin 3072) (hj : j = j') :
    tileU (iblk m c 0 t) (iblk m c 3 t) (iblk m c 4 t) (iblk m c 5 t) (peRow (iblk m c 1 t) (iblk m c 2 t) r) r j
      = U (m ((c : Thread nD τ).loc main_arg0)) (m ((c : Thread nD τ).loc main_arg1)) (m ((c : Thread nD τ).loc main_arg2))
        (m ((c : Thread nD τ).loc main_arg3)) b l j' := by
  subst hj
  unfold U tileU tileN
  exact u_congr (funext (rd0 m c t b hb r l hl)) (funext (rdPos m c t r l hl)) (funext (rd3 m c t b hb 0))
    (funext (rd3 m c t b hb 1)) (funext (rd4 m c t)) (funext fun k => rd5 m c t k j)

theorem final6 (c : Dev nD) : (dats m 0 c).arrAt 6 cfg0.N = fun i : S8x2048x1024.Idx =>
    U (m ((c : Thread nD τ).loc main_arg0)) (m ((c : Thread nD τ).loc main_arg1)) (m ((c : Thread nD τ).loc main_arg2))
        (m ((c : Thread nD τ).loc main_arg3)) (i 0) (i 1) ⟨(i 2).val, lt_of_lt_of_le (i 2).isLt (by decide)⟩ := by
  refine (dats m 0 c).arrAt_eq_of_covers 6 _ (by decide +kernel) fun t hf y => ?_
  blk_simp
  rw [after0_6]
  refine (out6 _ _ _ _ _ _ y ⟨(y 2).val, (by have h : (y 2).val < 1024 := (y 2).isLt; omega)⟩ rfl).trans ?_
  refine tileU_at m c t _ ?_ (y 1) _ ?_ _ _ (Fin.ext ?_)
  all_goals blk_simp [idx_val t]

theorem final7 (c : Dev nD) : (dats m 0 c).arrAt 7 cfg0.N = fun i : S8x2048x1024.Idx =>
    U (m ((c : Thread nD τ).loc main_arg0)) (m ((c : Thread nD τ).loc main_arg1)) (m ((c : Thread nD τ).loc main_arg2))
        (m ((c : Thread nD τ).loc main_arg3)) (i 0) (i 1) ⟨1024 + (i 2).val, (by have h : (i 2).val < 1024 := (i 2).isLt; omega)⟩ := by
  refine (dats m 0 c).arrAt_eq_of_covers 7 _ (by decide +kernel) fun t hf y => ?_
  blk_simp
  rw [after0_7]
  refine (out7 _ _ _ _ _ _ y ⟨1024 + (y 2).val, (by have h : (y 2).val < 1024 := (y 2).isLt; omega)⟩ rfl).trans ?_
  refine tileU_at m c t _ ?_ (y 1) _ ?_ _ _ (Fin.ext ?_)
  all_goals blk_simp [idx_val t]

theorem final8 (c : Dev nD) : (dats m 0 c).arrAt 8 cfg0.N = fun i : S8x2048x1024.Idx =>
    U (m ((c : Thread nD τ).loc main_arg0)) (m ((c : Thread nD τ).loc main_arg1)) (m ((c : Thread nD τ).loc main_arg2))
        (m ((c : Thread nD τ).loc main_arg3)) (i 0) (i 1) ⟨2048 + (i 2).val, (by have h : (i 2).val < 1024 := (i 2).isLt; omega)⟩ := by
  refine (dats m 0 c).arrAt_eq_of_covers 8 _ (by decide +kernel) fun t hf y => ?_
  blk_simp
  rw [after0_8]
  refine (out8 _ _ _ _ _ _ y ⟨2048 + (y 2).val, (by have h : (y 2).val < 1024 := (y 2).isLt; omega)⟩ rfl).trans ?_
  refine tileU_at m c t _ ?_ (y 1) _ ?_ _ _ (Fin.ext ?_)
  all_goals blk_simp [idx_val t]

end Cert.InProjIdeal.Value

end
-- ==== Proof.CtxRef.lean ====
/- The context tokens' input projection: its reference, read at an index. -/
module

public import proofs.«01_k».proof.Proof.Gen.InCtxRefIdeal.Run
public import proofs.«01_k».proof.Proof.Gen.InCtxRefIdeal.Read
public import proofs.«01_k».proof.Proof.OutRef
public import Idealize.ShloMosaic.Lib.Pointwise

@[expose] public section

set_option maxRecDepth 16384

noncomputable section

namespace Cert.InCtxRefIdeal.Read

open Cert.InCtxRefIdeal Cert.InCtxRefIdeal.Gen Idealize.ShloMosaic Idealize.ShloMosaic.TcCoe Idealize.SL.Sem
open Cert.OutMath

/-- The context projection at row `l` of the eight contexts laid end to end: the normed and modulated token against
    column `1024 + d` of the weight. -/
def Uc (x : FVec Ideal S8x256x2048 .f32) (md : FVec Ideal S16x6x2048 .f32) (g : FVec Ideal S2048 .f32)
    (w : FVec Ideal S2048x3072 .f32) (l : Fin 2048) (d : Fin 1024) : EReal :=
  ∑ k : Fin 2048, h2 (fun n => x (ix3 ⟨l.val / 256, by omega⟩ ⟨l.val % 256, by omega⟩ n)) (fun n => md (ix3 8 0 n))
    (fun n => md (ix3 8 1 n)) (fun n => g (ix1 n)) k * w (ix2 k ⟨1024 + d.val, by omega⟩)

theorem v29_at (x : FVec Ideal S8x256x2048 .f32) (md : FVec Ideal S16x6x2048 .f32) (g : FVec Ideal S2048 .f32)
    (w : FVec Ideal S2048x3072 .f32) (l : Fin 2048) (d : Fin 1024) :
    val_main_v29 (F := Ideal) x md g w (ix3 0 l d) = Uc x md g w l d := by
  rw [← val_main_v29_eq]
  pointwise
  unfold Uc h2 rr
  exact Finset.sum_congr (M := EReal) rfl fun k _ => Ideal.mul_congr (Ideal.add_congr (mul_assoc _ _ _) rfl) rfl

end Cert.InCtxRefIdeal.Read

end
-- ==== Proof.CtxFinal.lean ====
/- The context tokens' input projection: its result array after the launch, in closed form. -/
module

public import proofs.«01_k».proof.Proof.Gen.InCtxIdeal.Frame
public import proofs.«01_k».proof.Proof.Gen.InCtxIdeal.Value
public import proofs.«01_k».proof.Proof.CtxRef
public import Idealize.ShloMosaic.Lib.Pointwise
public import Idealize.ShloMosaic.Lib.Claim
public import Idealize.ShloMosaic.Lib.Pipeline.ValueKit

@[expose] public section

set_option maxRecDepth 16384

noncomputable section

namespace Cert.InCtxIdeal.Value

open Cert.InCtxIdeal Cert.InCtxIdeal.Gen Idealize.ShloMosaic Idealize.ShloMosaic.TcCoe Idealize.SL.Sem
open Cert.OutMath
open Idealize.ShloMosaic.Pipeline (Dat)
open Cert.InCtxRefIdeal.Read (Uc)

/-- A tile row normed, modulated and taken against column `d` of the weight's block. -/
def tileC (x0 : Vec Ideal S1x1024x2048 .f32) (x1 : Vec Ideal S1x6x2048 .f32) (x2 : Vec Ideal S1x2048 .f32)
    (x3 : Vec Ideal S2048x1024 .bf16) (r : Fin 1024) (d : Fin 1024) : EReal :=
  ∑ k : Fin 2048, h2 (fun n => x0 (ix3 0 r n)) (fun n => x1 (ix3 0 0 n)) (fun n => x1 (ix3 0 1 n)) (fun n => x2 (ix2 0 n)) k
    * x3 (ix2 k d)

section chunks
variable (x0 : Vec Ideal S1x1024x2048 .f32) (x1 : Vec Ideal S1x6x2048 .f32) (x2 : Vec Ideal S1x2048 .f32)
  (x3 : Vec Ideal S2048x1024 .bf16) (r : Fin 256) (d : Fin 1024)

set_option maxHeartbeats 1600000 in
theorem pay2_at : k0_pay2 (View.ld x2 r0_0) (View.ld x1 r0_1) (View.ld x0 r0_2) (View.ld x1 r0_3) (View.ld x3 r0_4) (ix3 0 r d)
    = tileC x0 x1 x2 x3 ⟨r.val, by omega⟩ d := by
  pointwise [k0_pay2, k0_pay1]
  rfl

set_option maxHeartbeats 1600000 in
theorem pay3_at : k0_pay3 (k0_pay7 x0 x1 x2 x3) (View.ld x0 r0_6) (View.ld x1 r0_3) (View.ld x3 r0_4) (ix3 0 r d)
    = tileC x0 x1 x2 x3 ⟨256 + r.val, by omega⟩ d := by
  pointwise [k0_pay3, k0_pay7, k0_pay1]
  rfl

set_option maxHeartbeats 1600000 in
theorem pay5_at : k0_pay5 (k0_pay4 (k0_pay7 x0 x1 x2 x3) (View.ld x0 r0_8)) (View.ld x1 r0_3) (View.ld x3 r0_4) (ix3 0 r d)
    = tileC x0 x1 x2 x3 ⟨512 + r.val, by omega⟩ d := by
  pointwise [k0_pay5, k0_pay4, k0_pay7, k0_pay1]
  rfl

set_option maxHeartbeats 1600000 in
theorem pay6_at : k0_pay6 (k0_pay7 x0 x1 x2 x3) (View.ld x0 r0_10) (View.ld x1 r0_3) (View.ld x3 r0_4) (ix3 0 r d)
    = tileC x0 x1 x2 x3 ⟨768 + r.val, by omega⟩ d := by
  pointwise [k0_pay6, k0_pay7, k0_pay1]
  rfl

end chunks

set_option maxHeartbeats 1600000 in
theorem out4 (a0 : Vec Ideal S1x1024x2048 .f32) (a1 : Vec Ideal S1x6x2048 .f32) (a2 : Vec Ideal S1x2048 .f32)
    (a3 : Vec Ideal S2048x1024 .bf16) (y : S1x1024x1024.Idx) (j : Fin 1024) (hj : j.val = (y 2).val) :
    out0_4 a0 a1 a2 a3 y = tileC a0 a1 a2 a3 (y 1) j := by
  unfold out0_4
  canon_tiles x h
  · have e1 : y 1 = (⟨768 + (x 1).val, by omega⟩ : Fin 1024) := Fin.ext h1
    obtain rfl : j = ⟨(x 2).val, by clear hj; omega⟩ := Fin.ext (by simp only; omega)
    rw [e1]
    clear e1
    idx_vars x
    obtain rfl : x0 = 0 := Subsingleton.elim _ _
    exact pay6_at a0 a1 a2 a3 x1 x2
  · have e1 : y 1 = (⟨512 + (x 1).val, by omega⟩ : Fin 1024) := Fin.ext h1
    obtain rfl : j = ⟨(x 2).val, by clear hj; omega⟩ := Fin.ext (by simp only; omega)
    rw [e1]
    clear e1
    idx_vars x
    obtain rfl : x0 = 0 := Subsingleton.elim _ _
    exact pay5_at a0 a1 a2 a3 x1 x2
  · have e1 : y 1 = (⟨256 + (x 1).val, by omega⟩ : Fin 1024) := Fin.ext h1
    obtain rfl : j = ⟨(x 2).val, by clear hj; omega⟩ := Fin.ext (by simp only; omega)
    rw [e1]
    clear e1
    idx_vars x
    obtain rfl : x0 = 0 := Subsingleton.elim _ _
    exact pay3_at a0 a1 a2 a3 x1 x2
  · have e1 : y 1 = (⟨(x 1).val, by omega⟩ : Fin 1024) := Fin.ext (by omega)
    obtain rfl : j = ⟨(x 2).val, by clear hj; omega⟩ := Fin.ext (by simp only; omega)
    rw [e1]
    clear e1
    idx_vars x
    obtain rfl : x0 = 0 := Subsingleton.elim _ _
    exact pay2_at a0 a1 a2 a3 x1 x2

variable (m : (ℓ : Loc nD τ sig) → Buf (Elt Ideal) ℓ)

/-- Every window's block index at a launch point. -/
theorem idx_val : ∀ t : Fin cfg0.N, win0_0.index t = ![0, t.val, 0]
    ∧ win0_1.index t = ![8, 0, 0]
    ∧ win0_2.index t = ![0, 0]
    ∧ win0_3.index t = ![0, 1]
    ∧ win0_4.index t = ![0, t.val, 0] :=
  (by decide +kernel : ∀ t : Fin grid0.N, _)

section reads
variable (c : Dev nD) (t : Fin cfg0.N)

theorem rd0 (r : Fin 1024) (l : Fin 2048) (hl : l.val = t.val * 1024 + r.val) (k : Fin 2048) :
    (show FVec Ideal S1x1024x2048 .f32 from iblk m c 0 t) (ix3 0 r k)
      = m ((c : Thread nD τ).loc main_arg0) (ix3 ⟨l.val / 256, by omega⟩ ⟨l.val % 256, by omega⟩ k) := by
  refine Eq.trans (b := (show FVec Ideal S1x2048x2048 .f32 from V m c main_v1) (ix3 0 l k)) (by blk_ext [iblk, idx_val t]) ?_
  entry_read
  pointwise
theorem rd1 (j : Fin 6) (k : Fin 2048) :
    (show FVec Ideal S1x6x2048 .f32 from iblk m c 1 t) (ix3 0 j k) = m ((c : Thread nD τ).loc main_arg1) (ix3 8 j k) := by
  blk_ext [iblk, V, idx_val t]
theorem rd2 (k : Fin 2048) :
    (show FVec Ideal S1x2048 .f32 from iblk m c 2 t) (ix2 0 k) = m ((c : Thread nD τ).loc main_arg2) (ix1 k) := by
  refine Eq.trans (b := (show FVec Ideal S1x2048 .f32 from V m c main_v2) (ix2 0 k)) (by blk_ext [iblk, idx_val t]) ?_
  entry_read
  pointwise
theorem rd3 (k : Fin 2048) (n : Fin 1024) :
    (show FVec Ideal S2048x1024 .bf16 from iblk m c 3 t) (ix2 k n)
      = m ((c : Thread nD τ).loc main_arg3) (ix2 k ⟨1024 + n.val, by omega⟩) := by
  refine Eq.trans (b := (show FVec Ideal S2048x3072 .bf16 from V m c main_v0) (ix2 k ⟨1024 + n.val, by omega⟩))
    (by blk_ext [iblk, idx_val t]) ?_
  entry_read
  pointwise

end reads

theorem c_congr {x x' sh sh' sc sc' g g' : Fin 2048 → EReal} {w w' : Fin 2048 → EReal}
    (h0 : x = x') (h2 : sh = sh') (h3 : sc = sc') (h4 : g = g') (h5 : w = w') :
    (∑ k : Fin 2048, OutMath.h2 x sh sc g k * w k) = ∑ k : Fin 2048, OutMath.h2 x' sh' sc' g' k * w' k := by
  subst h0 h2 h3 h4 h5; rfl

theorem tileC_at (c : Dev nD) (t : Fin cfg0.N) (r : Fin 1024) (l : Fin 2048) (hl : l.val = t.val * 1024 + r.val)
    (j j' : Fin 1024) (hj : j = j') :
    tileC (iblk m c 0 t) (iblk m c 1 t) (iblk m c 2 t) (iblk m c 3 t) r j
      = Uc (m ((c : Thread nD τ).loc main_arg0)) (m ((c : Thread nD τ).loc main_arg1)) (m ((c : Thread nD τ).loc main_arg2))
        (m ((c : Thread nD τ).loc main_arg3)) l j' := by
  subst hj
  unfold Uc tileC
  exact c_congr (funext (rd0 m c t r l hl)) (funext (rd1 m c t 0)) (funext (rd1 m c t 1)) (funext (rd2 m c t))
    (funext fun k => rd3 m c t k j)

theorem final4 (c : Dev nD) : (dats m 0 c).arrAt 4 cfg0.N = fun i : S1x2048x1024.Idx =>
    Uc (m ((c : Thread nD τ).loc main_arg0)) (m ((c : Thread nD τ).loc main_arg1)) (m ((c : Thread nD τ).loc main_arg2))
        (m ((c : Thread nD τ).loc main_arg3)) (i 1) (i 2) := by
  refine (dats m 0 c).arrAt_eq_of_covers 4 _ (by decide +kernel) fun t hf y => ?_
  blk_simp
  rw [after0_4]
  refine (out4 _ _ _ _ y (y 2) rfl).trans ?_
  refine tileC_at m c t (y 1) _ ?_ _ _ (Fin.ext ?_)
  all_goals blk_simp [idx_val t]

end Cert.InCtxIdeal.Value

end
-- ==== Proof.ModFinal.lean ====
/- The modulation: its reference read at an index, and its result array after the launch. -/
module

public import proofs.«01_k».proof.Proof.Gen.ModIdeal.Frame
public import proofs.«01_k».proof.Proof.Gen.ModIdeal.Value
public import proofs.«01_k».proof.Proof.Gen.ModRefIdeal.Run
public import proofs.«01_k».proof.Proof.Gen.ModRefIdeal.Read
public import Idealize.ShloMosaic.Lib.Pointwise
public import Idealize.ShloMosaic.Lib.Claim
public import Idealize.ShloMosaic.Lib.Pipeline.ValueKit

@[expose] public section

set_option maxRecDepth 16384

noncomputable section

namespace Cert.ModRefIdeal.Read

open Cert.ModRefIdeal Cert.ModRefIdeal.Gen Idealize.ShloMosaic Idealize.ShloMosaic.TcCoe Idealize.SL.Sem

/-- The modulation at batch row `b`, column `j`. -/
def Md (x : FVec Ideal S16x2048 .f32) (w : FVec Ideal S2048x12288 .f32) (a : FVec Ideal S12288 .f32)
    (b : Fin 16) (j : Fin 12288) : EReal :=
  (∑ k : Fin 2048, x (ix2 b k) * Ideal.logistic (x (ix2 b k)) * w (ix2 k j)) + a (ix1 j)

theorem v4_at (x : FVec Ideal S16x2048 .f32) (w : FVec Ideal S2048x12288 .f32) (a : FVec Ideal S12288 .f32)
    (b : Fin 16) (j : Fin 12288) :
    val_main_v4 (F := Ideal) x w a (ix2 b j) = Md x w a b j := by
  rw [← val_main_v4_eq]
  pointwise
  rfl

end Cert.ModRefIdeal.Read

namespace Cert.ModIdeal.Value

open Cert.ModIdeal Cert.ModIdeal.Gen Idealize.ShloMosaic Idealize.ShloMosaic.TcCoe Idealize.SL.Sem
open Idealize.ShloMosaic.Pipeline (Dat)
open Cert.ModRefIdeal.Read (Md)

/-- The modulation from the blocks. -/
def tileM (x0 : Vec Ideal S16x2048 .f32) (x1 : Vec Ideal S2048x1024 .f32) (x2 : Vec Ideal S1x1024 .f32)
    (b : Fin 16) (d : Fin 1024) : EReal :=
  (∑ k : Fin 2048, x0 (ix2 b k) * Ideal.logistic (x0 (ix2 b k)) * x1 (ix2 k d)) + x2 (ix2 0 d)

theorem pay1_at (x0 : Vec Ideal S16x2048 .f32) (x1 : Vec Ideal S2048x1024 .f32) (x2 : Vec Ideal S1x1024 .f32)
    (b : Fin 16) (d : Fin 1024) :
    k0_pay1 (View.ld x0 r0_0) (View.ld x1 r0_1) (View.ld x2 r0_2) (ix2 b d) = tileM x0 x1 x2 b d := by
  pointwise [k0_pay1]
  rfl

theorem out3 (a0 : Vec Ideal S16x2048 .f32) (a1 : Vec Ideal S2048x1024 .f32) (a2 : Vec Ideal S1x1024 .f32)
    (y : S16x1024.Idx) : out0_3 a0 a1 a2 y = tileM a0 a1 a2 (y 0) (y 1) := by
  unfold out0_3
  canon_tiles x h
  · obtain rfl : y = x := funext fun a => Fin.ext (by fin_cases a <;> simp_all)
    idx_vars y
    exact pay1_at a0 a1 a2 y0 y1

variable (m : (ℓ : Loc nD τ sig) → Buf (Elt Ideal) ℓ)

/-- Every window's block index at a launch point. -/
theorem idx_val : ∀ t : Fin cfg0.N, win0_0.index t = ![0, 0]
    ∧ win0_1.index t = ![0, t.val]
    ∧ win0_2.index t = ![0, t.val]
    ∧ win0_3.index t = ![0, t.val] :=
  (by decide +kernel : ∀ t : Fin grid0.N, _)

section reads
variable (c : Dev nD) (t : Fin cfg0.N) (d : Fin 1024) (j : Fin 12288) (hj : j.val = t.val * 1024 + d.val)

theorem rd0 (b : Fin 16) (k : Fin 2048) :
    (show FVec Ideal S16x2048 .f32 from iblk m c 0 t) (ix2 b k) = m ((c : Thread nD τ).loc main_arg0) (ix2 b k) := by
  blk_ext [iblk, V, idx_val t]
include hj
theorem rd1 (k : Fin 2048) :
    (show FVec Ideal S2048x1024 .f32 from iblk m c 1 t) (ix2 k d) = m ((c : Thread nD τ).loc main_arg1) (ix2 k j) := by
  blk_ext [iblk, V, idx_val t]
theorem rd2 :
    (show FVec Ideal S1x1024 .f32 from iblk m c 2 t) (ix2 0 d) = m ((c : Thread nD τ).loc main_arg2) (ix1 j) := by
  refine Eq.trans (b := (show FVec Ideal S1x12288 .f32 from V m c main_v0) (ix2 0 j)) (by blk_ext [iblk, idx_val t]) ?_
  entry_read
  pointwise

end reads

theorem m_congr {x x' w w' : Fin 2048 → EReal} {a a' : EReal} (h0 : x = x') (h1 : w = w') (h2 : a = a') :
    (∑ k : Fin 2048, x k * Ideal.logistic (x k) * w k) + a = (∑ k : Fin 2048, x' k * Ideal.logistic (x' k) * w' k) + a' := by
  subst h0 h1 h2; rfl

theorem tileM_at (c : Dev nD) (t : Fin cfg0.N) (b b' : Fin 16) (hb : b = b') (d : Fin 1024) (j : Fin 12288)
    (hj : j.val = t.val * 1024 + d.val) :
    tileM (iblk m c 0 t) (iblk m c 1 t) (iblk m c 2 t) b d
      = Md (m ((c : Thread nD τ).loc main_arg0)) (m ((c : Thread nD τ).loc main_arg1)) (m ((c : Thread nD τ).loc main_arg2)) b' j := by
  subst hb
  unfold Md tileM
  exact m_congr (funext (rd0 m c t b)) (funext (rd1 m c t d j hj)) (rd2 m c t d j hj)

theorem final3 (c : Dev nD) : (dats m 0 c).arrAt 3 cfg0.N = fun i : S16x12288.Idx =>
    Md (m ((c : Thread nD τ).loc main_arg0)) (m ((c : Thread nD τ).loc main_arg1)) (m ((c : Thread nD τ).loc main_arg2))
      (i 0) (i 1) := by
  refine (dats m 0 c).arrAt_eq_of_covers 3 _ (by decide +kernel) fun t hf y => ?_
  blk_simp
  rw [after0_3]
  refine (out3 _ _ _ y).trans ?_
  refine tileM_at m c t _ _ (Fin.ext ?_) (y 1) _ ?_
  all_goals blk_simp [idx_val t]

end Cert.ModIdeal.Value

end
-- ==== Proof.FfnNames.lean ====
/-
  The schedule of the ConvFFN kernel. The grid runs over 8 batches, 2 halves of 1024 rows and 11 blocks of 512 hidden
  columns: point `t` is block `t % 11` of tile `t / 11`, a tile being one half of one batch. A tile's rows of `h2`
  (with the rows its convolution reaches into) travel into one of two slots of a buffer while the tile before is
  computed, its rows of `x1` into a second buffer, and the finished tile from there out to the result.

  Here are the names of those pieces — the slots, the tiles, the semaphore cells — and the closed form of every
  condition and offset of the kernel body at point `t`.
-/
module

public import proofs.«01_k».proof.Defs
public import proofs.«01_k».proof.Proof.OutFinal
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.KitQuiescent
public import Idealize.ShloMosaic.Lib.Pipeline.FrameBody
public import Idealize.ShloMosaic.Lib.Ring
public import Idealize.ShloMosaic.Lib.Affine
public import Idealize.ShloMosaic.Lib.Tactic

@[expose] public section

noncomputable section

namespace Cert.Proof.FfnI

open Cert.FfnIdeal Cert.FfnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Conditions -/

section Conds

theorem cond1_iff : ∀ t : Fin grid0.N, k0_cond1 (grid0.coords t) = 1#1 ↔ t.val % 11 = 0 := by decide +kernel
theorem cond2_iff : ∀ t : Fin grid0.N, k0_cond2 (grid0.coords t) = 1#1 ↔ t.val / 11 = 0 := by decide +kernel
theorem cond3_iff : ∀ t : Fin grid0.N, k0_cond3 (grid0.coords t) = 1#1 ↔ t.val / 11 % 2 = 0 := by decide +kernel
theorem cond4_iff : ∀ t : Fin grid0.N, k0_cond4 (grid0.coords t) = 1#1 ↔ t.val / 11 % 2 = 1 := by decide +kernel
theorem cond5_iff : ∀ t : Fin grid0.N, k0_cond5 (grid0.coords t) = 1#1 ↔ t.val / 11 % 2 = 0 := by decide +kernel
theorem cond6_iff : ∀ t : Fin grid0.N, k0_cond6 (grid0.coords t) = 1#1 ↔ t.val / 11 % 2 = 1 := by decide +kernel
theorem cond7_iff : ∀ t : Fin grid0.N, k0_cond7 (grid0.coords t) = 1#1 ↔ t.val / 11 % 2 = 0 := by decide +kernel
theorem cond8_iff : ∀ t : Fin grid0.N, k0_cond8 (grid0.coords t) = 1#1 ↔ t.val / 11 % 2 = 1 := by decide +kernel
theorem cond9_iff : ∀ t : Fin grid0.N, k0_cond9 (grid0.coords t) = 1#1 ↔ t.val % 11 = 1 := by decide +kernel
theorem cond10_iff : ∀ t : Fin grid0.N, k0_cond10 (grid0.coords t) = 1#1 ↔ t.val / 11 < 15 := by decide +kernel
theorem cond11_iff : ∀ t : Fin grid0.N, k0_cond11 (grid0.coords t) = 1#1 ↔ t.val / 11 % 2 = 1 := by decide +kernel
theorem cond12_iff : ∀ t : Fin grid0.N, k0_cond12 (grid0.coords t) = 1#1 ↔ t.val / 11 % 2 = 0 := by decide +kernel
theorem cond13_iff : ∀ t : Fin grid0.N, k0_cond13 (grid0.coords t) = 1#1 ↔ 0 < t.val / 11 := by decide +kernel
theorem cond14_iff : ∀ t : Fin grid0.N, k0_cond14 (grid0.coords t) = 1#1 ↔ t.val % 11 = 0 := by decide +kernel
theorem cond15_iff : ∀ t : Fin grid0.N, k0_cond15 (grid0.coords t) = 1#1 ↔ 0 < t.val % 11 ∧ t.val % 11 < 10 := by decide +kernel
theorem cond16_iff : ∀ t : Fin grid0.N, k0_cond16 (grid0.coords t) = 1#1 ↔ t.val % 11 = 10 := by decide +kernel
theorem cond17_iff : ∀ t : Fin grid0.N, k0_cond17 (grid0.coords t) = 1#1 ↔ t.val / 11 = 15 := by decide +kernel

end Conds

/-! ## Canonical names: a slot's window, its halo, the slot; a tile of `h2`, of `x1`, of the result; the cells -/

abbrev h2M : Memref sig .tc .hbm S8x2048x2048 .bf16 := Memref.whole main_arg0
abbrev x1M : Memref sig .tc .hbm S8x2048x2048 .f32 := Memref.whole main_arg1
abbrev resM : Memref sig .tc .hbm S8x2048x2048 .f32 := Memref.whole main_v2
abbrev bufM : Memref sig .tc .vmem S2x1056x2048 .bf16 := Memref.whole cc0_scratch0
abbrev accM : Memref sig .tc .vmem S1024x2048 .f32 := Memref.whole cc0_scratch1
abbrev xoM : Memref sig .tc .vmem S1024x2048 .f32 := Memref.whole cc0_scratch2

/-- The slot of tile `T`, its batch, and which half of the batch it is. -/
abbrev sT (T : ℕ) : Fin 2 := Ring.sl 2 T
abbrev bT (T : ℕ) : Fin 8 := Ring.bk 8 (T / 2)
abbrev hT (T : ℕ) : Fin 2 := Ring.sl 2 T

/-- Where slot `s`'s landing window starts: the first half's rows land below the halo, the second half's above it. -/
abbrev winOff (s : Fin 2) : Fin 3 → Nat := ![s.val, 16 - 16 * s.val, 0]
theorem winOff_inb (s : Fin 2) : ∀ a, winOff s a + S1x1040x2048.size a ≤ S2x1056x2048.size a := by
  have := s.isLt; intro a; fin_cases a
  · show s.val + 1 ≤ 2; omega
  · show 16 - 16 * s.val + 1040 ≤ 1056; omega
  · show 0 + 2048 ≤ 2048; omega
abbrev haloOff (s : Fin 2) : Fin 3 → Nat := ![s.val, 1040 * s.val, 0]
theorem haloOff_inb (s : Fin 2) : ∀ a, haloOff s a + S1x16x2048.size a ≤ S2x1056x2048.size a := by
  have := s.isLt; intro a; fin_cases a
  · show s.val + 1 ≤ 2; omega
  · show 1040 * s.val + 16 ≤ 1056; omega
  · show 0 + 2048 ≤ 2048; omega
abbrev slotOff (s : Fin 2) : Fin 3 → Nat := ![s.val, 0, 0]
theorem slotOff_inb (s : Fin 2) : ∀ a, slotOff s a + S1x1056x2048.size a ≤ S2x1056x2048.size a := by
  have := s.isLt; intro a; fin_cases a
  · show s.val + 1 ≤ 2; omega
  · show 0 + 1056 ≤ 1056; omega
  · show 0 + 2048 ≤ 2048; omega
abbrev srcOff (b : Fin 8) (s : Fin 2) : Fin 3 → Nat := ![b.val, 1008 * s.val, 0]
theorem srcOff_inb (b : Fin 8) (s : Fin 2) : ∀ a, srcOff b s a + S1x1040x2048.size a ≤ S8x2048x2048.size a := by
  have := b.isLt; have := s.isLt; intro a; fin_cases a
  · show b.val + 1 ≤ 8; omega
  · show 1008 * s.val + 1040 ≤ 2048; omega
  · show 0 + 2048 ≤ 2048; omega
abbrev tileOff (b : Fin 8) (s : Fin 2) : Fin 3 → Nat := ![b.val, 1024 * s.val, 0]
theorem tileOff_inb (b : Fin 8) (s : Fin 2) : ∀ a, tileOff b s a + S1x1024x2048.size a ≤ S8x2048x2048.size a := by
  have := b.isLt; have := s.isLt; intro a; fin_cases a
  · show b.val + 1 ≤ 8; omega
  · show 1024 * s.val + 1024 ≤ 2048; omega
  · show 0 + 2048 ≤ 2048; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Slot `s`'s landing window, as the body slices and squeezes it. -/
def winM (s : Fin 2) : Memref sig .tc .vmem S1040x2048 .bf16 :=
  (bufM.slice (Rect.unit (s := S2x1056x2048) (winOff s) S1x1040x2048.size (winOff_inb s)) (fun _ => rfl)).squeeze S1040x2048 squeezes_S1x1040x2048_S1040x2048
/-- Slot `s`, whole. -/
def slotM (s : Fin 2) : Memref sig .tc .vmem S1x1056x2048 .bf16 :=
  bufM.slice (Rect.unit (s := S2x1056x2048) (slotOff s) S1x1056x2048.size (slotOff_inb s)) (fun _ => rfl)
/-- The rows of `h2` that half `s` of batch `b` lands. -/
def srcM (b : Fin 8) (s : Fin 2) : Memref sig .tc .hbm S1040x2048 .bf16 :=
  (h2M.slice (Rect.unit (s := S8x2048x2048) (srcOff b s) S1x1040x2048.size (srcOff_inb b s)) (fun _ => rfl)).squeeze S1040x2048 squeezes_S1x1040x2048_S1040x2048
/-- Half `s` of batch `b` of `x1`, -/
def x1T (b : Fin 8) (s : Fin 2) : Memref sig .tc .hbm S1024x2048 .f32 :=
  (x1M.slice (Rect.unit (s := S8x2048x2048) (tileOff b s) S1x1024x2048.size (tileOff_inb b s)) (fun _ => rfl)).squeeze S1024x2048 squeezes_S1x1024x2048_S1024x2048
/-- and of the result. -/
def resT (b : Fin 8) (s : Fin 2) : Memref sig .tc .hbm S1024x2048 .f32 :=
  (resM.slice (Rect.unit (s := S8x2048x2048) (tileOff b s) S1x1024x2048.size (tileOff_inb b s)) (fun _ => rfl)).squeeze S1024x2048 squeezes_S1x1024x2048_S1024x2048
/-- Slot `s`'s semaphore cell; -/
def csm (s : Fin 2) : DmaSems sig S_ := (cc0_scratch3.slice (Rect.unit (s := S2) (semOff s) S1.size (semOff_inb s))).squeeze S_ squeezes_S1_S_
/-- the cell of the `x1` transfers; -/
def xsm : DmaSems sig S_ := (cc0_scratch4.slice (Rect.unit (s := S1) ![0] S1.size inb_S1_S1_0)).squeeze S_ squeezes_S1_S_
/-- the cell of the transfers out. -/
def rsm : DmaSems sig S_ := (cc0_scratch5.slice (Rect.unit (s := S1) ![0] S1.size inb_S1_S1_0)).squeeze S_ squeezes_S1_S_

/-! ## Offsets in closed form -/

section Offs

theorem off1_eq : ∀ t : Fin grid0.N, k0_off1 (grid0.coords t) = semOff (sT (t.val / 11)) := by decide +kernel
theorem off2_eq : ∀ t : Fin grid0.N, t.val / 11 % 2 = 0 → k0_off2 (grid0.coords t) = winOff (sT (t.val / 11)) := by decide +kernel
theorem off3_eq : ∀ t : Fin grid0.N, t.val / 11 % 2 = 0 → k0_off3 (grid0.coords t) = srcOff (bT (t.val / 11)) (sT (t.val / 11)) := by decide +kernel
theorem off7_eq : ∀ t : Fin grid0.N, k0_off7 (grid0.coords t) = semOff (sT (t.val / 11)) := by decide +kernel
theorem off8_eq : ∀ t : Fin grid0.N, t.val / 11 % 2 = 0 → k0_off8 (grid0.coords t) = winOff (sT (t.val / 11)) := by decide +kernel
theorem off9_eq : ∀ t : Fin grid0.N, t.val / 11 % 2 = 0 → k0_off9 (grid0.coords t) = srcOff (bT (t.val / 11)) (sT (t.val / 11)) := by decide +kernel
theorem off10_eq : ∀ t : Fin grid0.N, k0_off10 (grid0.coords t) = semOff (sT (t.val / 11)) := by decide +kernel
theorem off11_eq : ∀ t : Fin grid0.N, t.val / 11 % 2 = 1 → k0_off11 (grid0.coords t) = winOff (sT (t.val / 11)) := by decide +kernel
theorem off12_eq : ∀ t : Fin grid0.N, t.val / 11 % 2 = 1 → k0_off12 (grid0.coords t) = srcOff (bT (t.val / 11)) (sT (t.val / 11)) := by decide +kernel
theorem off13_eq : ∀ t : Fin grid0.N, k0_off13 (grid0.coords t) = slotOff (sT (t.val / 11)) := by decide +kernel
theorem off14_eq : ∀ t : Fin grid0.N, k0_off14 (grid0.coords t) = ![(sT (t.val / 11)).val, 1040, 0] := by decide +kernel
theorem off15_eq : ∀ t : Fin grid0.N, k0_off15 (grid0.coords t) = semOff (sT (t.val / 11 + 1)) := by decide +kernel
theorem off16_eq : ∀ t : Fin grid0.N, t.val / 11 % 2 = 1 → k0_off16 (grid0.coords t) = winOff (sT (t.val / 11 + 1)) := by decide +kernel
theorem off17_eq : ∀ t : Fin grid0.N, t.val / 11 < 15 → t.val / 11 % 2 = 1 → k0_off17 (grid0.coords t) = srcOff (bT (t.val / 11 + 1)) (sT (t.val / 11 + 1)) := by decide +kernel
theorem off18_eq : ∀ t : Fin grid0.N, k0_off18 (grid0.coords t) = semOff (sT (t.val / 11 + 1)) := by decide +kernel
theorem off19_eq : ∀ t : Fin grid0.N, t.val / 11 % 2 = 0 → k0_off19 (grid0.coords t) = winOff (sT (t.val / 11 + 1)) := by decide +kernel
theorem off20_eq : ∀ t : Fin grid0.N, t.val / 11 < 15 → t.val / 11 % 2 = 0 → k0_off20 (grid0.coords t) = srcOff (bT (t.val / 11 + 1)) (sT (t.val / 11 + 1)) := by decide +kernel
theorem off21_eq : ∀ t : Fin grid0.N, 0 < t.val / 11 → k0_off21 (grid0.coords t) = tileOff (bT (t.val / 11 - 1)) (sT (t.val / 11 - 1)) := by decide +kernel
theorem off22_eq : ∀ t : Fin grid0.N, k0_off22 (grid0.coords t) = tileOff (bT (t.val / 11)) (sT (t.val / 11)) := by decide +kernel
theorem off23_eq : ∀ t : Fin grid0.N, k0_off23 (grid0.coords t) = slotOff (sT (t.val / 11)) := by decide +kernel
theorem off24_eq : ∀ t : Fin grid0.N, k0_off24 (grid0.coords t) = slotOff (sT (t.val / 11)) := by decide +kernel
theorem off25_eq : ∀ t : Fin grid0.N, k0_off25 (grid0.coords t) = slotOff (sT (t.val / 11)) := by decide +kernel
theorem off26_eq : ∀ t : Fin grid0.N, k0_off26 (grid0.coords t) = tileOff (bT (t.val / 11)) (sT (t.val / 11)) := by decide +kernel
theorem off27_eq : ∀ t : Fin grid0.N, k0_off27 (grid0.coords t) = tileOff (bT (t.val / 11)) (sT (t.val / 11)) := by decide +kernel

end Offs

instance (s : Fin 2) : ClosedOff (slotOff s) := ⟨slotOff s, rfl⟩
instance (s : Fin 2) : ClosedOff (winOff s) := ⟨winOff s, rfl⟩
instance (t : Fin grid0.N) : ClosedOff (k0_off13 (grid0.coords t)) := ⟨_, off13_eq t⟩
instance (t : Fin grid0.N) : ClosedOff (k0_off14 (grid0.coords t)) := ⟨_, off14_eq t⟩
instance (t : Fin grid0.N) : ClosedOff (k0_off23 (grid0.coords t)) := ⟨_, off23_eq t⟩
instance (t : Fin grid0.N) : ClosedOff (k0_off24 (grid0.coords t)) := ⟨_, off24_eq t⟩
instance (t : Fin grid0.N) : ClosedOff (k0_off25 (grid0.coords t)) := ⟨_, off25_eq t⟩

/-! ## The body's slices under their names -/

section Canon
variable (t : Fin grid0.N)

private theorem csm_congr {off : Fin 1 → Nat} {s : Fin 2} (e : off = semOff s) (hh) :
    (cc0_scratch3.slice (Rect.unit (s := S2) off S1.size hh)).squeeze S_ squeezes_S1_S_ = csm s :=
  congrArg (fun A : DmaSems sig S1 => A.squeeze S_ squeezes_S1_S_) (SemArray.slice_unit_congr _ e _ _)
private theorem win_congr {off : Fin 3 → Nat} {s : Fin 2} (e : off = winOff s) (hh hs) :
    (bufM.slice (Rect.unit (s := S2x1056x2048) off S1x1040x2048.size hh) hs).squeeze S1040x2048 squeezes_S1x1040x2048_S1040x2048 = winM s :=
  congrArg (fun M : Memref sig .tc .vmem S1x1040x2048 .bf16 => M.squeeze S1040x2048 squeezes_S1x1040x2048_S1040x2048) (Memref.slice_unit_congr _ e _ _ _ _)
private theorem src_congr {off : Fin 3 → Nat} {b : Fin 8} {s : Fin 2} (e : off = srcOff b s) (hh hs) :
    (h2M.slice (Rect.unit (s := S8x2048x2048) off S1x1040x2048.size hh) hs).squeeze S1040x2048 squeezes_S1x1040x2048_S1040x2048 = srcM b s :=
  congrArg (fun M : Memref sig .tc .hbm S1x1040x2048 .bf16 => M.squeeze S1040x2048 squeezes_S1x1040x2048_S1040x2048) (Memref.slice_unit_congr _ e _ _ _ _)
private theorem x1T_congr {off : Fin 3 → Nat} {b : Fin 8} {s : Fin 2} (e : off = tileOff b s) (hh hs) :
    (x1M.slice (Rect.unit (s := S8x2048x2048) off S1x1024x2048.size hh) hs).squeeze S1024x2048 squeezes_S1x1024x2048_S1024x2048 = x1T b s :=
  congrArg (fun M : Memref sig .tc .hbm S1x1024x2048 .f32 => M.squeeze S1024x2048 squeezes_S1x1024x2048_S1024x2048) (Memref.slice_unit_congr _ e _ _ _ _)
private theorem resT_congr {off : Fin 3 → Nat} {b : Fin 8} {s : Fin 2} (e : off = tileOff b s) (hh hs) :
    (resM.slice (Rect.unit (s := S8x2048x2048) off S1x1024x2048.size hh) hs).squeeze S1024x2048 squeezes_S1x1024x2048_S1024x2048 = resT b s :=
  congrArg (fun M : Memref sig .tc .hbm S1x1024x2048 .f32 => M.squeeze S1024x2048 squeezes_S1x1024x2048_S1024x2048) (Memref.slice_unit_congr _ e _ _ _ _)

@[sl_canon] theorem c1 (hh) : (cc0_scratch3.slice (Rect.unit (s := S2) (k0_off1 (grid0.coords t)) S1.size hh)).squeeze S_ squeezes_S1_S_ = csm (sT (t.val / 11)) := csm_congr (off1_eq t) _
@[sl_canon] theorem c7 (hh) : (cc0_scratch3.slice (Rect.unit (s := S2) (k0_off7 (grid0.coords t)) S1.size hh)).squeeze S_ squeezes_S1_S_ = csm (sT (t.val / 11)) := csm_congr (off7_eq t) _
@[sl_canon] theorem c10 (hh) : (cc0_scratch3.slice (Rect.unit (s := S2) (k0_off10 (grid0.coords t)) S1.size hh)).squeeze S_ squeezes_S1_S_ = csm (sT (t.val / 11)) := csm_congr (off10_eq t) _
@[sl_canon] theorem c15 (hh) : (cc0_scratch3.slice (Rect.unit (s := S2) (k0_off15 (grid0.coords t)) S1.size hh)).squeeze S_ squeezes_S1_S_ = csm (sT (t.val / 11 + 1)) := csm_congr (off15_eq t) _
@[sl_canon] theorem c18 (hh) : (cc0_scratch3.slice (Rect.unit (s := S2) (k0_off18 (grid0.coords t)) S1.size hh)).squeeze S_ squeezes_S1_S_ = csm (sT (t.val / 11 + 1)) := csm_congr (off18_eq t) _
@[sl_canon] theorem cx (hh) : (cc0_scratch4.slice (Rect.unit (s := S1) ![0] S1.size hh)).squeeze S_ squeezes_S1_S_ = xsm := rfl
@[sl_canon] theorem cr (hh) : (cc0_scratch5.slice (Rect.unit (s := S1) ![0] S1.size hh)).squeeze S_ squeezes_S1_S_ = rsm := rfl

@[sl_canon] theorem w2 (hp : t.val / 11 % 2 = 0) (hh hs) : (bufM.slice (Rect.unit (s := S2x1056x2048) (k0_off2 (grid0.coords t)) S1x1040x2048.size hh) hs).squeeze S1040x2048 squeezes_S1x1040x2048_S1040x2048 = winM (sT (t.val / 11)) := win_congr (off2_eq t hp) _ _
@[sl_canon] theorem w8 (hp : t.val / 11 % 2 = 0) (hh hs) : (bufM.slice (Rect.unit (s := S2x1056x2048) (k0_off8 (grid0.coords t)) S1x1040x2048.size hh) hs).squeeze S1040x2048 squeezes_S1x1040x2048_S1040x2048 = winM (sT (t.val / 11)) := win_congr (off8_eq t hp) _ _
@[sl_canon] theorem w11 (hp : t.val / 11 % 2 = 1) (hh hs) : (bufM.slice (Rect.unit (s := S2x1056x2048) (k0_off11 (grid0.coords t)) S1x1040x2048.size hh) hs).squeeze S1040x2048 squeezes_S1x1040x2048_S1040x2048 = winM (sT (t.val / 11)) := win_congr (off11_eq t hp) _ _
@[sl_canon] theorem w16 (hp : t.val / 11 % 2 = 1) (hh hs) : (bufM.slice (Rect.unit (s := S2x1056x2048) (k0_off16 (grid0.coords t)) S1x1040x2048.size hh) hs).squeeze S1040x2048 squeezes_S1x1040x2048_S1040x2048 = winM (sT (t.val / 11 + 1)) := win_congr (off16_eq t hp) _ _
@[sl_canon] theorem w19 (hp : t.val / 11 % 2 = 0) (hh hs) : (bufM.slice (Rect.unit (s := S2x1056x2048) (k0_off19 (grid0.coords t)) S1x1040x2048.size hh) hs).squeeze S1040x2048 squeezes_S1x1040x2048_S1040x2048 = winM (sT (t.val / 11 + 1)) := win_congr (off19_eq t hp) _ _

@[sl_canon] theorem s3 (hp : t.val / 11 % 2 = 0) (hh hs) : (h2M.slice (Rect.unit (s := S8x2048x2048) (k0_off3 (grid0.coords t)) S1x1040x2048.size hh) hs).squeeze S1040x2048 squeezes_S1x1040x2048_S1040x2048 = srcM (bT (t.val / 11)) (sT (t.val / 11)) := src_congr (off3_eq t hp) _ _
@[sl_canon] theorem s9 (hp : t.val / 11 % 2 = 0) (hh hs) : (h2M.slice (Rect.unit (s := S8x2048x2048) (k0_off9 (grid0.coords t)) S1x1040x2048.size hh) hs).squeeze S1040x2048 squeezes_S1x1040x2048_S1040x2048 = srcM (bT (t.val / 11)) (sT (t.val / 11)) := src_congr (off9_eq t hp) _ _
@[sl_canon] theorem s12 (hp : t.val / 11 % 2 = 1) (hh hs) : (h2M.slice (Rect.unit (s := S8x2048x2048) (k0_off12 (grid0.coords t)) S1x1040x2048.size hh) hs).squeeze S1040x2048 squeezes_S1x1040x2048_S1040x2048 = srcM (bT (t.val / 11)) (sT (t.val / 11)) := src_congr (off12_eq t hp) _ _
@[sl_canon] theorem s17 (hl : t.val / 11 < 15) (hp : t.val / 11 % 2 = 1) (hh hs) : (h2M.slice (Rect.unit (s := S8x2048x2048) (k0_off17 (grid0.coords t)) S1x1040x2048.size hh) hs).squeeze S1040x2048 squeezes_S1x1040x2048_S1040x2048 = srcM (bT (t.val / 11 + 1)) (sT (t.val / 11 + 1)) := src_congr (off17_eq t hl hp) _ _
@[sl_canon] theorem s20 (hl : t.val / 11 < 15) (hp : t.val / 11 % 2 = 0) (hh hs) : (h2M.slice (Rect.unit (s := S8x2048x2048) (k0_off20 (grid0.coords t)) S1x1040x2048.size hh) hs).squeeze S1040x2048 squeezes_S1x1040x2048_S1040x2048 = srcM (bT (t.val / 11 + 1)) (sT (t.val / 11 + 1)) := src_congr (off20_eq t hl hp) _ _

@[sl_canon] theorem x22 (hh hs) : (x1M.slice (Rect.unit (s := S8x2048x2048) (k0_off22 (grid0.coords t)) S1x1024x2048.size hh) hs).squeeze S1024x2048 squeezes_S1x1024x2048_S1024x2048 = x1T (bT (t.val / 11)) (sT (t.val / 11)) := x1T_congr (off22_eq t) _ _
@[sl_canon] theorem x26 (hh hs) : (x1M.slice (Rect.unit (s := S8x2048x2048) (k0_off26 (grid0.coords t)) S1x1024x2048.size hh) hs).squeeze S1024x2048 squeezes_S1x1024x2048_S1024x2048 = x1T (bT (t.val / 11)) (sT (t.val / 11)) := x1T_congr (off26_eq t) _ _
@[sl_canon] theorem r21 (h0 : 0 < t.val / 11) (hh hs) : (resM.slice (Rect.unit (s := S8x2048x2048) (k0_off21 (grid0.coords t)) S1x1024x2048.size hh) hs).squeeze S1024x2048 squeezes_S1x1024x2048_S1024x2048 = resT (bT (t.val / 11 - 1)) (sT (t.val / 11 - 1)) := resT_congr (off21_eq t h0) _ _
@[sl_canon] theorem r26 (hh hs) : (resM.slice (Rect.unit (s := S8x2048x2048) (k0_off26 (grid0.coords t)) S1x1024x2048.size hh) hs).squeeze S1024x2048 squeezes_S1x1024x2048_S1024x2048 = resT (bT (t.val / 11)) (sT (t.val / 11)) := resT_congr (off26_eq t) _ _
@[sl_canon] theorem r27 (hh hs) : (resM.slice (Rect.unit (s := S8x2048x2048) (k0_off27 (grid0.coords t)) S1x1024x2048.size hh) hs).squeeze S1024x2048 squeezes_S1x1024x2048_S1024x2048 = resT (bT (t.val / 11)) (sT (t.val / 11)) := resT_congr (off27_eq t) _ _

end Canon

end Cert.Proof.FfnI

end
-- ==== Proof.FfnPieces.lean ====
/-
  The pieces of the ConvFFN kernel's state and the values its points leave in them: what a slot holds once its rows
  have landed and its halo is zeroed, the accumulator after the first block and after each further one, and the tile
  the last block writes out.
-/
module

public import proofs.«01_k».proof.Proof.FfnNames
public import Idealize.ShloMosaic.Lib.WritesUnit
public import Idealize.ShloMosaic.Lib.VecWindow

@[expose] public section

set_option maxRecDepth 16384

noncomputable section

namespace Cert.Proof.FfnI

open Cert.FfnIdeal Cert.FfnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

theorem of_eq {P Q : sProp 𝕄} (e : P = Q) : P ⊢ Q := e ▸ .rfl

/-! ## Geometry: the elements each piece is on -/

section Geometry

/-- A squeezed slice of one leading row places position `x` at the slice's offsets plus `x`. -/
theorem emb_row {sp : Space} {e : EltTy} {A B C m n : ℕ} (M : Memref sig .tc sp ⟨3, ![A, B, C]⟩ e) (off : Fin 3 → ℕ)
    (inb : ∀ a, off a + (⟨3, ![1, m, n]⟩ : Shape).size a ≤ (⟨3, ![A, B, C]⟩ : Shape).size a) (hr)
    (hq : (⟨3, ![1, m, n]⟩ : Shape).Squeezes ⟨2, ![m, n]⟩) (x : (⟨2, ![m, n]⟩ : Shape).Idx) (k : (⟨3, ![A, B, C]⟩ : Shape).Idx)
    (h0 : (k 0).val = off 0) (h1 : (k 1).val = off 1 + (x 0).val) (h2 : (k 2).val = off 2 + (x 1).val) :
    ((M.slice (Rect.unit (s := ⟨3, ![A, B, C]⟩) off (⟨3, ![1, m, n]⟩ : Shape).size inb) hr).squeeze ⟨2, ![m, n]⟩ hq).view.emb x = M.view.emb k := by
  have e1 : ((M.slice (Rect.unit (s := ⟨3, ![A, B, C]⟩) off (⟨3, ![1, m, n]⟩ : Shape).size inb) hr).squeeze ⟨2, ![m, n]⟩ hq).view.emb x
      = M.view.emb ((Rect.unit (s := ⟨3, ![A, B, C]⟩) off (⟨3, ![1, m, n]⟩ : Shape).size inb).emb (Shape.reshapeEquiv hq.numel_eq x)) := rfl
  rw [e1]
  refine congrArg M.view.emb ?_
  have e2 : Shape.reshapeEquiv hq.numel_eq x = (Fin.cons ⟨0, Nat.one_pos⟩ x : (⟨3, ![1, m, n]⟩ : Shape).Idx) := Shape.reshapeEquiv_cons_one ..
  rw [e2]
  funext a
  apply Fin.ext
  rw [Rect.emb_apply]
  match a with
  | ⟨0, _⟩ => show off 0 + 1 * 0 = (k 0).val; omega
  | ⟨1, _⟩ => show off 1 + 1 * (x 0).val = (k 1).val; omega
  | ⟨2, _⟩ => show off 2 + 1 * (x 1).val = (k 2).val; omega

theorem mem_win (s : Fin 2) (j : S2x1056x2048.Idx) :
    j ∈ (winM s).view.set ↔ (j 0).val = s.val ∧ 16 - 16 * s.val ≤ (j 1).val ∧ (j 1).val < 1056 - 16 * s.val := by
  have e : (winM s).view.set = (Rect.unit (s := S2x1056x2048) (winOff s) S1x1040x2048.size (winOff_inb s)).set :=
    (View.set_reshape _ _).trans (View.set_slice_whole _ _)
  have h1 : (j 1).val < 1056 := (j 1).isLt
  have h2 : (j 2).val < 2048 := (j 2).isLt
  have hs := s.isLt
  refine (Finset.ext_iff.mp e j).trans ?_
  refine Rect.mem_set_unit.trans ?_
  constructor
  · intro H
    have a0 : s.val ≤ (j 0).val ∧ (j 0).val < s.val + 1 := H 0
    have a1 : 16 - 16 * s.val ≤ (j 1).val ∧ (j 1).val < 16 - 16 * s.val + 1040 := H 1
    omega
  · intro H i; fin_cases i
    · show s.val ≤ (j 0).val ∧ (j 0).val < s.val + 1; omega
    · show 16 - 16 * s.val ≤ (j 1).val ∧ (j 1).val < 16 - 16 * s.val + 1040; omega
    · show 0 ≤ (j 2).val ∧ (j 2).val < 0 + 2048; omega

theorem mem_slot (s : Fin 2) (j : S2x1056x2048.Idx) : j ∈ (slotM s).view.set ↔ (j 0).val = s.val := by
  have e : (slotM s).view.set = (Rect.unit (s := S2x1056x2048) (slotOff s) S1x1056x2048.size (slotOff_inb s)).set :=
    View.set_slice_whole _ _
  have h1 : (j 1).val < 1056 := (j 1).isLt
  have h2 : (j 2).val < 2048 := (j 2).isLt
  refine (Finset.ext_iff.mp e j).trans ?_
  refine Rect.mem_set_unit.trans ?_
  constructor
  · intro H
    have a0 : s.val ≤ (j 0).val ∧ (j 0).val < s.val + 1 := H 0
    omega
  · intro H i; fin_cases i
    · show s.val ≤ (j 0).val ∧ (j 0).val < s.val + 1; omega
    · show 0 ≤ (j 1).val ∧ (j 1).val < 0 + 1056; omega
    · show 0 ≤ (j 2).val ∧ (j 2).val < 0 + 2048; omega

theorem win_sub (s : Fin 2) : (winM s).view.set ⊆ (slotM s).view.set := fun j hj => (mem_slot s j).mpr ((mem_win s j).mp hj).1

end Geometry

/-! ## Values -/

section Values
variable (XH : S8x2048x2048.Idx → Elt F .bf16)

/-- What slot `s` holds for batch `b`: row `r` of it is row `r + 1024 s - 16` of the batch, zero outside the batch. -/
def slotV (b : Fin 8) (s : Fin 2) : Vec F S1x1056x2048 .bf16 := fun y =>
  if h : 16 - 16 * s.val ≤ (y 1).val ∧ (y 1).val < 1056 - 16 * s.val then
    XH (ix3 b ⟨(y 1).val + 1024 * s.val - 16, by have := s.isLt; omega⟩ ⟨(y 2).val, (y 2).isLt⟩)
  else Scalar.ofBits .bf16 0x0000#16

/-- The same as contents of the two-slot buffer. -/
def slotB (b : Fin 8) (s : Fin 2) : S2x1056x2048.Idx → Elt F .bf16 := fun j => slotV XH b s (ix3 (0 : Fin 1) (j 1) (j 2))

theorem slotB_in (b : Fin 8) (s : Fin 2) (j : S2x1056x2048.Idx) (h : 16 - 16 * s.val ≤ (j 1).val ∧ (j 1).val < 1056 - 16 * s.val) :
    slotB XH b s j = XH (ix3 b ⟨(j 1).val + 1024 * s.val - 16, by have := s.isLt; omega⟩ ⟨(j 2).val, (j 2).isLt⟩) := by
  unfold slotB slotV
  exact dif_pos (c := 16 - 16 * s.val ≤ (j 1).val ∧ (j 1).val < 1056 - 16 * s.val) h
theorem slotB_out (b : Fin 8) (s : Fin 2) (j : S2x1056x2048.Idx) (h : ¬(16 - 16 * s.val ≤ (j 1).val ∧ (j 1).val < 1056 - 16 * s.val)) :
    slotB XH b s j = Scalar.ofBits .bf16 0x0000#16 := by
  unfold slotB slotV
  exact dif_neg (c := 16 - 16 * s.val ≤ (j 1).val ∧ (j 1).val < 1056 - 16 * s.val) h

abbrev RW : Rect S2048x512 := Rect.unit (s := S2048x512) ![0, 0] S2048x512.size inb_S2048x512_S2048x512_0_0
abbrev RD : Rect S512x2048 := Rect.unit (s := S512x2048) ![0, 0] S512x2048.size inb_S512x2048_S512x2048_0_0
abbrev RB : Rect S1x512 := Rect.unit (s := S1x512) ![0, 0] S1x512.size inb_S1x512_S1x512_0_0
abbrev RC0 : Rect S3x512 := Rect.unit (s := S3x512) ![0, 0] S1x512.size inb_S3x512_S1x512_0_0
abbrev RC1 : Rect S3x512 := Rect.unit (s := S3x512) ![1, 0] S1x512.size inb_S3x512_S1x512_1_0
abbrev RC2 : Rect S3x512 := Rect.unit (s := S3x512) ![2, 0] S1x512.size inb_S3x512_S1x512_2_0
abbrev RA : Rect S1024x2048 := Rect.unit (s := S1024x2048) ![0, 0] S1024x2048.size inb_S1024x2048_S1024x2048_0_0
abbrev RM : Rect S1x6x2048 := Rect.unit (s := S1x6x2048) ![0, 5, 0] S1x1x2048.size inb_S1x6x2048_S1x1x2048_0_5_0
abbrev RG : Rect S1x2048 := Rect.unit (s := S1x2048) ![0, 0] S1x2048.size inb_S1x2048_S1x2048_0_0
abbrev RQ0 : Rect S1024x2048 := Rect.unit (s := S1024x2048) ![0, 0] S256x2048.size inb_S1024x2048_S256x2048_0_0
abbrev RQ1 : Rect S1024x2048 := Rect.unit (s := S1024x2048) ![256, 0] S256x2048.size inb_S1024x2048_S256x2048_256_0
abbrev RQ2 : Rect S1024x2048 := Rect.unit (s := S1024x2048) ![512, 0] S256x2048.size inb_S1024x2048_S256x2048_512_0
abbrev RQ3 : Rect S1024x2048 := Rect.unit (s := S1024x2048) ![768, 0] S256x2048.size inb_S1024x2048_S256x2048_768_0

variable (L : Vec F S1x1056x2048 .bf16) (x5 x6 : Vec F S2048x512 .f32) (x7 x8 : Vec F S3x512 .f32) (x9 x10 : Vec F S1x512 .f32)
  (x11 : Vec F S512x2048 .f32) (x12 : Vec F S1x6x2048 .f32) (x13 : Vec F S1x2048 .f32) (A X : Vec F S1024x2048 .f32)

/-- The accumulator after a tile's first block. -/
def accFst : Vec F S1024x2048 .f32 :=
  k0_pay9 (k0_pay6 L (View.ld x5 RW) (View.ld x9 RB) (View.ld x7 RC0) (View.ld x7 RC1) (View.ld x7 RC2)) (k0_pay7 L (View.ld x6 RW))
    (k0_pay8 (View.ld x10 RB)) (Scalar.ofBits .f32 0x00000000#32) (View.ld x8 RC0) (View.ld x8 RC1) (View.ld x8 RC2) (View.ld x11 RD)
/-- The accumulator after a further block, from `A` before it. -/
def accNxt : Vec F S1024x2048 .f32 :=
  k0_pay4 (k0_pay12 (View.ld A RA) (k0_pay10 L (View.ld x5 RW) (View.ld x9 RB) (View.ld x7 RC0) (View.ld x7 RC1) (View.ld x7 RC2)) (k0_pay11 L (View.ld x6 RW))
    (View.ld x10 RB) (View.ld x8 RC0) (View.ld x8 RC1) (View.ld x8 RC2) (View.ld x11 RD))
/-- The last block's two factors. -/
def finL : FVec F S1024x512 .bf16 :=
  k0_pay16 (k0_pay13 L (View.ld x5 RW) (View.ld x9 RB) (View.ld x7 RC0) (View.ld x7 RC1) (View.ld x7 RC2)) (k0_pay14 L (View.ld x6 RW))
    (k0_pay15 (View.ld x10 RB)) (Scalar.ofBits .f32 0x00000000#32) (View.ld x8 RC0) (View.ld x8 RC1) (View.ld x8 RC2)
def finR : FVec F S512x2048 .bf16 := k0_pay17 (View.ld x11 RD)
/-- The last block's stores into the output buffer, from the accumulator `A` and the tile `X` of `x1`: four chunks of 256 rows. -/
def tileL : List (View.Piece (Elt F) S1024x2048 .f32) :=
  [
    ⟨RQ3, k0_pay5 (k0_pay18 (View.ld x12 RM) (View.ld x13 RG)) (k0_pay24 (finL L x5 x6 x7 x8 x9 x10) (finR x11) (View.ld A RQ3)) (View.ld X RQ3) (k0_pay25 (finL L x5 x6 x7 x8 x9 x10) (finR x11) (View.ld A RQ3))⟩,
    ⟨RQ2, k0_pay23 (finL L x5 x6 x7 x8 x9 x10) (finR x11) (k0_pay18 (View.ld x12 RM) (View.ld x13 RG)) (View.ld A RQ2) (View.ld X RQ2)⟩,
    ⟨RQ1, k0_pay22 (k0_pay18 (View.ld x12 RM) (View.ld x13 RG)) (k0_pay20 (finL L x5 x6 x7 x8 x9 x10) (finR x11) (View.ld A RQ1)) (View.ld X RQ1) (k0_pay21 (finL L x5 x6 x7 x8 x9 x10) (finR x11) (View.ld A RQ1))⟩,
    ⟨RQ0, k0_pay19 (finL L x5 x6 x7 x8 x9 x10) (finR x11) (View.ld x12 RM) (View.ld x13 RG) (View.ld A RQ0) (View.ld X RQ0)⟩]
/-- The tile they leave. -/
def tileV : Vec F S1024x2048 .f32 := View.canon (tileL L x5 x6 x7 x8 x9 x10 x11 x12 x13 A X)

/-- The slot read as a whole is its vector. -/
theorem read_slot (b : Fin 8) (s : Fin 2) {off : Fin 3 → ℕ} (e : off = slotOff s) (hh) :
    bufM.view.readAt (Elt F) (Rect.unit (s := S2x1056x2048) off S1x1056x2048.size hh).toLoadRect (slotB XH b s) = slotV XH b s := by
  subst e
  funext y
  show slotV XH b s _ = slotV XH b s y
  refine congrArg (slotV XH b s) (funext fun a => Fin.ext ?_)
  match a with
  | ⟨0, _⟩ => have h : (y 0).val < 1 := (y 0).isLt; show 0 = (y 0).val; omega
  | ⟨1, _⟩ => show 0 + 1 * (y 1).val = (y 1).val; omega
  | ⟨2, _⟩ => show 0 + 1 * (y 2).val = (y 2).val; omega

/-- A whole buffer read through its own view is its contents; a landing window's and a tile's read are at their elements. -/
theorem read_acc (f : S1024x2048.Idx → Elt F .f32) : accM.view.read (Elt F) f = f := rfl
theorem read_xo (f : S1024x2048.Idx → Elt F .f32) : xoM.view.read (Elt F) f = f := rfl
theorem read_buf (f : S2x1056x2048.Idx → Elt F .bf16) : bufM.view.read (Elt F) f = f := rfl
theorem read_win (s : Fin 2) (f : S2x1056x2048.Idx → Elt F .bf16) (x : S1040x2048.Idx) : (winM s).view.read (Elt F) f x = f ((winM s).view.emb x) := rfl
theorem read_src (b : Fin 8) (s : Fin 2) (f : S8x2048x2048.Idx → Elt F .bf16) (x : S1040x2048.Idx) : (srcM b s).view.read (Elt F) f x = f ((srcM b s).view.emb x) := rfl

theorem tile_cover (y : S1024x2048.Idx) : ∃ p ∈ tileL L x5 x6 x7 x8 x9 x10 x11 x12 x13 A X, y ∈ p.1.set := by
  have h0 : (y 0).val < 1024 := (y 0).isLt
  have h1 : (y 1).val < 2048 := (y 1).isLt
  have key : ∀ (o : ℕ) (inb), o ≤ (y 0).val → (y 0).val < o + 256 → y ∈ (Rect.unit (s := S1024x2048) ![o, 0] S256x2048.size inb).set := by
    intro o inb ha hb
    rw [Rect.mem_set_unit]
    intro i; fin_cases i
    · exact ⟨ha, hb⟩
    · exact ⟨Nat.zero_le _, (Nat.zero_add 2048).symm ▸ h1⟩
  unfold tileL
  by_cases c3 : 768 ≤ (y 0).val
  · exact ⟨_, .head _, key 768 inb_S1024x2048_S256x2048_768_0 c3 (by omega)⟩
  by_cases c2 : 512 ≤ (y 0).val
  · exact ⟨_, .tail _ (.head _), key 512 inb_S1024x2048_S256x2048_512_0 c2 (by omega)⟩
  by_cases c1 : 256 ≤ (y 0).val
  · exact ⟨_, .tail _ (.tail _ (.head _)), key 256 inb_S1024x2048_S256x2048_256_0 c1 (by omega)⟩
  · exact ⟨_, .tail _ (.tail _ (.tail _ (.head _))), key 0 inb_S1024x2048_S256x2048_0_0 (by omega) (by omega)⟩
theorem writes_tile (f : S1024x2048.Idx → Elt F .f32) :
    xoM.view.writes (Elt F) f (tileL L x5 x6 x7 x8 x9 x10 x11 x12 x13 A X) = tileV L x5 x6 x7 x8 x9 x10 x11 x12 x13 A X :=
  (read_xo (xoM.view.writes (Elt F) f (tileL L x5 x6 x7 x8 x9 x10 x11 x12 x13 A X))).symm.trans
    (View.read_writes_eq_canon xoM.view f (tileL L x5 x6 x7 x8 x9 x10 x11 x12 x13 A X) (tile_cover L x5 x6 x7 x8 x9 x10 x11 x12 x13 A X))

/-- A store of the whole accumulator leaves what is stored. -/
theorem acc_whole (f p : S1024x2048.Idx → Elt F .f32) : accM.view.writes (Elt F) f [⟨RA, p⟩] = p := by
  rw [← read_acc (accM.view.writes (Elt F) f [⟨RA, p⟩])]
  exact View.read_writes_full accM.view f inb_S1024x2048_S1024x2048_0_0 p []

end Values

/-! ## Pieces -/

section Pieces
variable (c : Dev nD) (XH : S8x2048x2048.Idx → Elt F .bf16) (XX : S8x2048x2048.Idx → Elt F .f32)

abbrev heldP {sp : Space} {s : Shape} {e : EltTy} (M : Memref sig .tc sp s e) (f : Buf (Elt F) (M.view.loc (c : Thread nD τ))) : sProp 𝕄 :=
  M.view.loc (c : Thread nD τ) ↦[M.view.set]{fullShare} f
abbrev cellP (A : DmaSems sig S_) : sProp 𝕄 := semVal ((c : Thread nD τ), SemLoc.dma A.sem) 0

/-- What the transfer of half `s` of batch `b` leaves in slot `s`'s window over prior contents `f`; the transfer itself
    under way. -/
abbrev landH (b : Fin 8) (s : Fin 2) (f : Buf (Elt F) ((winM s).view.loc (c : Thread nD τ))) : Buf (Elt F) ((winM s).view.loc (c : Thread nD τ)) :=
  (winM s).view.writes (Elt F) f [⟨Rect.whole S1040x2048, ReadAs.same.apply ((srcM b s).view.read (Elt F) XH)⟩]
abbrev flyH (b : Fin 8) (s : Fin 2) (f : Buf (Elt F) ((winM s).view.loc (c : Thread nD τ))) : sProp 𝕄 :=
  Transfers.Flight countersEmb (c : Thread nD τ) (SemLoc.dma (csm s).sem) () 133120 iprop(heldP c (winM s) (landH c XH b s f) ∗ heldP c (srcM b s) XH)
/-- The same for a tile of `x1` into the output buffer, -/
abbrev landX (b : Fin 8) (s : Fin 2) (f : Buf (Elt F) (xoM.view.loc (c : Thread nD τ))) : Buf (Elt F) (xoM.view.loc (c : Thread nD τ)) :=
  xoM.view.writes (Elt F) f [⟨Rect.whole S1024x2048, ReadAs.same.apply ((x1T b s).view.read (Elt F) XX)⟩]
/-- (which are the tile's values), -/
abbrev x1V (b : Fin 8) (s : Fin 2) : S1024x2048.Idx → Elt F .f32 := (x1T b s).view.read (Elt F) XX
abbrev flyX (b : Fin 8) (s : Fin 2) : sProp 𝕄 :=
  Transfers.Flight countersEmb (c : Thread nD τ) (SemLoc.dma xsm.sem) () 262144 iprop(heldP c xoM (x1V XX b s) ∗ heldP c (x1T b s) XX)
theorem flyX_of (b : Fin 8) (s : Fin 2) (f : Buf (Elt F) (xoM.view.loc (c : Thread nD τ))) :
    Transfers.Flight countersEmb (c : Thread nD τ) (SemLoc.dma xsm.sem) () 262144 iprop(heldP c xoM (landX c XX b s f) ∗ heldP c (x1T b s) XX)
      ⊢ (flyX c XX b s : sProp 𝕄) := by
  have e : landX c XX b s f = x1V XX b s :=
    (read_xo (landX c XX b s f)).symm.trans (View.read_writes_whole xoM.view f (ReadAs.same.apply ((x1T b s).view.read (Elt F) XX)))
  rw [e]
/-- and for the finished tile `v` from there out to the result. -/
abbrev landR (b : Fin 8) (s : Fin 2) (v : S1024x2048.Idx → Elt F .f32) (f : Buf (Elt F) ((resT b s).view.loc (c : Thread nD τ))) : Buf (Elt F) ((resT b s).view.loc (c : Thread nD τ)) :=
  (resT b s).view.writes (Elt F) f [⟨Rect.whole S1024x2048, ReadAs.same.apply (xoM.view.read (Elt F) v)⟩]
abbrev flyR (b : Fin 8) (s : Fin 2) (v : S1024x2048.Idx → Elt F .f32) (f : Buf (Elt F) ((resT b s).view.loc (c : Thread nD τ))) : sProp 𝕄 :=
  Transfers.Flight countersEmb (c : Thread nD τ) (SemLoc.dma rsm.sem) () 262144 iprop(heldP c (resT b s) (landR c b s v f) ∗ heldP c xoM v)

/-- Slot `s`'s halo rows held. -/
def haloP (s : Fin 2) (g : Buf (Elt F) (bufM.view.loc (c : Thread nD τ))) : sProp 𝕄 :=
  bufM.view.loc (c : Thread nD τ) ↦[(slotM s).view.set \ (winM s).view.set]{fullShare} g

/-- Window and halo are the slot. -/
theorem slot_join (s : Fin 2) (f g : Buf (Elt F) (bufM.view.loc (c : Thread nD τ))) :
    iprop(heldP c (winM s) f ∗ haloP c s g) ⊢ (iprop(∃ h : Buf (Elt F) (bufM.view.loc (c : Thread nD τ)), ⌜∀ j ∈ (winM s).view.set, h j = f j⌝ ∗ heldP c (slotM s) h) : sProp 𝕄) := by
  unfold haloP
  iintro ⟨H, G⟩
  iexists ((winM s).view.set.piecewise f g)
  isplitr
  · ipureintro; intro j hj; exact Finset.piecewise_eq_of_mem _ _ _ hj
  iapply (pointsTo_join_subset (win_sub s))
  isplitl [H]
  · iexact H
  iexact G
theorem slot_split (s : Fin 2) (f : Buf (Elt F) (bufM.view.loc (c : Thread nD τ))) :
    heldP c (slotM s) f ⊢ (iprop(heldP c (winM s) f ∗ haloP c s f) : sProp 𝕄) := (pointsTo_split_subset (win_sub s)).1

/-- What the landing window holds: the rows of `h2`. -/
theorem landH_eq (b : Fin 8) (s : Fin 2) (f : Buf (Elt F) ((winM s).view.loc (c : Thread nD τ))) (j : S2x1056x2048.Idx)
    (hj : j ∈ (winM s).view.set) : landH c XH b s f j = slotB XH b s j := by
  obtain ⟨h0, h1, h2⟩ := (mem_win s j).mp hj
  have hs := s.isLt
  have hj2 : (j 2).val < 2048 := (j 2).isLt
  obtain ⟨x, hx⟩ : ∃ x : S1040x2048.Idx, (x 0).val = (j 1).val - (16 - 16 * s.val) ∧ (x 1).val = (j 2).val :=
    ⟨ix2 ⟨(j 1).val - (16 - 16 * s.val), by omega⟩ ⟨(j 2).val, hj2⟩, rfl, rfl⟩
  have ej : (winM s).view.emb x = j := by
    refine emb_row bufM (winOff s) (winOff_inb s) (fun _ => rfl) squeezes_S1x1040x2048_S1040x2048 x j h0 ?_ ?_
    · show (j 1).val = 16 - 16 * s.val + (x 0).val; omega
    · show (j 2).val = 0 + (x 1).val; omega
  have e1 : landH c XH b s f j = (srcM b s).view.read (Elt F) XH x := by
    have h := congrFun (View.read_writes_whole (winM s).view f (ReadAs.same.apply ((srcM b s).view.read (Elt F) XH))) x
    have h' := (read_win s (landH c XH b s f) x).symm.trans h
    rw [ej] at h'
    exact h'
  rw [e1]
  have e3 : (srcM b s).view.emb x = ix3 b ⟨(j 1).val + 1024 * s.val - 16, by omega⟩ ⟨(j 2).val, hj2⟩ := by
    refine emb_row h2M (srcOff b s) (srcOff_inb b s) (fun _ => rfl) squeezes_S1x1040x2048_S1040x2048 x
      (ix3 b ⟨(j 1).val + 1024 * s.val - 16, by omega⟩ ⟨(j 2).val, hj2⟩) rfl ?_ ?_
    · show (j 1).val + 1024 * s.val - 16 = 1008 * s.val + (x 0).val; omega
    · show (j 2).val = 0 + (x 1).val; omega
  rw [read_src, e3]
  exact (slotB_in XH b s j ⟨h1, h2⟩).symm

/-- The landed window with the halo zeroed is the slot complete. -/
theorem slot_fill (b : Fin 8) (s : Fin 2) (f : Buf (Elt F) ((winM s).view.loc (c : Thread nD τ))) (fs : S2x1056x2048.Idx → Elt F .bf16)
    (hfs : ∀ j ∈ (winM s).view.set, fs j = landH c XH b s f j) {off : Fin 3 → ℕ} (e : off = haloOff s) (hh)
    (p : S1x16x2048.Idx → Elt F .bf16) (hp : ∀ y, p y = Scalar.ofBits .bf16 0x0000#16) (j : S2x1056x2048.Idx) (hj : j ∈ (slotM s).view.set) :
    bufM.view.writes (Elt F) fs [⟨Rect.unit (s := S2x1056x2048) off S1x16x2048.size hh, p⟩] j = slotB XH b s j := by
  have h0 := (mem_slot s j).mp hj
  have hs := s.isLt
  have hj1 : (j 1).val < 1056 := (j 1).isLt
  rw [← read_buf (bufM.view.writes (Elt F) fs [⟨Rect.unit (s := S2x1056x2048) off S1x16x2048.size hh, p⟩])]
  by_cases hw : j ∈ (winM s).view.set
  · have hw' := (mem_win s j).mp hw
    refine (View.read_writes_cons_unit_of_not_mem bufM.view fs hh p [] j e 1 ?_).trans ((hfs j hw).trans (landH_eq c XH b s f j hw))
    show (j 1).val < 1040 * s.val ∨ 1040 * s.val + 16 ≤ (j 1).val
    omega
  · have hw' : ¬ (16 - 16 * s.val ≤ (j 1).val ∧ (j 1).val < 1056 - 16 * s.val) := fun h => hw ((mem_win s j).mpr ⟨h0, h⟩)
    refine (View.read_writes_cons_unit_of_mem bufM.view fs hh p [] j (ix3 (0 : Fin 1) ⟨(j 1).val - 1040 * s.val, by omega⟩ (j 2)) e ?_).trans ((hp _).trans ?_)
    · intro a
      match a with
      | ⟨0, _⟩ => show (j 0).val = s.val + 0; omega
      | ⟨1, _⟩ => show (j 1).val = 1040 * s.val + ((j 1).val - 1040 * s.val); omega
      | ⟨2, _⟩ => show (j 2).val = 0 + (j 2).val; omega
    · exact (slotB_out XH b s j hw').symm

theorem slot_conv (b : Fin 8) (s : Fin 2) (f : Buf (Elt F) ((winM s).view.loc (c : Thread nD τ))) (fs : S2x1056x2048.Idx → Elt F .bf16)
    (hfs : ∀ j ∈ (winM s).view.set, fs j = landH c XH b s f j) {off : Fin 3 → ℕ} (e : off = haloOff s) (hh)
    (p : S1x16x2048.Idx → Elt F .bf16) (hp : ∀ y, p y = Scalar.ofBits .bf16 0x0000#16) :
    heldP c (slotM s) (bufM.view.writes (Elt F) fs [⟨Rect.unit (s := S2x1056x2048) off S1x16x2048.size hh, p⟩])
      ⊢ (heldP c (slotM s) (slotB XH b s) : sProp 𝕄) :=
  of_eq (pointsTo_congr fun j hj => slot_fill c XH b s f fs hfs e hh p hp j hj)

end Pieces

end Cert.Proof.FfnI

end
-- ==== Proof.FfnRun.lean ====
/-
  The ConvFFN kernel's body at every kind of point: what it needs held, and what it leaves. A tile's first block lands
  and completes the slot, its second starts the next tile's transfers, its last writes the finished tile out.
-/
module

public import proofs.«01_k».proof.Proof.FfnPieces

@[expose] public section

set_option maxRecDepth 16384

noncomputable section

namespace Cert.Proof.FfnI

open Cert.FfnIdeal Cert.FfnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Body
variable (t : Fin grid0.N)
  (arg5 : Memref sig .tc .vmem S2048x512 .f32) (harg5 : arg5.IsWhole)
  (arg6 : Memref sig .tc .vmem S2048x512 .f32) (harg6 : arg6.IsWhole)
  (arg7 : Memref sig .tc .vmem S3x512 .f32) (harg7 : arg7.IsWhole)
  (arg8 : Memref sig .tc .vmem S3x512 .f32) (harg8 : arg8.IsWhole)
  (arg9 : Memref sig .tc .vmem S1x512 .f32) (harg9 : arg9.IsWhole)
  (arg10 : Memref sig .tc .vmem S1x512 .f32) (harg10 : arg10.IsWhole)
  (arg11 : Memref sig .tc .vmem S512x2048 .f32) (harg11 : arg11.IsWhole)
  (arg12 : Memref sig .tc .vmem S1x6x2048 .f32) (harg12 : arg12.IsWhole)
  (arg13 : Memref sig .tc .vmem S1x2048 .f32) (harg13 : arg13.IsWhole)

/-- The kernel body at point `t` on the nine staged blocks. -/
abbrev bodyG : Prog (TpuEff nD τ sig (Elt F) Λ₀ .tc) PUnit :=
  cc0_conv_ffn (grid0.coords t) h2M (Memref.isWhole_whole _) x1M (Memref.isWhole_whole _) arg5 harg5 arg6 harg6 arg7 harg7 arg8 harg8 arg9 harg9
    arg10 harg10 arg11 harg11 arg12 harg12 arg13 harg13 resM (Memref.isWhole_whole _) bufM (Memref.isWhole_whole _) accM (Memref.isWhole_whole _)
    xoM (Memref.isWhole_whole _) cc0_scratch3 cc0_scratch4 cc0_scratch5

variable (c : Dev nD) (XH : S8x2048x2048.Idx → Elt F .bf16) (XX : S8x2048x2048.Idx → Elt F .f32)
  (f5 : Buf (Elt F) (arg5.view.loc (c : Thread nD τ))) (f6 : Buf (Elt F) (arg6.view.loc (c : Thread nD τ)))
  (f7 : Buf (Elt F) (arg7.view.loc (c : Thread nD τ))) (f8 : Buf (Elt F) (arg8.view.loc (c : Thread nD τ)))
  (f9 : Buf (Elt F) (arg9.view.loc (c : Thread nD τ))) (f10 : Buf (Elt F) (arg10.view.loc (c : Thread nD τ)))
  (f11 : Buf (Elt F) (arg11.view.loc (c : Thread nD τ))) (f12 : Buf (Elt F) (arg12.view.loc (c : Thread nD τ)))
  (f13 : Buf (Elt F) (arg13.view.loc (c : Thread nD τ)))

/-- The nine staged blocks held. -/
abbrev blocksP : sProp 𝕄 :=
  iprop(heldP c arg5 f5 ∗ heldP c arg6 f6 ∗ heldP c arg7 f7 ∗ heldP c arg8 f8 ∗ heldP c arg9 f9 ∗ heldP c arg10 f10 ∗ heldP c arg11 f11
    ∗ heldP c arg12 f12 ∗ heldP c arg13 f13)
local notation "BLK" => blocksP arg5 arg6 arg7 arg8 arg9 arg10 arg11 arg12 arg13 c f5 f6 f7 f8 f9 f10 f11 f12 f13
/-- The accumulator after a first and after a further block of tile `T`, from the staged blocks. -/
abbrev acc1 (T : ℕ) : Vec F S1024x2048 .f32 :=
  accFst (slotV XH (bT T) (sT T)) (arg5.view.read (Elt F) f5) (arg6.view.read (Elt F) f6) (arg7.view.read (Elt F) f7) (arg8.view.read (Elt F) f8)
    (arg9.view.read (Elt F) f9) (arg10.view.read (Elt F) f10) (arg11.view.read (Elt F) f11)
abbrev accS (T : ℕ) (A : Vec F S1024x2048 .f32) : Vec F S1024x2048 .f32 :=
  accNxt (slotV XH (bT T) (sT T)) (arg5.view.read (Elt F) f5) (arg6.view.read (Elt F) f6) (arg7.view.read (Elt F) f7) (arg8.view.read (Elt F) f8)
    (arg9.view.read (Elt F) f9) (arg10.view.read (Elt F) f10) (arg11.view.read (Elt F) f11) A

theorem acc1_conv (f : S1024x2048.Idx → Elt F .f32) {off : Fin 3 → ℕ} (e : off = slotOff (sT (t.val / 11))) (hh) :
    heldP c accM (accM.view.writes (Elt F) f [⟨RA, accFst (bufM.view.readAt (Elt F) (Rect.unit (s := S2x1056x2048) off S1x1056x2048.size hh).toLoadRect (slotB XH (bT (t.val / 11)) (sT (t.val / 11))))
      (arg5.view.read (Elt F) f5) (arg6.view.read (Elt F) f6) (arg7.view.read (Elt F) f7) (arg8.view.read (Elt F) f8)
      (arg9.view.read (Elt F) f9) (arg10.view.read (Elt F) f10) (arg11.view.read (Elt F) f11)⟩])
    ⊢ (heldP c accM (acc1 arg5 arg6 arg7 arg8 arg9 arg10 arg11 c XH f5 f6 f7 f8 f9 f10 f11 (t.val / 11)) : sProp 𝕄) := by
  rw [acc_whole, read_slot XH _ _ e]
theorem accS_conv (f A : S1024x2048.Idx → Elt F .f32) {off : Fin 3 → ℕ} (e : off = slotOff (sT (t.val / 11))) (hh) :
    heldP c accM (accM.view.writes (Elt F) f [⟨RA, accNxt (bufM.view.readAt (Elt F) (Rect.unit (s := S2x1056x2048) off S1x1056x2048.size hh).toLoadRect (slotB XH (bT (t.val / 11)) (sT (t.val / 11))))
      (arg5.view.read (Elt F) f5) (arg6.view.read (Elt F) f6) (arg7.view.read (Elt F) f7) (arg8.view.read (Elt F) f8)
      (arg9.view.read (Elt F) f9) (arg10.view.read (Elt F) f10) (arg11.view.read (Elt F) f11) A⟩])
    ⊢ (heldP c accM (accS arg5 arg6 arg7 arg8 arg9 arg10 arg11 c XH f5 f6 f7 f8 f9 f10 f11 (t.val / 11) A) : sProp 𝕄) := by
  rw [acc_whole, read_slot XH _ _ e]
theorem off13_halo (hp : t.val / 11 % 2 = 0) : k0_off13 (grid0.coords t) = haloOff (sT (t.val / 11)) := by
  rw [off13_eq t, show sT (t.val / 11) = 0 from Fin.ext hp]; rfl
theorem off14_halo (hp : t.val / 11 % 2 = 1) : k0_off14 (grid0.coords t) = haloOff (sT (t.val / 11)) := by
  rw [off14_eq t, show sT (t.val / 11) = 1 from Fin.ext hp]; rfl

local notation "WP" Q:max => wp frame (wpE (defs₀ (F := F)) 𝒱₀ (c : Thread nD τ) none) Set.univ
  (bodyG t arg5 harg5 arg6 harg6 arg7 harg7 arg8 harg8 arg9 harg9 arg10 harg10 arg11 harg11 arg12 harg12 arg13 harg13) Q
local notation "ACC1" => acc1 arg5 arg6 arg7 arg8 arg9 arg10 arg11 c XH f5 f6 f7 f8 f9 f10 f11 (t.val / 11)
local notation "ACCS" => accS arg5 arg6 arg7 arg8 arg9 arg10 arg11 c XH f5 f6 f7 f8 f9 f10 f11 (t.val / 11)

/-- What a tile's first block leaves. -/
abbrev postA : sProp 𝕄 :=
  iprop(heldP c (slotM (sT (t.val / 11))) (slotB XH (bT (t.val / 11)) (sT (t.val / 11))) ∗ heldP c (srcM (bT (t.val / 11)) (sT (t.val / 11))) XH
    ∗ cellP c (csm (sT (t.val / 11))) ∗ heldP c accM ACC1 ∗ (∃ W, owes (c : Thread nD τ) 0 W) ∗ BLK)
local notation "POSTA" => postA t arg5 arg6 arg7 arg8 arg9 arg10 arg11 arg12 arg13 c XH f5 f6 f7 f8 f9 f10 f11 f12 f13

/-- The first block of every tile but the first: its rows, under way, are waited for. -/
theorem caseA (h0 : t.val % 11 = 0) (hT : 0 < t.val / 11) (f g fa W) (Q : PUnit → sProp 𝕄) :
    iprop(flyH c XH (bT (t.val / 11)) (sT (t.val / 11)) f ∗ haloP c (sT (t.val / 11)) g ∗ heldP c accM fa ∗ owes (c : Thread nD τ) 0 W ∗ BLK
       ∗ (POSTA -∗ Q ⟨⟩))
      ⊢ WP Q := by
  iintro ⟨HF, HG, HA, HW, ⟨H5, H6, H7, H8, H9, H10, H11, H12, H13⟩, Hk⟩
  have k1 := (cond1_iff t).mpr h0
  have k2 := mt (cond2_iff t).mp (by omega)
  obtain hp | hp := Nat.mod_two_eq_zero_or_one (t.val / 11)
  all_goals
    first
    | have k5 := (cond5_iff t).mpr hp
      have k6 := mt (cond6_iff t).mp (by omega)
      have k7 := (cond7_iff t).mpr hp
      have k8 := mt (cond8_iff t).mp (by omega)
    | have k5 := mt (cond5_iff t).mp (by omega)
      have k6 := (cond6_iff t).mpr hp
      have k7 := mt (cond7_iff t).mp (by omega)
      have k8 := (cond8_iff t).mpr hp
    sl_unfold [bodyG, cc0_conv_ffn_eq_skeleton, cc0_conv_ffn_skel]
    sl_exec
    ihave HS := (slot_join c (sT (t.val / 11)) _ g) $$ [HF_dst HG]
    · isplitl [HF_dst]
      · iexact HF_dst
      iexact HG
    icases HS with ⟨%fs, %hfs, HS⟩
    sl_exec
    ihave HS' : heldP c (slotM (sT (t.val / 11))) (slotB XH (bT (t.val / 11)) (sT (t.val / 11))) $$ [HS]
    · first
      | iapply (slot_conv c XH (bT (t.val / 11)) (sT (t.val / 11)) f fs hfs (off13_halo t hp) (k0_off13_inb _ k1 k7) k0_pay2 (fun _ => rfl))
        iexact HS
      | iapply (slot_conv c XH (bT (t.val / 11)) (sT (t.val / 11)) f fs hfs (off14_halo t hp) (k0_off14_inb _ k1 k8) k0_pay3 (fun _ => rfl))
        iexact HS
    have k9 := mt (cond9_iff t).mp (by omega)
    have k14 := (cond14_iff t).mpr h0
    have k15 := mt (cond15_iff t).mp (by omega)
    have k16 := mt (cond16_iff t).mp (by omega)
    sl_exec
    sl_step
    iapply Hk
    isplitl [HS']; · iexact HS'
    isplitl [HF_src]; · iexact HF_src
    isplitl [HF]; · iexact HF
    isplitl [HA]
    · iapply (acc1_conv t arg5 arg6 arg7 arg8 arg9 arg10 arg11 c XH f5 f6 f7 f8 f9 f10 f11 fa (off23_eq t) (k0_off23_inb _ k14))
      iexact HA
    isplitl [HW]; · iexists _; iexact HW
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The very first block: the first tile's rows are sent for and waited for. -/
theorem caseA0 (h0 : t.val % 11 = 0) (hT : t.val / 11 = 0) (f g fa W) (Q : PUnit → sProp 𝕄) :
    iprop(heldP c (winM (sT (t.val / 11))) f ∗ heldP c (srcM (bT (t.val / 11)) (sT (t.val / 11))) XH ∗ cellP c (csm (sT (t.val / 11))) ∗ haloP c (sT (t.val / 11)) g ∗ heldP c accM fa ∗ owes (c : Thread nD τ) 0 W ∗ BLK
       ∗ (POSTA -∗ Q ⟨⟩))
      ⊢ WP Q := by
  iintro ⟨HD, HH, HF, HG, HA, HW, ⟨H5, H6, H7, H8, H9, H10, H11, H12, H13⟩, Hk⟩
  have k1 := (cond1_iff t).mpr h0
  have hp : t.val / 11 % 2 = 0 := by omega
  have k2 := (cond2_iff t).mpr hT
  have k3 := (cond3_iff t).mpr hp
  have k4 := mt (cond4_iff t).mp (by omega)
  have k5 := (cond5_iff t).mpr hp
  have k6 := mt (cond6_iff t).mp (by omega)
  have k7 := (cond7_iff t).mpr hp
  have k8 := mt (cond8_iff t).mp (by omega)
  sl_unfold [bodyG, cc0_conv_ffn_eq_skeleton, cc0_conv_ffn_skel]
  sl_exec
  ihave HS := (slot_join c (sT (t.val / 11)) _ g) $$ [HD HG]
  · isplitl [HD]
    · iexact HD
    iexact HG
  icases HS with ⟨%fs, %hfs, HS⟩
  sl_exec
  ihave HS' : heldP c (slotM (sT (t.val / 11))) (slotB XH (bT (t.val / 11)) (sT (t.val / 11))) $$ [HS]
  · iapply (slot_conv c XH (bT (t.val / 11)) (sT (t.val / 11)) f fs hfs (off13_halo t hp) (k0_off13_inb _ k1 k7) k0_pay2 (fun _ => rfl))
    iexact HS
  have k9 := mt (cond9_iff t).mp (by omega)
  have k14 := (cond14_iff t).mpr h0
  have k15 := mt (cond15_iff t).mp (by omega)
  have k16 := mt (cond16_iff t).mp (by omega)
  sl_exec
  sl_step
  iapply Hk
  isplitl [HS']; · iexact HS'
  isplitl [HH]; · iexact HH
  isplitl [HF]; · iexact HF
  isplitl [HA]
  · iapply (acc1_conv t arg5 arg6 arg7 arg8 arg9 arg10 arg11 c XH f5 f6 f7 f8 f9 f10 f11 fa (off23_eq t) (k0_off23_inb _ k14))
    iexact HA
  isplitl [HW]; · iexists _; iexact HW
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- A middle block: the accumulator takes its share. -/
theorem caseM (h1 : 1 < t.val % 11) (h2 : t.val % 11 < 10) (A W) (Q : PUnit → sProp 𝕄) :
    iprop(heldP c (slotM (sT (t.val / 11))) (slotB XH (bT (t.val / 11)) (sT (t.val / 11))) ∗ heldP c accM A ∗ owes (c : Thread nD τ) 0 W ∗ BLK
       ∗ ((heldP c (slotM (sT (t.val / 11))) (slotB XH (bT (t.val / 11)) (sT (t.val / 11))) ∗ heldP c accM (ACCS A) ∗ (∃ W, owes (c : Thread nD τ) 0 W) ∗ BLK) -∗ Q ⟨⟩))
      ⊢ WP Q := by
  iintro ⟨HS, HA, HW, ⟨H5, H6, H7, H8, H9, H10, H11, H12, H13⟩, Hk⟩
  have k1 := mt (cond1_iff t).mp (by omega)
  have k9 := mt (cond9_iff t).mp (by omega)
  have k14 := mt (cond14_iff t).mp (by omega)
  have k15 := (cond15_iff t).mpr (by omega)
  have k16 := mt (cond16_iff t).mp (by omega)
  sl_unfold [bodyG, cc0_conv_ffn_eq_skeleton, cc0_conv_ffn_skel]
  sl_exec
  sl_step
  iapply Hk
  isplitl [HS]; · iexact HS
  isplitl [HA]
  · iapply (accS_conv t arg5 arg6 arg7 arg8 arg9 arg10 arg11 c XH f5 f6 f7 f8 f9 f10 f11 A A (off24_eq t) (k0_off24_inb _ k15))
    iexact HA
  isplitl [HW]; · iexists _; iexact HW
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The second block of a tile between the first and the last: the next tile's rows start, the tile before has left the
    output buffer, this tile's rows of `x1` start into it. -/
theorem caseB (h1 : t.val % 11 = 1) (h0 : 0 < t.val / 11) (hl : t.val / 11 < 15) (A : S1024x2048.Idx → Elt F .f32) (fw v fr W) (Q : PUnit → sProp 𝕄) :
    iprop(heldP c (slotM (sT (t.val / 11))) (slotB XH (bT (t.val / 11)) (sT (t.val / 11))) ∗ heldP c accM A
       ∗ heldP c (winM (sT (t.val / 11 + 1))) fw ∗ heldP c (srcM (bT (t.val / 11 + 1)) (sT (t.val / 11 + 1))) XH ∗ cellP c (csm (sT (t.val / 11 + 1)))
       ∗ flyR c (bT (t.val / 11 - 1)) (sT (t.val / 11 - 1)) v fr ∗ heldP c (x1T (bT (t.val / 11)) (sT (t.val / 11))) XX ∗ cellP c xsm
       ∗ owes (c : Thread nD τ) 0 W ∗ BLK
       ∗ ((heldP c (slotM (sT (t.val / 11))) (slotB XH (bT (t.val / 11)) (sT (t.val / 11))) ∗ heldP c accM (ACCS A)
           ∗ flyH c XH (bT (t.val / 11 + 1)) (sT (t.val / 11 + 1)) fw ∗ heldP c (resT (bT (t.val / 11 - 1)) (sT (t.val / 11 - 1))) (landR c (bT (t.val / 11 - 1)) (sT (t.val / 11 - 1)) v fr)
           ∗ cellP c rsm ∗ flyX c XX (bT (t.val / 11)) (sT (t.val / 11)) ∗ (∃ W, owes (c : Thread nD τ) 0 W) ∗ BLK) -∗ Q ⟨⟩))
      ⊢ WP Q := by
  iintro ⟨HS, HA, HN, HH, HC, HR, HX, HY, HW, ⟨H5, H6, H7, H8, H9, H10, H11, H12, H13⟩, Hk⟩
  have k1 := mt (cond1_iff t).mp (by omega)
  have k9 := (cond9_iff t).mpr h1
  have k10 := (cond10_iff t).mpr hl
  have k13 := (cond13_iff t).mpr h0
  have k14 := mt (cond14_iff t).mp (by omega)
  have k15 := (cond15_iff t).mpr (by omega)
  have k16 := mt (cond16_iff t).mp (by omega)
  obtain hp | hp := Nat.mod_two_eq_zero_or_one (t.val / 11)
  all_goals
    first
    | have k11 := (cond11_iff t).mpr hp
      have k12 := mt (cond12_iff t).mp (by omega)
    | have k11 := mt (cond11_iff t).mp (by omega)
      have k12 := (cond12_iff t).mpr hp
    sl_unfold [bodyG, cc0_conv_ffn_eq_skeleton, cc0_conv_ffn_skel]
    sl_exec
    sl_step
    iapply Hk
    isplitl [HS]; · iexact HS
    isplitl [HA]
    · iapply (accS_conv t arg5 arg6 arg7 arg8 arg9 arg10 arg11 c XH f5 f6 f7 f8 f9 f10 f11 A A (off24_eq t) (k0_off24_inb _ k15))
      iexact HA
    isplitl [HC]; · iexact HC
    isplitl [HR_dst]; · iexact HR_dst
    isplitl [HR]; · iexact HR
    isplitl [HY]
    · iapply (flyX_of c XX _ _ v)
      iexact HY
    isplitl [HW]; · iexists _; iexact HW
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The second block of the first tile: nothing is on its way out yet. -/
theorem caseB0 (h1 : t.val % 11 = 1) (h0 : t.val / 11 = 0) (A : S1024x2048.Idx → Elt F .f32) (fw v W) (Q : PUnit → sProp 𝕄) :
    iprop(heldP c (slotM (sT (t.val / 11))) (slotB XH (bT (t.val / 11)) (sT (t.val / 11))) ∗ heldP c accM A
       ∗ heldP c (winM (sT (t.val / 11 + 1))) fw ∗ heldP c (srcM (bT (t.val / 11 + 1)) (sT (t.val / 11 + 1))) XH ∗ cellP c (csm (sT (t.val / 11 + 1)))
       ∗ heldP c xoM v ∗ heldP c (x1T (bT (t.val / 11)) (sT (t.val / 11))) XX ∗ cellP c xsm
       ∗ owes (c : Thread nD τ) 0 W ∗ BLK
       ∗ ((heldP c (slotM (sT (t.val / 11))) (slotB XH (bT (t.val / 11)) (sT (t.val / 11))) ∗ heldP c accM (ACCS A)
           ∗ flyH c XH (bT (t.val / 11 + 1)) (sT (t.val / 11 + 1)) fw
           ∗ flyX c XX (bT (t.val / 11)) (sT (t.val / 11)) ∗ (∃ W, owes (c : Thread nD τ) 0 W) ∗ BLK) -∗ Q ⟨⟩))
      ⊢ WP Q := by
  iintro ⟨HS, HA, HN, HH, HC, HR, HX, HY, HW, ⟨H5, H6, H7, H8, H9, H10, H11, H12, H13⟩, Hk⟩
  have k1 := mt (cond1_iff t).mp (by omega)
  have k9 := (cond9_iff t).mpr h1
  have hl : t.val / 11 < 15 := by omega
  have k10 := (cond10_iff t).mpr hl
  have k13 := mt (cond13_iff t).mp (by omega)
  have k14 := mt (cond14_iff t).mp (by omega)
  have k15 := (cond15_iff t).mpr (by omega)
  have k16 := mt (cond16_iff t).mp (by omega)
  have hp : t.val / 11 % 2 = 0 := by omega
  have k11 := mt (cond11_iff t).mp (by omega)
  have k12 := (cond12_iff t).mpr hp
  sl_unfold [bodyG, cc0_conv_ffn_eq_skeleton, cc0_conv_ffn_skel]
  sl_exec
  sl_step
  iapply Hk
  isplitl [HS]; · iexact HS
  isplitl [HA]
  · iapply (accS_conv t arg5 arg6 arg7 arg8 arg9 arg10 arg11 c XH f5 f6 f7 f8 f9 f10 f11 A A (off24_eq t) (k0_off24_inb _ k15))
    iexact HA
  isplitl [HC]; · iexact HC
  isplitl [HY]
  · iapply (flyX_of c XX _ _ v)
    iexact HY
  isplitl [HW]; · iexists _; iexact HW
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The second block of the last tile: no further tile to send for. -/
theorem caseBL (h1 : t.val % 11 = 1) (hl : t.val / 11 = 15) (A : S1024x2048.Idx → Elt F .f32) (v fr W) (Q : PUnit → sProp 𝕄) :
    iprop(heldP c (slotM (sT (t.val / 11))) (slotB XH (bT (t.val / 11)) (sT (t.val / 11))) ∗ heldP c accM A
       ∗ flyR c (bT (t.val / 11 - 1)) (sT (t.val / 11 - 1)) v fr ∗ heldP c (x1T (bT (t.val / 11)) (sT (t.val / 11))) XX ∗ cellP c xsm
       ∗ owes (c : Thread nD τ) 0 W ∗ BLK
       ∗ ((heldP c (slotM (sT (t.val / 11))) (slotB XH (bT (t.val / 11)) (sT (t.val / 11))) ∗ heldP c accM (ACCS A)
           ∗ heldP c (resT (bT (t.val / 11 - 1)) (sT (t.val / 11 - 1))) (landR c (bT (t.val / 11 - 1)) (sT (t.val / 11 - 1)) v fr)
           ∗ cellP c rsm ∗ flyX c XX (bT (t.val / 11)) (sT (t.val / 11)) ∗ (∃ W, owes (c : Thread nD τ) 0 W) ∗ BLK) -∗ Q ⟨⟩))
      ⊢ WP Q := by
  iintro ⟨HS, HA, HR, HX, HY, HW, ⟨H5, H6, H7, H8, H9, H10, H11, H12, H13⟩, Hk⟩
  have k1 := mt (cond1_iff t).mp (by omega)
  have k9 := (cond9_iff t).mpr h1
  have h0 : 0 < t.val / 11 := by omega
  have k10 := mt (cond10_iff t).mp (by omega)
  have k13 := (cond13_iff t).mpr h0
  have k14 := mt (cond14_iff t).mp (by omega)
  have k15 := (cond15_iff t).mpr (by omega)
  have k16 := mt (cond16_iff t).mp (by omega)
  sl_unfold [bodyG, cc0_conv_ffn_eq_skeleton, cc0_conv_ffn_skel]
  sl_exec
  sl_step
  iapply Hk
  isplitl [HS]; · iexact HS
  isplitl [HA]
  · iapply (accS_conv t arg5 arg6 arg7 arg8 arg9 arg10 arg11 c XH f5 f6 f7 f8 f9 f10 f11 A A (off24_eq t) (k0_off24_inb _ k15))
    iexact HA
  isplitl [HR_dst]; · iexact HR_dst
  isplitl [HR]; · iexact HR
  isplitl [HY]
  · iapply (flyX_of c XX _ _ v)
    iexact HY
  isplitl [HW]; · iexists _; iexact HW
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The tile `T` the last block leaves in the output buffer, from the accumulator before it. -/
abbrev tileS (T : ℕ) (A : Vec F S1024x2048 .f32) : Vec F S1024x2048 .f32 :=
  tileV (slotV XH (bT T) (sT T)) (arg5.view.read (Elt F) f5) (arg6.view.read (Elt F) f6) (arg7.view.read (Elt F) f7) (arg8.view.read (Elt F) f8)
    (arg9.view.read (Elt F) f9) (arg10.view.read (Elt F) f10) (arg11.view.read (Elt F) f11) (arg12.view.read (Elt F) f12) (arg13.view.read (Elt F) f13)
    A (x1V XX (bT T) (sT T))
local notation "TILE" => tileS arg5 arg6 arg7 arg8 arg9 arg10 arg11 arg12 arg13 c XH XX f5 f6 f7 f8 f9 f10 f11 f12 f13 (t.val / 11)

theorem tile_conv (T : ℕ) (f A : S1024x2048.Idx → Elt F .f32) {off : Fin 3 → ℕ} (e : off = slotOff (sT T)) (hh) :
    xoM.view.writes (Elt F) f (tileL (bufM.view.readAt (Elt F) (Rect.unit (s := S2x1056x2048) off S1x1056x2048.size hh).toLoadRect (slotB XH (bT T) (sT T)))
      (arg5.view.read (Elt F) f5) (arg6.view.read (Elt F) f6) (arg7.view.read (Elt F) f7) (arg8.view.read (Elt F) f8)
      (arg9.view.read (Elt F) f9) (arg10.view.read (Elt F) f10) (arg11.view.read (Elt F) f11) (arg12.view.read (Elt F) f12) (arg13.view.read (Elt F) f13)
      A (x1V XX (bT T) (sT T)))
    = tileS arg5 arg6 arg7 arg8 arg9 arg10 arg11 arg12 arg13 c XH XX f5 f6 f7 f8 f9 f10 f11 f12 f13 T A := by
  rw [writes_tile, read_slot XH _ _ e]
theorem landR_of (b : Fin 8) (s : Fin 2) (v v' : S1024x2048.Idx → Elt F .f32) (e : v = v') (fr) :
    heldP c (resT b s) (landR c b s v fr) ⊢ (heldP c (resT b s) (landR c b s v' fr) : sProp 𝕄) := e ▸ .rfl
theorem xo_of (v v' : S1024x2048.Idx → Elt F .f32) (e : v = v') : heldP c xoM v ⊢ (heldP c xoM v' : sProp 𝕄) := e ▸ .rfl
theorem flyR_of (b : Fin 8) (s : Fin 2) (v v' : S1024x2048.Idx → Elt F .f32) (e : v = v') (fr) :
    flyR c b s v fr ⊢ (flyR c b s v' fr : sProp 𝕄) := e ▸ .rfl

/-- The last block of every tile but the last: the tile is finished and starts out to the result. -/
theorem caseE (h1 : t.val % 11 = 10) (hl : t.val / 11 < 15) (A : S1024x2048.Idx → Elt F .f32) (fr W) (Q : PUnit → sProp 𝕄) :
    iprop(heldP c (slotM (sT (t.val / 11))) (slotB XH (bT (t.val / 11)) (sT (t.val / 11))) ∗ heldP c accM A
       ∗ flyX c XX (bT (t.val / 11)) (sT (t.val / 11)) ∗ heldP c (resT (bT (t.val / 11)) (sT (t.val / 11))) fr ∗ cellP c rsm
       ∗ owes (c : Thread nD τ) 0 W ∗ BLK
       ∗ ((heldP c (slotM (sT (t.val / 11))) (slotB XH (bT (t.val / 11)) (sT (t.val / 11))) ∗ heldP c accM A
           ∗ flyR c (bT (t.val / 11)) (sT (t.val / 11)) (TILE A) fr ∗ heldP c (x1T (bT (t.val / 11)) (sT (t.val / 11))) XX ∗ cellP c xsm
           ∗ (∃ W, owes (c : Thread nD τ) 0 W) ∗ BLK) -∗ Q ⟨⟩))
      ⊢ WP Q := by
  iintro ⟨HS, HA, HX, HR, HC, HW, ⟨H5, H6, H7, H8, H9, H10, H11, H12, H13⟩, Hk⟩
  have k1 := mt (cond1_iff t).mp (by omega)
  have k9 := mt (cond9_iff t).mp (by omega)
  have k14 := mt (cond14_iff t).mp (by omega)
  have k15 := mt (cond15_iff t).mp (by omega)
  have k16 := (cond16_iff t).mpr h1
  have k17 := mt (cond17_iff t).mp (by omega)
  sl_unfold [bodyG, cc0_conv_ffn_eq_skeleton, cc0_conv_ffn_skel]
  sl_exec
  sl_step
  iapply Hk
  isplitl [HS]; · iexact HS
  isplitl [HA]; · iexact HA
  isplitl [HC]
  · iapply (flyR_of c _ _ _ _ (tile_conv arg5 arg6 arg7 arg8 arg9 arg10 arg11 arg12 arg13 c XH XX f5 f6 f7 f8 f9 f10 f11 f12 f13 (t.val / 11)
      (x1V XX (bT (t.val / 11)) (sT (t.val / 11))) A (off25_eq t) (k0_off25_inb _ k16)) fr)
    iexact HC
  isplitl [HX_src]; · iexact HX_src
  isplitl [HX]; · iexact HX
  isplitl [HW]; · iexists _; iexact HW
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The very last block: the tile is finished, sent out and waited for. -/
theorem caseEL (h1 : t.val % 11 = 10) (hl : t.val / 11 = 15) (A : S1024x2048.Idx → Elt F .f32) (fr W) (Q : PUnit → sProp 𝕄) :
    iprop(heldP c (slotM (sT (t.val / 11))) (slotB XH (bT (t.val / 11)) (sT (t.val / 11))) ∗ heldP c accM A
       ∗ flyX c XX (bT (t.val / 11)) (sT (t.val / 11)) ∗ heldP c (resT (bT (t.val / 11)) (sT (t.val / 11))) fr ∗ cellP c rsm
       ∗ owes (c : Thread nD τ) 0 W ∗ BLK
       ∗ ((heldP c (slotM (sT (t.val / 11))) (slotB XH (bT (t.val / 11)) (sT (t.val / 11))) ∗ heldP c accM A
           ∗ heldP c (resT (bT (t.val / 11)) (sT (t.val / 11))) (landR c (bT (t.val / 11)) (sT (t.val / 11)) (TILE A) fr) ∗ heldP c xoM (TILE A) ∗ cellP c rsm ∗ heldP c (x1T (bT (t.val / 11)) (sT (t.val / 11))) XX ∗ cellP c xsm
           ∗ (∃ W, owes (c : Thread nD τ) 0 W) ∗ BLK) -∗ Q ⟨⟩))
      ⊢ WP Q := by
  iintro ⟨HS, HA, HX, HR, HC, HW, ⟨H5, H6, H7, H8, H9, H10, H11, H12, H13⟩, Hk⟩
  have k1 := mt (cond1_iff t).mp (by omega)
  have k9 := mt (cond9_iff t).mp (by omega)
  have k14 := mt (cond14_iff t).mp (by omega)
  have k15 := mt (cond15_iff t).mp (by omega)
  have k16 := (cond16_iff t).mpr h1
  have k17 := (cond17_iff t).mpr hl
  sl_unfold [bodyG, cc0_conv_ffn_eq_skeleton, cc0_conv_ffn_skel]
  sl_exec
  sl_step
  iapply Hk
  isplitl [HS]; · iexact HS
  isplitl [HA]; · iexact HA
  have e := tile_conv arg5 arg6 arg7 arg8 arg9 arg10 arg11 arg12 arg13 c XH XX f5 f6 f7 f8 f9 f10 f11 f12 f13 (t.val / 11)
      (x1V XX (bT (t.val / 11)) (sT (t.val / 11))) A (off25_eq t) (k0_off25_inb _ k16)
  isplitl [HR]
  · iapply (landR_of c (bT (t.val / 11)) (sT (t.val / 11)) _ _ e fr)
    iexact HR
  isplitl [HX_dst]
  · iapply (xo_of c _ _ e)
    iexact HX_dst
  isplitl [HC]; · iexact HC
  isplitl [HX_src]; · iexact HX_src
  isplitl [HX]; · iexact HX
  isplitl [HW]; · iexists _; iexact HW
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Body

end Cert.Proof.FfnI

end
-- ==== Proof.FfnState.lean ====
/-
  The state of the ConvFFN kernel between its grid points, and how each kind of point moves it on. Before block `k` of
  tile `T` the tile's rows of `h2` lie in the tile's slot (or are still under way, before its first block), the
  accumulator holds the sum of the blocks before, the tile before is under way to the result until the second block,
  and from there on the tile's rows of `x1` are under way into the output buffer.
-/
module

public import proofs.«01_k».proof.Proof.FfnRun

@[expose] public section

set_option maxRecDepth 16384

noncomputable section

namespace Cert.Proof.FfnI

open Cert.FfnIdeal Cert.FfnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## A buffer and the part of it a transfer holds -/

section Parts
variable (c : Dev nD)

/-- The rest of a buffer beside a view's elements. -/
def restP {sp : Space} {s : Shape} {e : EltTy} (M : Memref sig .tc sp s e) (f : Buf (Elt F) (M.view.loc (c : Thread nD τ))) : sProp 𝕄 :=
  M.view.loc (c : Thread nD τ) ↦[Finset.univ \ M.view.set]{fullShare} f
/-- The whole buffer behind a view. -/
def wholeP {sp : Space} {s : Shape} {e : EltTy} (M : Memref sig .tc sp s e) (f : Buf (Elt F) (M.view.loc (c : Thread nD τ))) : sProp 𝕄 :=
  M.view.loc (c : Thread nD τ) ↦{fullShare} f

theorem whole_split {sp : Space} {s : Shape} {e : EltTy} (M : Memref sig .tc sp s e) (f : Buf (Elt F) (M.view.loc (c : Thread nD τ))) :
    wholeP c M f ⊢ (iprop(heldP c M f ∗ restP c M f) : sProp 𝕄) := (pointsTo_split_subset (Finset.subset_univ _)).1
theorem whole_join {sp : Space} {s : Shape} {e : EltTy} (M : Memref sig .tc sp s e) (f : Buf (Elt F) (M.view.loc (c : Thread nD τ))) :
    iprop(heldP c M f ∗ restP c M f) ⊢ (wholeP c M f : sProp 𝕄) := (pointsTo_split_subset (Finset.subset_univ _)).2
/-- `h2` and a tile's rows of it; `x1` and a tile of it; the result and a tile of it. -/
theorem h2_split (b : Fin 8) (s : Fin 2) (f : S8x2048x2048.Idx → Elt F .bf16) :
    wholeP c h2M f ⊢ (iprop(heldP c (srcM b s) f ∗ restP c (srcM b s) f) : sProp 𝕄) := whole_split c (srcM b s) f
theorem h2_join (b : Fin 8) (s : Fin 2) (f : S8x2048x2048.Idx → Elt F .bf16) :
    iprop(heldP c (srcM b s) f ∗ restP c (srcM b s) f) ⊢ (wholeP c h2M f : sProp 𝕄) := whole_join c (srcM b s) f
theorem x1_split (b : Fin 8) (s : Fin 2) (f : S8x2048x2048.Idx → Elt F .f32) :
    wholeP c x1M f ⊢ (iprop(heldP c (x1T b s) f ∗ restP c (x1T b s) f) : sProp 𝕄) := whole_split c (x1T b s) f
theorem x1_join (b : Fin 8) (s : Fin 2) (f : S8x2048x2048.Idx → Elt F .f32) :
    iprop(heldP c (x1T b s) f ∗ restP c (x1T b s) f) ⊢ (wholeP c x1M f : sProp 𝕄) := whole_join c (x1T b s) f
theorem res_split (b : Fin 8) (s : Fin 2) (f : S8x2048x2048.Idx → Elt F .f32) :
    wholeP c resM f ⊢ (iprop(heldP c (resT b s) f ∗ restP c (resT b s) f) : sProp 𝕄) := whole_split c (resT b s) f
/-- The rest does not see what the part is written with. -/
theorem rest_congr {sp : Space} {s : Shape} {e : EltTy} (M : Memref sig .tc sp s e) (f g : Buf (Elt F) (M.view.loc (c : Thread nD τ)))
    (h : ∀ i, i ∉ M.view.set → f i = g i) : restP c M f ⊢ (restP c M g : sProp 𝕄) := by
  unfold restP
  exact of_eq (pointsTo_congr fun i hi => h i (Finset.mem_sdiff.mp hi).2)

/-- Off its tile a landed tile leaves the result as it was. -/
theorem landR_off (b : Fin 8) (s : Fin 2) (v : S1024x2048.Idx → Elt F .f32) (f : Buf (Elt F) ((resT b s).view.loc (c : Thread nD τ)))
    (i) (hi : i ∉ (resT b s).view.set) : landR c b s v f i = f i :=
  View.writes_apply_of_forall_ne _ _ _ fun y e => hi (e ▸ View.emb_mem_set _ y)

/-- The result with a further tile landed. -/
theorem res_join (b : Fin 8) (s : Fin 2) (v : S1024x2048.Idx → Elt F .f32) (f : Buf (Elt F) ((resT b s).view.loc (c : Thread nD τ))) :
    iprop(heldP c (resT b s) (landR c b s v f) ∗ restP c (resT b s) f) ⊢ (wholeP c resM (landR c b s v f) : sProp 𝕄) := by
  refine BIBase.Entails.trans ?_ (whole_join c (resT b s) (landR c b s v f))
  iintro ⟨H, R⟩
  isplitl [H]; · iexact H
  iapply (rest_congr c (resT b s) f (landR c b s v f) fun i hi => (landR_off c b s v f i hi).symm)
  iexact R

/-- A slot at some contents. -/
def slotA (s : Fin 2) : sProp 𝕄 := iprop(∃ f : Buf (Elt F) (bufM.view.loc (c : Thread nD τ)), heldP c (slotM s) f)
/-- The output buffer and the accumulator at some contents. -/
def xoA : sProp 𝕄 := iprop(∃ f : S1024x2048.Idx → Elt F .f32, heldP c xoM f)
def accA : sProp 𝕄 := iprop(∃ f : S1024x2048.Idx → Elt F .f32, heldP c accM f)

end Parts

/-! ## The state -/

section State
variable (c : Dev nD) (XH : S8x2048x2048.Idx → Elt F .bf16) (XX : S8x2048x2048.Idx → Elt F .f32)
  (TV : ℕ → S1024x2048.Idx → Elt F .f32) (OB : ℕ → S8x2048x2048.Idx → Elt F .f32)

/-- A tile slot with its rows. -/
def slotF (T : ℕ) : sProp 𝕄 := heldP c (slotM (sT T)) (slotB XH (bT T) (sT T))
/-- Tile `T`'s rows under way into its slot. -/
def inFly (T : ℕ) : sProp 𝕄 :=
  iprop((∃ f : Buf (Elt F) (bufM.view.loc (c : Thread nD τ)), flyH c XH (bT T) (sT T) f) ∗ restP c (srcM (bT T) (sT T)) XH
    ∗ ∃ g : Buf (Elt F) (bufM.view.loc (c : Thread nD τ)), haloP c (sT T) g)
/-- No tile's rows under way: `h2`, the slot and its cell. -/
def inHome (T : ℕ) : sProp 𝕄 := iprop(wholeP c h2M XH ∗ slotA c (sT T) ∗ cellP c (csm (sT T)))
def inP (T : ℕ) : sProp 𝕄 := if 0 < T ∧ T < 16 then inFly c XH T else inHome c XH T
/-- The tile before `T` under way to the result. -/
def outFly (T : ℕ) : sProp 𝕄 :=
  iprop(flyR c (bT (T - 1)) (sT (T - 1)) (TV (T - 1)) (OB (T - 1)) ∗ restP c (resT (bT (T - 1)) (sT (T - 1))) (OB (T - 1)))
/-- The result, as far as it is written. -/
def outRes (T : ℕ) : sProp 𝕄 := iprop(wholeP c resM (OB T) ∗ cellP c rsm)
def outP (T : ℕ) : sProp 𝕄 := if 0 < T ∧ T < 16 then outFly c TV OB T else iprop(outRes c OB T ∗ xoA c)

/-- Before a tile's first block, -/
def st0 (T : ℕ) : sProp 𝕄 :=
  iprop(inP c XH T ∗ slotA c (sT (T + 1)) ∗ cellP c (csm (sT (T + 1))) ∗ accA c ∗ wholeP c x1M XX ∗ cellP c xsm ∗ outP c TV OB T)
/-- before its second, -/
def st1 (T : ℕ) (A : S1024x2048.Idx → Elt F .f32) : sProp 𝕄 :=
  iprop(slotF c XH T ∗ cellP c (csm (sT T)) ∗ wholeP c h2M XH ∗ slotA c (sT (T + 1)) ∗ cellP c (csm (sT (T + 1))) ∗ heldP c accM A
    ∗ wholeP c x1M XX ∗ cellP c xsm ∗ outP c TV OB T)
/-- and before each later one. -/
def st2 (T : ℕ) (A : S1024x2048.Idx → Elt F .f32) : sProp 𝕄 :=
  iprop(slotF c XH T ∗ cellP c (csm (sT T)) ∗ heldP c accM A ∗ inP c XH (T + 1) ∗ outRes c OB T ∗ flyX c XX (bT T) (sT T)
    ∗ restP c (x1T (bT T) (sT T)) XX)

end State

/-! ## The points -/

section Body
variable (t : Fin grid0.N)
  (arg5 : Memref sig .tc .vmem S2048x512 .f32) (harg5 : arg5.IsWhole)
  (arg6 : Memref sig .tc .vmem S2048x512 .f32) (harg6 : arg6.IsWhole)
  (arg7 : Memref sig .tc .vmem S3x512 .f32) (harg7 : arg7.IsWhole)
  (arg8 : Memref sig .tc .vmem S3x512 .f32) (harg8 : arg8.IsWhole)
  (arg9 : Memref sig .tc .vmem S1x512 .f32) (harg9 : arg9.IsWhole)
  (arg10 : Memref sig .tc .vmem S1x512 .f32) (harg10 : arg10.IsWhole)
  (arg11 : Memref sig .tc .vmem S512x2048 .f32) (harg11 : arg11.IsWhole)
  (arg12 : Memref sig .tc .vmem S1x6x2048 .f32) (harg12 : arg12.IsWhole)
  (arg13 : Memref sig .tc .vmem S1x2048 .f32) (harg13 : arg13.IsWhole)
  (c : Dev nD) (XH : S8x2048x2048.Idx → Elt F .bf16) (XX : S8x2048x2048.Idx → Elt F .f32)
  (f5 : Buf (Elt F) (arg5.view.loc (c : Thread nD τ))) (f6 : Buf (Elt F) (arg6.view.loc (c : Thread nD τ)))
  (f7 : Buf (Elt F) (arg7.view.loc (c : Thread nD τ))) (f8 : Buf (Elt F) (arg8.view.loc (c : Thread nD τ)))
  (f9 : Buf (Elt F) (arg9.view.loc (c : Thread nD τ))) (f10 : Buf (Elt F) (arg10.view.loc (c : Thread nD τ)))
  (f11 : Buf (Elt F) (arg11.view.loc (c : Thread nD τ))) (f12 : Buf (Elt F) (arg12.view.loc (c : Thread nD τ)))
  (f13 : Buf (Elt F) (arg13.view.loc (c : Thread nD τ)))
  (TV : ℕ → S1024x2048.Idx → Elt F .f32) (OB : ℕ → S8x2048x2048.Idx → Elt F .f32)
  (hOB : ∀ T, OB (T + 1) = landR c (bT T) (sT T) (TV T) (OB T))

local notation "BLK" => blocksP arg5 arg6 arg7 arg8 arg9 arg10 arg11 arg12 arg13 c f5 f6 f7 f8 f9 f10 f11 f12 f13
local notation "WP" Q:max => wp frame (wpE (defs₀ (F := F)) 𝒱₀ (c : Thread nD τ) none) Set.univ
  (bodyG t arg5 harg5 arg6 harg6 arg7 harg7 arg8 harg8 arg9 harg9 arg10 harg10 arg11 harg11 arg12 harg12 arg13 harg13) Q
local notation "ACC1" => acc1 arg5 arg6 arg7 arg8 arg9 arg10 arg11 c XH f5 f6 f7 f8 f9 f10 f11 (t.val / 11)
local notation "ACCS" => accS arg5 arg6 arg7 arg8 arg9 arg10 arg11 c XH f5 f6 f7 f8 f9 f10 f11 (t.val / 11)
local notation "TILE" => tileS arg5 arg6 arg7 arg8 arg9 arg10 arg11 arg12 arg13 c XH XX f5 f6 f7 f8 f9 f10 f11 f12 f13 (t.val / 11)

/-- A tile's first block. -/
theorem step0 (h0 : t.val % 11 = 0) (W) (Q : PUnit → sProp 𝕄) :
    iprop(st0 c XH XX TV OB (t.val / 11) ∗ owes (c : Thread nD τ) 0 W ∗ BLK
       ∗ ((st1 c XH XX TV OB (t.val / 11) ACC1 ∗ (∃ W, owes (c : Thread nD τ) 0 W) ∗ BLK) -∗ Q ⟨⟩))
      ⊢ WP Q := by
  have hN : t.val < 176 := t.isLt
  unfold st0 st1 slotF accA
  by_cases hT : t.val / 11 = 0
  · unfold inP
    rw [if_neg (by omega : ¬(0 < t.val / 11 ∧ t.val / 11 < 16))]
    unfold inHome slotA
    iintro ⟨⟨⟨HH, ⟨%fs, HS⟩, HC⟩, HS', HC', ⟨%fa, HA⟩, HX, HY, HO⟩, HW, HB, Hk⟩
    ihave ⟨HH, HHr⟩ := (h2_split c (bT (t.val / 11)) (sT (t.val / 11)) XH) $$ HH
    ihave ⟨HSw, HSh⟩ := (slot_split c (sT (t.val / 11)) fs) $$ HS
    iapply (caseA0 t arg5 harg5 arg6 harg6 arg7 harg7 arg8 harg8 arg9 harg9 arg10 harg10 arg11 harg11 arg12 harg12 arg13 harg13 c XH f5 f6 f7 f8 f9 f10 f11 f12 f13 h0 hT fs fs fa W Q)
    isplitl [HSw]; · iexact HSw
    isplitl [HH]; · iexact HH
    isplitl [HC]; · iexact HC
    isplitl [HSh]; · iexact HSh
    isplitl [HA]; · iexact HA
    isplitl [HW]; · iexact HW
    isplitl [HB]; · iexact HB
    iintro ⟨HS, HH, HC, HA, HW, HB⟩
    iapply Hk
    isplitr [HW HB]
    · isplitl [HS]; · iexact HS
      isplitl [HC]; · iexact HC
      isplitl [HH HHr]
      · iapply (h2_join c (bT (t.val / 11)) (sT (t.val / 11)) XH)
        isplitl [HH]; · iexact HH
        iexact HHr
      isplitl [HS']; · iexact HS'
      isplitl [HC']; · iexact HC'
      isplitl [HA]; · iexact HA
      isplitl [HX]; · iexact HX
      isplitl [HY]; · iexact HY
      iexact HO
    isplitl [HW]; · iexact HW
    iexact HB
  · unfold inP
    rw [if_pos (by omega : 0 < t.val / 11 ∧ t.val / 11 < 16)]
    unfold inFly
    iintro ⟨⟨⟨⟨%f, HF⟩, HHr, ⟨%g, HG⟩⟩, HS', HC', ⟨%fa, HA⟩, HX, HY, HO⟩, HW, HB, Hk⟩
    iapply (caseA t arg5 harg5 arg6 harg6 arg7 harg7 arg8 harg8 arg9 harg9 arg10 harg10 arg11 harg11 arg12 harg12 arg13 harg13 c XH f5 f6 f7 f8 f9 f10 f11 f12 f13 h0 (by omega) f g fa W Q)
    isplitl [HF]; · iexact HF
    isplitl [HG]; · iexact HG
    isplitl [HA]; · iexact HA
    isplitl [HW]; · iexact HW
    isplitl [HB]; · iexact HB
    iintro ⟨HS, HH, HC, HA, HW, HB⟩
    iapply Hk
    isplitr [HW HB]
    · isplitl [HS]; · iexact HS
      isplitl [HC]; · iexact HC
      isplitl [HH HHr]
      · iapply (h2_join c (bT (t.val / 11)) (sT (t.val / 11)) XH)
        isplitl [HH]; · iexact HH
        iexact HHr
      isplitl [HS']; · iexact HS'
      isplitl [HC']; · iexact HC'
      isplitl [HA]; · iexact HA
      isplitl [HX]; · iexact HX
      isplitl [HY]; · iexact HY
      iexact HO
    isplitl [HW]; · iexact HW
    iexact HB

/-- A block between the second and the last. -/
theorem step2 (h1 : 1 < t.val % 11) (h2 : t.val % 11 < 10) (A : S1024x2048.Idx → Elt F .f32) (W) (Q : PUnit → sProp 𝕄) :
    iprop(st2 c XH XX OB (t.val / 11) A ∗ owes (c : Thread nD τ) 0 W ∗ BLK
       ∗ ((st2 c XH XX OB (t.val / 11) (ACCS A) ∗ (∃ W, owes (c : Thread nD τ) 0 W) ∗ BLK) -∗ Q ⟨⟩))
      ⊢ WP Q := by
  unfold st2 slotF
  iintro ⟨⟨HS, HC, HA, HI, HO, HX, HXr⟩, HW, HB, Hk⟩
  iapply (caseM t arg5 harg5 arg6 harg6 arg7 harg7 arg8 harg8 arg9 harg9 arg10 harg10 arg11 harg11 arg12 harg12 arg13 harg13 c XH f5 f6 f7 f8 f9 f10 f11 f12 f13 h1 h2 A W Q)
  isplitl [HS]; · iexact HS
  isplitl [HA]; · iexact HA
  isplitl [HW]; · iexact HW
  isplitl [HB]; · iexact HB
  iintro ⟨HS, HA, HW, HB⟩
  iapply Hk
  isplitr [HW HB]
  · isplitl [HS]; · iexact HS
    isplitl [HC]; · iexact HC
    isplitl [HA]; · iexact HA
    isplitl [HI]; · iexact HI
    isplitl [HO]; · iexact HO
    isplitl [HX]; · iexact HX
    iexact HXr
  isplitl [HW]; · iexact HW
  iexact HB

include hOB in
/-- The tile before `T`, landed: the result is written that far. -/
theorem res_upto (T : ℕ) (h0 : 0 < T) :
    iprop(heldP c (resT (bT (T - 1)) (sT (T - 1))) (landR c (bT (T - 1)) (sT (T - 1)) (TV (T - 1)) (OB (T - 1))) ∗ restP c (resT (bT (T - 1)) (sT (T - 1))) (OB (T - 1)))
      ⊢ (wholeP c resM (OB T) : sProp 𝕄) := by
  have e : OB T = landR c (bT (T - 1)) (sT (T - 1)) (TV (T - 1)) (OB (T - 1)) := by rw [← hOB (T - 1), Nat.sub_add_cancel h0]
  rw [e]
  exact res_join c _ _ _ _

include hOB in
/-- A tile's second block. -/
theorem step1 (h1 : t.val % 11 = 1) (A : S1024x2048.Idx → Elt F .f32) (W) (Q : PUnit → sProp 𝕄) :
    iprop(st1 c XH XX TV OB (t.val / 11) A ∗ owes (c : Thread nD τ) 0 W ∗ BLK
       ∗ ((st2 c XH XX OB (t.val / 11) (ACCS A) ∗ (∃ W, owes (c : Thread nD τ) 0 W) ∗ BLK) -∗ Q ⟨⟩))
      ⊢ WP Q := by
  have hN : t.val < 176 := t.isLt
  unfold st1 st2 slotF outRes
  by_cases hT : t.val / 11 = 0
  · unfold outP inP
    rw [if_neg (by omega : ¬(0 < t.val / 11 ∧ t.val / 11 < 16)), if_pos (by omega : 0 < t.val / 11 + 1 ∧ t.val / 11 + 1 < 16)]
    unfold outRes xoA inFly slotA
    iintro ⟨⟨HS, HC, HH, HS', HC', HA, HX, HY, HO⟩, HW, HB, Hk⟩
    ihave ⟨HX, HXr⟩ := (x1_split c (bT (t.val / 11)) (sT (t.val / 11)) XX) $$ HX
    icases HO with ⟨⟨HR, HRc⟩, ⟨%v, HV⟩⟩
    icases HS' with ⟨%fs, HS'⟩
    ihave ⟨HSw, HSh⟩ := (slot_split c (sT (t.val / 11 + 1)) fs) $$ HS'
    ihave ⟨HH, HHr⟩ := (h2_split c (bT (t.val / 11 + 1)) (sT (t.val / 11 + 1)) XH) $$ HH
    iapply (caseB0 t arg5 harg5 arg6 harg6 arg7 harg7 arg8 harg8 arg9 harg9 arg10 harg10 arg11 harg11 arg12 harg12 arg13 harg13 c XH XX f5 f6 f7 f8 f9 f10 f11 f12 f13 h1 hT A fs v W Q)
    isplitl [HS]; · iexact HS
    isplitl [HA]; · iexact HA
    isplitl [HSw]; · iexact HSw
    isplitl [HH]; · iexact HH
    isplitl [HC']; · iexact HC'
    isplitl [HV]; · iexact HV
    isplitl [HX]; · iexact HX
    isplitl [HY]; · iexact HY
    isplitl [HW]; · iexact HW
    isplitl [HB]; · iexact HB
    iintro ⟨HS, HA, HF, HX, HW, HB⟩
    iapply Hk
    isplitr [HW HB]
    · isplitl [HS]; · iexact HS
      isplitl [HC]; · iexact HC
      isplitl [HA]; · iexact HA
      isplitl [HF HHr HSh]
      · isplitl [HF]; · iexists fs; iexact HF
        isplitl [HHr]; · iexact HHr
        iexists fs; iexact HSh
      isplitl [HR HRc]
      · isplitl [HR]; · iexact HR
        iexact HRc
      isplitl [HX]; · iexact HX
      iexact HXr
    isplitl [HW]; · iexact HW
    iexact HB
  by_cases hl : t.val / 11 = 15
  · unfold outP inP
    rw [if_pos (by omega : 0 < t.val / 11 ∧ t.val / 11 < 16), if_neg (by omega : ¬(0 < t.val / 11 + 1 ∧ t.val / 11 + 1 < 16))]
    unfold outFly inHome
    iintro ⟨⟨HS, HC, HH, HS', HC', HA, HX, HY, HO⟩, HW, HB, Hk⟩
    ihave ⟨HX, HXr⟩ := (x1_split c (bT (t.val / 11)) (sT (t.val / 11)) XX) $$ HX
    icases HO with ⟨HR, HRr⟩
    iapply (caseBL t arg5 harg5 arg6 harg6 arg7 harg7 arg8 harg8 arg9 harg9 arg10 harg10 arg11 harg11 arg12 harg12 arg13 harg13 c XH XX f5 f6 f7 f8 f9 f10 f11 f12 f13 h1 hl A (TV (t.val / 11 - 1)) (OB (t.val / 11 - 1)) W Q)
    isplitl [HS]; · iexact HS
    isplitl [HA]; · iexact HA
    isplitl [HR]; · iexact HR
    isplitl [HX]; · iexact HX
    isplitl [HY]; · iexact HY
    isplitl [HW]; · iexact HW
    isplitl [HB]; · iexact HB
    iintro ⟨HS, HA, HR, HRc, HX, HW, HB⟩
    iapply Hk
    isplitr [HW HB]
    · isplitl [HS]; · iexact HS
      isplitl [HC]; · iexact HC
      isplitl [HA]; · iexact HA
      isplitl [HH HS' HC']
      · isplitl [HH]; · iexact HH
        isplitl [HS']; · iexact HS'
        iexact HC'
      isplitl [HR HRr HRc]
      · isplitl [HR HRr]
        · iapply (res_upto c TV OB hOB (t.val / 11) (by omega))
          isplitl [HR]; · iexact HR
          iexact HRr
        iexact HRc
      isplitl [HX]; · iexact HX
      iexact HXr
    isplitl [HW]; · iexact HW
    iexact HB
  · unfold outP inP
    rw [if_pos (by omega : 0 < t.val / 11 ∧ t.val / 11 < 16), if_pos (by omega : 0 < t.val / 11 + 1 ∧ t.val / 11 + 1 < 16)]
    unfold outFly inFly slotA
    iintro ⟨⟨HS, HC, HH, HS', HC', HA, HX, HY, HO⟩, HW, HB, Hk⟩
    ihave ⟨HX, HXr⟩ := (x1_split c (bT (t.val / 11)) (sT (t.val / 11)) XX) $$ HX
    icases HO with ⟨HR, HRr⟩
    icases HS' with ⟨%fs, HS'⟩
    ihave ⟨HSw, HSh⟩ := (slot_split c (sT (t.val / 11 + 1)) fs) $$ HS'
    ihave ⟨HH, HHr⟩ := (h2_split c (bT (t.val / 11 + 1)) (sT (t.val / 11 + 1)) XH) $$ HH
    iapply (caseB t arg5 harg5 arg6 harg6 arg7 harg7 arg8 harg8 arg9 harg9 arg10 harg10 arg11 harg11 arg12 harg12 arg13 harg13 c XH XX f5 f6 f7 f8 f9 f10 f11 f12 f13 h1 (by omega) (by omega) A fs (TV (t.val / 11 - 1)) (OB (t.val / 11 - 1)) W Q)
    isplitl [HS]; · iexact HS
    isplitl [HA]; · iexact HA
    isplitl [HSw]; · iexact HSw
    isplitl [HH]; · iexact HH
    isplitl [HC']; · iexact HC'
    isplitl [HR]; · iexact HR
    isplitl [HX]; · iexact HX
    isplitl [HY]; · iexact HY
    isplitl [HW]; · iexact HW
    isplitl [HB]; · iexact HB
    iintro ⟨HS, HA, HF, HR, HRc, HX, HW, HB⟩
    iapply Hk
    isplitr [HW HB]
    · isplitl [HS]; · iexact HS
      isplitl [HC]; · iexact HC
      isplitl [HA]; · iexact HA
      isplitl [HF HHr HSh]
      · isplitl [HF]; · iexists fs; iexact HF
        isplitl [HHr]; · iexact HHr
        iexists fs; iexact HSh
      isplitl [HR HRr HRc]
      · isplitl [HR HRr]
        · iapply (res_upto c TV OB hOB (t.val / 11) (by omega))
          isplitl [HR]; · iexact HR
          iexact HRr
        iexact HRc
      isplitl [HX]; · iexact HX
      iexact HXr
    isplitl [HW]; · iexact HW
    iexact HB

theorem sT_add_two (T : ℕ) : sT (T + 1 + 1) = sT T := Fin.ext (by show (T + 1 + 1) % 2 = T % 2; omega)

include hOB in
/-- A tile's last block. -/
theorem step3 (h1 : t.val % 11 = 10) (A : S1024x2048.Idx → Elt F .f32) (hv : TILE A = TV (t.val / 11)) (W) (Q : PUnit → sProp 𝕄) :
    iprop(st2 c XH XX OB (t.val / 11) A ∗ owes (c : Thread nD τ) 0 W ∗ BLK
       ∗ ((st0 c XH XX TV OB (t.val / 11 + 1) ∗ (∃ W, owes (c : Thread nD τ) 0 W) ∗ BLK) -∗ Q ⟨⟩))
      ⊢ WP Q := by
  have hN : t.val < 176 := t.isLt
  unfold st2 st0 slotF outRes accA
  rw [sT_add_two]
  by_cases hl : t.val / 11 = 15
  · unfold outP
    rw [if_neg (by omega : ¬(0 < t.val / 11 + 1 ∧ t.val / 11 + 1 < 16))]
    unfold slotA outRes xoA
    iintro ⟨⟨HS, HC, HA, HI, ⟨HR, HRc⟩, HX, HXr⟩, HW, HB, Hk⟩
    ihave ⟨HR, HRr⟩ := (res_split c (bT (t.val / 11)) (sT (t.val / 11)) (OB (t.val / 11))) $$ HR
    iapply (caseEL t arg5 harg5 arg6 harg6 arg7 harg7 arg8 harg8 arg9 harg9 arg10 harg10 arg11 harg11 arg12 harg12 arg13 harg13 c XH XX f5 f6 f7 f8 f9 f10 f11 f12 f13 h1 hl A (OB (t.val / 11)) W Q)
    isplitl [HS]; · iexact HS
    isplitl [HA]; · iexact HA
    isplitl [HX]; · iexact HX
    isplitl [HR]; · iexact HR
    isplitl [HRc]; · iexact HRc
    isplitl [HW]; · iexact HW
    isplitl [HB]; · iexact HB
    rw [hv]
    iintro ⟨HS, HA, HR, HV, HRc, HX, HY, HW, HB⟩
    iapply Hk
    isplitr [HW HB]
    · isplitl [HI]; · iexact HI
      isplitl [HS]; · iexists _; iexact HS
      isplitl [HC]; · iexact HC
      isplitl [HA]; · iexists _; iexact HA
      isplitl [HX HXr]
      · iapply (x1_join c (bT (t.val / 11)) (sT (t.val / 11)) XX)
        isplitl [HX]; · iexact HX
        iexact HXr
      isplitl [HY]; · iexact HY
      isplitr [HV]
      · isplitl [HR HRr]
        · iapply (res_upto c TV OB hOB (t.val / 11 + 1) (by omega))
          isplitl [HR]; · iexact HR
          iexact HRr
        iexact HRc
      iexists _; iexact HV
    isplitl [HW]; · iexact HW
    iexact HB
  · unfold outP
    rw [if_pos (by omega : 0 < t.val / 11 + 1 ∧ t.val / 11 + 1 < 16)]
    unfold slotA outFly
    iintro ⟨⟨HS, HC, HA, HI, ⟨HR, HRc⟩, HX, HXr⟩, HW, HB, Hk⟩
    ihave ⟨HR, HRr⟩ := (res_split c (bT (t.val / 11)) (sT (t.val / 11)) (OB (t.val / 11))) $$ HR
    iapply (caseE t arg5 harg5 arg6 harg6 arg7 harg7 arg8 harg8 arg9 harg9 arg10 harg10 arg11 harg11 arg12 harg12 arg13 harg13 c XH XX f5 f6 f7 f8 f9 f10 f11 f12 f13 h1 (by omega) A (OB (t.val / 11)) W Q)
    isplitl [HS]; · iexact HS
    isplitl [HA]; · iexact HA
    isplitl [HX]; · iexact HX
    isplitl [HR]; · iexact HR
    isplitl [HRc]; · iexact HRc
    isplitl [HW]; · iexact HW
    isplitl [HB]; · iexact HB
    rw [hv]
    iintro ⟨HS, HA, HR, HX, HY, HW, HB⟩
    iapply Hk
    isplitr [HW HB]
    · isplitl [HI]; · iexact HI
      isplitl [HS]; · iexists _; iexact HS
      isplitl [HC]; · iexact HC
      isplitl [HA]; · iexists _; iexact HA
      isplitl [HX HXr]
      · iapply (x1_join c (bT (t.val / 11)) (sT (t.val / 11)) XX)
        isplitl [HX]; · iexact HX
        iexact HXr
      isplitl [HY]; · iexact HY
      isplitl [HR]; · iexact HR
      iexact HRr
    isplitl [HW]; · iexact HW
    iexact HB

end Body

end Cert.Proof.FfnI

end
-- ==== Proof.FfnFrame.lean ====
/-
  The run of the ConvFFN kernel: what the accumulator, the tiles and the result hold at each point, the invariant
  between points, and the launch.
-/
module

public import proofs.«01_k».proof.Proof.FfnState
public import proofs.«01_k».proof.Proof.Gen.FfnIdeal.Frame

@[expose] public section

set_option maxRecDepth 16384

noncomputable section

namespace Cert.Proof.FfnI

open Cert.FfnIdeal Cert.FfnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## The values -/

/-- Point `n` of the grid. -/
def tp (n : ℕ) : Fin cfg0.N := ⟨n % 176, Nat.mod_lt _ (by decide)⟩
/-- `h2` and `x1` as the kernel finds them. -/
abbrev XHm (c : Dev nD) : S8x2048x2048.Idx → Elt F .bf16 := V m c main_arg0
abbrev XXm (c : Dev nD) : S8x2048x2048.Idx → Elt F .f32 := V m c main_arg1

/-- The accumulator after block `k` of tile `T`. -/
def accV (c : Dev nD) (T : ℕ) : ℕ → S1024x2048.Idx → Elt F .f32
  | 0 => accFst (slotV (XHm m c) (bT T) (sT T)) (iblk m c 0 (tp (11 * T))) (iblk m c 1 (tp (11 * T))) (iblk m c 2 (tp (11 * T)))
      (iblk m c 3 (tp (11 * T))) (iblk m c 4 (tp (11 * T))) (iblk m c 5 (tp (11 * T))) (iblk m c 6 (tp (11 * T)))
  | k + 1 => accNxt (slotV (XHm m c) (bT T) (sT T)) (iblk m c 0 (tp (11 * T + (k + 1)))) (iblk m c 1 (tp (11 * T + (k + 1))))
      (iblk m c 2 (tp (11 * T + (k + 1)))) (iblk m c 3 (tp (11 * T + (k + 1)))) (iblk m c 4 (tp (11 * T + (k + 1)))) (iblk m c 5 (tp (11 * T + (k + 1))))
      (iblk m c 6 (tp (11 * T + (k + 1)))) (accV c T k)
/-- The tile `T` as its last block writes it. -/
def tileOf (c : Dev nD) (T : ℕ) : S1024x2048.Idx → Elt F .f32 :=
  tileV (slotV (XHm m c) (bT T) (sT T)) (iblk m c 0 (tp (11 * T + 10))) (iblk m c 1 (tp (11 * T + 10))) (iblk m c 2 (tp (11 * T + 10)))
    (iblk m c 3 (tp (11 * T + 10))) (iblk m c 4 (tp (11 * T + 10))) (iblk m c 5 (tp (11 * T + 10))) (iblk m c 6 (tp (11 * T + 10)))
    (iblk m c 7 (tp (11 * T + 10))) (iblk m c 8 (tp (11 * T + 10))) (accV m c T 9) (x1V (XXm m c) (bT T) (sT T))
/-- The result with the tiles below `T` written. -/
def outB (c : Dev nD) : ℕ → S8x2048x2048.Idx → Elt F .f32
  | 0 => V m c main_v2
  | T + 1 => landR c (bT T) (sT T) (tileOf m c T) (outB c T)

/-- The invariant before point `n`. -/
def inv (c : Dev nD) (n : ℕ) : sProp 𝕄 :=
  if n % 11 = 0 then st0 c (XHm m c) (XXm m c) (tileOf m c) (outB m c) (n / 11)
  else if n % 11 = 1 then st1 c (XHm m c) (XXm m c) (tileOf m c) (outB m c) (n / 11) (accV m c (n / 11) 0)
  else st2 c (XHm m c) (XXm m c) (outB m c) (n / 11) (accV m c (n / 11) (n % 11 - 1))

/-! ## One point -/

section Point
variable (t : Fin grid0.N)
  (arg5 : Memref sig .tc .vmem S2048x512 .f32) (harg5 : arg5.IsWhole)
  (arg6 : Memref sig .tc .vmem S2048x512 .f32) (harg6 : arg6.IsWhole)
  (arg7 : Memref sig .tc .vmem S3x512 .f32) (harg7 : arg7.IsWhole)
  (arg8 : Memref sig .tc .vmem S3x512 .f32) (harg8 : arg8.IsWhole)
  (arg9 : Memref sig .tc .vmem S1x512 .f32) (harg9 : arg9.IsWhole)
  (arg10 : Memref sig .tc .vmem S1x512 .f32) (harg10 : arg10.IsWhole)
  (arg11 : Memref sig .tc .vmem S512x2048 .f32) (harg11 : arg11.IsWhole)
  (arg12 : Memref sig .tc .vmem S1x6x2048 .f32) (harg12 : arg12.IsWhole)
  (arg13 : Memref sig .tc .vmem S1x2048 .f32) (harg13 : arg13.IsWhole)
  (c : Dev nD)
  (f5 : Buf (Elt F) (arg5.view.loc (c : Thread nD τ))) (f6 : Buf (Elt F) (arg6.view.loc (c : Thread nD τ)))
  (f7 : Buf (Elt F) (arg7.view.loc (c : Thread nD τ))) (f8 : Buf (Elt F) (arg8.view.loc (c : Thread nD τ)))
  (f9 : Buf (Elt F) (arg9.view.loc (c : Thread nD τ))) (f10 : Buf (Elt F) (arg10.view.loc (c : Thread nD τ)))
  (f11 : Buf (Elt F) (arg11.view.loc (c : Thread nD τ))) (f12 : Buf (Elt F) (arg12.view.loc (c : Thread nD τ)))
  (f13 : Buf (Elt F) (arg13.view.loc (c : Thread nD τ)))
  (e5 : arg5.view.read (Elt F) f5 = iblk m c 0 t) (e6 : arg6.view.read (Elt F) f6 = iblk m c 1 t)
  (e7 : arg7.view.read (Elt F) f7 = iblk m c 2 t) (e8 : arg8.view.read (Elt F) f8 = iblk m c 3 t)
  (e9 : arg9.view.read (Elt F) f9 = iblk m c 4 t) (e10 : arg10.view.read (Elt F) f10 = iblk m c 5 t)
  (e11 : arg11.view.read (Elt F) f11 = iblk m c 6 t) (e12 : arg12.view.read (Elt F) f12 = iblk m c 7 t)
  (e13 : arg13.view.read (Elt F) f13 = iblk m c 8 t)

theorem tp_eq (n : ℕ) (h : n = t.val) : tp n = t := Fin.ext (by
  have hN : t.val < 176 := t.isLt
  show n % 176 = t.val; omega)

include e5 e6 e7 e8 e9 e10 e11 in
theorem acc1_val (h : t.val % 11 = 0) :
    acc1 arg5 arg6 arg7 arg8 arg9 arg10 arg11 c (XHm m c) f5 f6 f7 f8 f9 f10 f11 (t.val / 11) = accV m c (t.val / 11) 0 := by
  unfold acc1 accV
  rw [e5, e6, e7, e8, e9, e10, e11, tp_eq t _ (by omega)]
include e5 e6 e7 e8 e9 e10 e11 in
theorem accS_val (k : ℕ) (h : t.val % 11 = k + 1) :
    accS arg5 arg6 arg7 arg8 arg9 arg10 arg11 c (XHm m c) f5 f6 f7 f8 f9 f10 f11 (t.val / 11) (accV m c (t.val / 11) k) = accV m c (t.val / 11) (k + 1) := by
  conv_rhs => unfold accV
  unfold accS
  rw [e5, e6, e7, e8, e9, e10, e11, tp_eq t _ (by omega)]
include e5 e6 e7 e8 e9 e10 e11 e12 e13 in
theorem tile_val (h : t.val % 11 = 10) :
    tileS arg5 arg6 arg7 arg8 arg9 arg10 arg11 arg12 arg13 c (XHm m c) (XXm m c) f5 f6 f7 f8 f9 f10 f11 f12 f13 (t.val / 11) (accV m c (t.val / 11) 9)
      = tileOf m c (t.val / 11) := by
  unfold tileS tileOf
  rw [e5, e6, e7, e8, e9, e10, e11, e12, e13, tp_eq t _ (by omega)]

local notation "BLK" => blocksP arg5 arg6 arg7 arg8 arg9 arg10 arg11 arg12 arg13 c f5 f6 f7 f8 f9 f10 f11 f12 f13
local notation "WP" Q:max => wp frame (wpE (defs₀ (F := F)) 𝒱₀ (c : Thread nD τ) none) Set.univ
  (bodyG t arg5 harg5 arg6 harg6 arg7 harg7 arg8 harg8 arg9 harg9 arg10 harg10 arg11 harg11 arg12 harg12 arg13 harg13) Q

include e5 e6 e7 e8 e9 e10 e11 e12 e13 in
/-- Every point carries the invariant on. -/
theorem point (W) (Q : PUnit → sProp 𝕄) :
    iprop(inv m c t.val ∗ owes (c : Thread nD τ) 0 W ∗ BLK ∗ ((inv m c (t.val + 1) ∗ (∃ W, owes (c : Thread nD τ) 0 W) ∗ BLK) -∗ Q ⟨⟩))
      ⊢ WP Q := by
  have hk : t.val % 11 < 11 := Nat.mod_lt _ (by decide)
  unfold inv
  by_cases h0 : t.val % 11 = 0
  · rw [if_pos h0, if_neg (by omega), if_pos (by omega), show (t.val + 1) / 11 = t.val / 11 by omega,
      ← acc1_val m t arg5 arg6 arg7 arg8 arg9 arg10 arg11 c f5 f6 f7 f8 f9 f10 f11 e5 e6 e7 e8 e9 e10 e11 h0]
    exact step0 t arg5 harg5 arg6 harg6 arg7 harg7 arg8 harg8 arg9 harg9 arg10 harg10 arg11 harg11 arg12 harg12 arg13 harg13 c (XHm m c) (XXm m c)
      f5 f6 f7 f8 f9 f10 f11 f12 f13 (tileOf m c) (outB m c) h0 W Q
  rw [if_neg h0]
  by_cases h1 : t.val % 11 = 1
  · rw [if_pos h1, if_neg (by omega), if_neg (by omega), show (t.val + 1) / 11 = t.val / 11 by omega, show (t.val + 1) % 11 - 1 = 0 + 1 by omega,
      ← accS_val m t arg5 arg6 arg7 arg8 arg9 arg10 arg11 c f5 f6 f7 f8 f9 f10 f11 e5 e6 e7 e8 e9 e10 e11 0 h1]
    exact step1 t arg5 harg5 arg6 harg6 arg7 harg7 arg8 harg8 arg9 harg9 arg10 harg10 arg11 harg11 arg12 harg12 arg13 harg13 c (XHm m c) (XXm m c)
      f5 f6 f7 f8 f9 f10 f11 f12 f13 (tileOf m c) (outB m c) (fun _ => rfl) h1 _ W Q
  rw [if_neg h1]
  by_cases h2 : t.val % 11 = 10
  · rw [if_pos (by omega : (t.val + 1) % 11 = 0), show (t.val + 1) / 11 = t.val / 11 + 1 by omega, show t.val % 11 - 1 = 9 by omega]
    exact step3 t arg5 harg5 arg6 harg6 arg7 harg7 arg8 harg8 arg9 harg9 arg10 harg10 arg11 harg11 arg12 harg12 arg13 harg13 c (XHm m c) (XXm m c)
      f5 f6 f7 f8 f9 f10 f11 f12 f13 (tileOf m c) (outB m c) (fun _ => rfl) h2 _
      (tile_val m t arg5 arg6 arg7 arg8 arg9 arg10 arg11 arg12 arg13 c f5 f6 f7 f8 f9 f10 f11 f12 f13 e5 e6 e7 e8 e9 e10 e11 e12 e13 h2) W Q
  · rw [if_neg (by omega), if_neg (by omega), show (t.val + 1) / 11 = t.val / 11 by omega, show (t.val + 1) % 11 - 1 = (t.val % 11 - 1) + 1 by omega,
      ← accS_val m t arg5 arg6 arg7 arg8 arg9 arg10 arg11 c f5 f6 f7 f8 f9 f10 f11 e5 e6 e7 e8 e9 e10 e11 (t.val % 11 - 1) (by omega)]
    exact step2 t arg5 harg5 arg6 harg6 arg7 harg7 arg8 harg8 arg9 harg9 arg10 harg10 arg11 harg11 arg12 harg12 arg13 harg13 c (XHm m c) (XXm m c)
      f5 f6 f7 f8 f9 f10 f11 f12 f13 (outB m c) (by omega) (by omega) _ W Q

end Point

/-! ## The launch -/

section Launch

/-- The kernel's own semaphore cells. -/
abbrev osem : Fin 4 → SemLoc sig := ![.dma (csm 0).sem, .dma (csm 1).sem, .dma xsm.sem, .dma rsm.sem]
theorem ownSemFacts : Pipeline.OwnSemFacts spec0 osem := by decide

theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
theorem ownSems0_eq (c : Dev nD) : (Pipeline.ownSems0 (Ix := Unit) (Name := ℕ) (U := UU nD τ) (Lvl := ℕ) (Val := Elt F) (τ := τ) osem c : sProp 𝕄)
    = iprop(cellP c (csm 0) ∗ cellP c (csm 1) ∗ cellP c xsm ∗ cellP c rsm) := by
  unfold Pipeline.ownSems0; rw [bigSep_fin4]; rfl

/-- The buffer is its two slots. -/
theorem slot_compl : (Finset.univ : Finset S2x1056x2048.Idx) \ (slotM 0).view.set = (slotM 1).view.set := by
  refine Finset.ext fun (j : S2x1056x2048.Idx) => ?_
  have hj : (j 0).val < 2 := (j 0).isLt
  refine Finset.mem_sdiff.trans ⟨fun h => (mem_slot 1 j).mpr ?_, fun h => ⟨Finset.mem_univ _, fun h' => ?_⟩⟩
  · have h0 : (j 0).val ≠ 0 := fun e => h.2 ((mem_slot 0 j).mpr e)
    show (j 0).val = 1; omega
  · have e0 : (j 0).val = 0 := (mem_slot 0 j).mp h'
    have e1 : (j 0).val = 1 := (mem_slot 1 j).mp h
    omega
theorem rest_slot (c : Dev nD) (f : S2x1056x2048.Idx → Elt F .bf16) : restP c (slotM 0) f = (heldP c (slotM 1) f : sProp 𝕄) :=
  congrArg (fun S => (bufM.view.loc (c : Thread nD τ) ↦[S]{fullShare} f : sProp 𝕄)) slot_compl
theorem buf_whole (c : Dev nD) (f : S2x1056x2048.Idx → Elt F .bf16) :
    (((c : Thread nD τ).loc cc0_scratch0) ↦{fullShare} f : sProp 𝕄) ⊢ (iprop(heldP c (slotM 0) f ∗ heldP c (slotM 1) f) : sProp 𝕄) := by
  rw [← rest_slot]; exact whole_split c (slotM 0) f
theorem buf_split (c : Dev nD) :
    iprop(∃ f : Buf (Elt F) ((c : Thread nD τ).loc cc0_scratch0), ((c : Thread nD τ).loc cc0_scratch0) ↦{fullShare} f)
      ⊢ (iprop(slotA c 0 ∗ slotA c 1) : sProp 𝕄) := by
  unfold slotA
  iintro ⟨%f, H⟩
  ihave ⟨H0, H1⟩ := (buf_whole c f) $$ H
  isplitl [H0]; · iexists f; iexact H0
  iexists f; iexact H1
theorem buf_glue (c : Dev nD) (f g : S2x1056x2048.Idx → Elt F .bf16) :
    iprop(heldP c (slotM 0) f ∗ heldP c (slotM 1) g)
      ⊢ (iprop(∃ f : Buf (Elt F) ((c : Thread nD τ).loc cc0_scratch0), ((c : Thread nD τ).loc cc0_scratch0) ↦{fullShare} f) : sProp 𝕄) := by
  rw [← rest_slot]
  refine BIBase.Entails.trans (pointsTo_join_subset (Finset.subset_univ (slotM 0).view.set)) ?_
  iintro H; iexists _; iexact H
theorem buf_join (c : Dev nD) :
    iprop(slotA c 0 ∗ slotA c 1)
      ⊢ (iprop(∃ f : Buf (Elt F) ((c : Thread nD τ).loc cc0_scratch0), ((c : Thread nD τ).loc cc0_scratch0) ↦{fullShare} f) : sProp 𝕄) := by
  unfold slotA
  iintro ⟨⟨%f, H0⟩, ⟨%g, H1⟩⟩
  iapply (buf_glue c f g)
  isplitl [H0]; · iexact H0
  iexact H1
/-- The accumulator and the output buffer, whole, are what their views hold. -/
theorem acc_eq (c : Dev nD) (f : S1024x2048.Idx → Elt F .f32) :
    heldP c accM f = (((c : Thread nD τ).loc cc0_scratch1) ↦{fullShare} f : sProp 𝕄) :=
  congrArg (fun S => (accM.view.loc (c : Thread nD τ) ↦[S]{fullShare} f : sProp 𝕄)) (View.set_whole _)
theorem xo_eq (c : Dev nD) (f : S1024x2048.Idx → Elt F .f32) :
    heldP c xoM f = (((c : Thread nD τ).loc cc0_scratch2) ↦{fullShare} f : sProp 𝕄) :=
  congrArg (fun S => (xoM.view.loc (c : Thread nD τ) ↦[S]{fullShare} f : sProp 𝕄)) (View.set_whole _)

/-- Window `w`'s block, at the window's own shape. -/
def blkOf (c : Dev nD) (w : Fin cfg0.W) (t : Fin cfg0.N) : (cfg0.win w).block.Idx → Elt F (cfg0.win w).elt :=
  match w with
  | ⟨0, _⟩ => iblk m c 0 t
  | ⟨1, _⟩ => iblk m c 1 t
  | ⟨2, _⟩ => iblk m c 2 t
  | ⟨3, _⟩ => iblk m c 3 t
  | ⟨4, _⟩ => iblk m c 4 t
  | ⟨5, _⟩ => iblk m c 5 t
  | ⟨6, _⟩ => iblk m c 6 t
  | ⟨7, _⟩ => iblk m c 7 t
  | ⟨8, _⟩ => iblk m c 8 t

/-- The pipeline's proof data: every window an input, left as found. -/
def dats (_ : Fin 1) (c : Dev nD) : Dat τ (Elt F) Unit ℕ (UU nD τ) ℕ cfg0 c where
  A w := V m c (Pipeline.arrRef spec0 w)
  after w t := blkOf m c w t
  Φ n := inv m c n.val
  q w := Pipeline.shareOf spec0 w
  owed _ := 0

theorem after_eq (c : Dev nD) (w t) : (dats m 0 c).after w t = blkOf m c w t := by dsimp only [dats]
theorem is_in : ∀ w : Fin 9, (cfg0.win w).isOut = false := by decide
theorem before_eq (c : Dev nD) (w : Fin cfg0.W) (t d) : (dats m 0 c).before w t d = blkOf m c w t := by
  match w with
  | ⟨0, _⟩ | ⟨1, _⟩ | ⟨2, _⟩ | ⟨3, _⟩ | ⟨4, _⟩ | ⟨5, _⟩ | ⟨6, _⟩ | ⟨7, _⟩ | ⟨8, _⟩ =>
    exact ((dats m 0 c).before_in_eq_fetched _ rfl (fun _ => rfl) (fun _ _ _ => rfl) (fun t => by rw [after_eq]; rfl) t d).trans rfl

/-- The body table's entry is the kernel on the point's staged blocks. -/
theorem defs_tc : (defs₀ (F := F)) .tc cfg0.body = fun a => bodyG a.1 (win0_0.stage (a.2 0)) (hstage0_0 ((a.2 0).cast nbuf0_0))
    (win0_1.stage (a.2 1)) (hstage0_1 ((a.2 1).cast nbuf0_1)) (win0_2.stage (a.2 2)) (hstage0_2 ((a.2 2).cast nbuf0_2))
    (win0_3.stage (a.2 3)) (hstage0_3 ((a.2 3).cast nbuf0_3)) (win0_4.stage (a.2 4)) (hstage0_4 ((a.2 4).cast nbuf0_4))
    (win0_5.stage (a.2 5)) (hstage0_5 ((a.2 5).cast nbuf0_5)) (win0_6.stage (a.2 6)) (hstage0_6 ((a.2 6).cast nbuf0_6))
    (win0_7.stage (a.2 7)) (hstage0_7 ((a.2 7).cast nbuf0_7)) (win0_8.stage (a.2 8)) (hstage0_8 ((a.2 8).cast nbuf0_8)) := rfl
theorem prog_eq (t : Fin cfg0.N) : (defs₀ (F := F)) .tc cfg0.body (cfg0.bodyArgs t (cfg0.slots t)) = bodyG t
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (win0_7.stage (cfg0.slots t 7)) (hstage0_7 ((cfg0.slots t 7).cast nbuf0_7))
    (win0_8.stage (cfg0.slots t 8)) (hstage0_8 ((cfg0.slots t 8).cast nbuf0_8)) :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_eq, after_eq]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  unfold owns
  iintro ⟨HI, ⟨%W, -, HW⟩, ⟨%d5, %f5, %e5, H5⟩, ⟨%d6, %f6, %e6, H6⟩, ⟨%d7, %f7, %e7, H7⟩, ⟨%d8, %f8, %e8, H8⟩, ⟨%d9, %f9, %e9, H9⟩,
    ⟨%d10, %f10, %e10, H10⟩, ⟨%d11, %f11, %e11, H11⟩, ⟨%d12, %f12, %e12, H12⟩, ⟨%d13, %f13, %e13, H13⟩⟩
  sl_rw [prog_eq t]
  iapply (point m t _ _ _ _ _ _ _ _ _ _ _ _ _ _ _ _ _ _ c f5 f6 f7 f8 f9 f10 f11 f12 f13 e5 e6 e7 e8 e9 e10 e11 e12 e13 W)
  isplitl [HI]; · iexact HI
  isplitl [HW]; · iexact HW
  isplitl [H5 H6 H7 H8 H9 H10 H11 H12 H13]
  · isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro ⟨HI, ⟨%W', HW⟩, ⟨H5, H6, H7, H8, H9, H10, H11, H12, H13⟩⟩
  isplitl [HI]; · iexact HI
  isplitl [HW]
  · iexists W'; isplitr; · ipureintro; exact fun _ _ => Or.inl trivial
    iexact HW
  isplitl [H5]; · iexists f5; isplitr; · ipureintro; exact e5
                  iexact H5
  isplitl [H6]; · iexists f6; isplitr; · ipureintro; exact e6
                  iexact H6
  isplitl [H7]; · iexists f7; isplitr; · ipureintro; exact e7
                  iexact H7
  isplitl [H8]; · iexists f8; isplitr; · ipureintro; exact e8
                  iexact H8
  isplitl [H9]; · iexists f9; isplitr; · ipureintro; exact e9
                  iexact H9
  isplitl [H10]; · iexists f10; isplitr; · ipureintro; exact e10
                   iexact H10
  isplitl [H11]; · iexists f11; isplitr; · ipureintro; exact e11
                   iexact H11
  isplitl [H12]; · iexists f12; isplitr; · ipureintro; exact e12
                   iexact H12
  iexists f13; isplitr; · ipureintro; exact e13
  iexact H13

/-! ## The run -/

def u₀ : UU nD τ := (initOf (Pipeline.cells cfgs cellOf_inj) (Pipeline.launchToks cfgs cellOf_inj), 1)
/-- What the kernel is handed beside its windows, what it hands back, and what it never touches. -/
def inX (c : Dev nD) : sProp 𝕄 :=
  iprop(wholeP c h2M (XHm m c) ∗ wholeP c x1M (XXm m c) ∗ wholeP c resM (outB m c 0) ∗ cellP c (csm 0) ∗ cellP c (csm 1) ∗ cellP c xsm ∗ cellP c rsm)
def outY (c : Dev nD) : sProp 𝕄 := iprop(wholeP c h2M (XHm m c) ∗ wholeP c x1M (XXm m c) ∗ wholeP c resM (outB m c 16))
def restZ (c : Dev nD) : sProp 𝕄 :=
  iprop((((c : Thread nD τ).loc main_arg3) ↦{fullShare} V m c main_arg3) ∗ ((c : Thread nD τ).loc main_arg6) ↦{fullShare} V m c main_arg6)
def QY (c : Dev nD) (s : MemSt nD τ sig (Elt F)) : Prop :=
  s.mem ((c : Thread nD τ).loc main_arg0) = V m c main_arg0 ∧ s.mem ((c : Thread nD τ).loc main_arg1) = V m c main_arg1
  ∧ s.mem ((c : Thread nD τ).loc main_v2) = outB m c 16 ∧ s.mem ((c : Thread nD τ).loc main_arg3) = V m c main_arg3
  ∧ s.mem ((c : Thread nD τ).loc main_arg6) = V m c main_arg6
def QC : PUnit × MemSt nD τ sig (Elt F) → Prop := fun r =>
  ∀ c : Dev nD, (∀ w : Fin cfg0.W, r.2.mem ((cfg0.win w).arr.view.loc (c : Thread nD τ)) = (dats m 0 c).arrAt w cfg0.N) ∧ QY m c r.2

/-- Before the first point. -/
theorem inv_in (c : Dev nD) : iprop(inX m c ∗ Pipeline.scopedRest (Ix := Unit) (Name := ℕ) (U := UU nD τ) (Lvl := ℕ) (Val := Elt F) spec0 c) ⊢ (inv m c 0 : sProp 𝕄) := by
  rw [scopedRest0_eq]
  unfold inX inv
  rw [if_pos rfl]
  unfold st0 inP outP
  rw [if_neg (by decide), if_neg (by decide)]
  unfold inHome outRes accA xoA
  iintro ⟨⟨HH, HX, HR, HC0, HC1, HY, HRc⟩, HB, ⟨%fa, HA⟩, ⟨%fx, HV⟩⟩
  ihave ⟨H0, H1⟩ := (buf_split c) $$ HB
  isplitl [HH H0 HC0]
  · isplitl [HH]; · iexact HH
    isplitl [H0]; · iexact H0
    iexact HC0
  isplitl [H1]; · iexact H1
  isplitl [HC1]; · iexact HC1
  isplitl [HA]
  · iexists fa; iapply (of_eq (acc_eq c fa).symm); iexact HA
  isplitl [HX]; · iexact HX
  isplitl [HY]; · iexact HY
  isplitl [HR HRc]
  · isplitl [HR]; · iexact HR
    iexact HRc
  iexists fx; iapply (of_eq (xo_eq c fx).symm); iexact HV
/-- After the last. -/
theorem inv_out (c : Dev nD) : (inv m c 176 : sProp 𝕄)
    ⊢ iprop(outY m c ∗ (cellP c (csm 0) ∗ cellP c (csm 1) ∗ cellP c xsm ∗ cellP c rsm) ∗ Pipeline.scopedRest (Ix := Unit) (Name := ℕ) (U := UU nD τ) (Lvl := ℕ) (Val := Elt F) spec0 c) := by
  rw [scopedRest0_eq]
  unfold outY inv
  rw [if_pos rfl]
  unfold st0 inP outP
  rw [if_neg (by decide), if_neg (by decide)]
  unfold inHome outRes accA xoA
  iintro ⟨⟨HH, H0, HC0⟩, H1, HC1, ⟨%fa, HA⟩, HX, HY, ⟨HR, HRc⟩, ⟨%fx, HV⟩⟩
  isplitl [HH HX HR]
  · isplitl [HH]; · iexact HH
    isplitl [HX]; · iexact HX
    iexact HR
  isplitl [HC0 HC1 HY HRc]
  · isplitl [HC0]; · iexact HC0
    isplitl [HC1]; · iexact HC1
    isplitl [HY]; · iexact HY
    iexact HRc
  isplitl [H0 H1]
  · iapply (buf_join c)
    isplitl [H0]; · iexact H0
    iexact H1
  isplitl [HA]
  · iexists fa; iapply (of_eq (acc_eq c fa)); iexact HA
  iexists fx; iapply (of_eq (xo_eq c fx)); iexact HV

set_option backward.isDefEq.respectTransparency.types false in
/-- Every fair run of @main ends with the result at the last tile's state, the arguments unchanged and every semaphore
    counter at zero. -/
theorem run_main : θ_run defs (onTc (τ := τ) (main (F := F))) (s₀ m ρ) (fun r => QC m r ∧ r.2.sem = fun _ => 0) :=
  Pipeline.θ_run_region_pf_quiescent (fun p => (cfgs p).toPCfg) (fun p => (cfgs p).toPCfg_adm) (dats m) () launch₀0.cellOf_inj (0 : Fin 1) launch₀0.win
    ownSemFacts (Pipeline.PreFacts.none _) EP defs₀ 𝒱₀ m ρ main
    (fun c => (body_obligation m c).loose) launch₀0.block_pos launch₀0.arr_whole launch₀0.stage_whole (fun _ _ => rfl)
    (fun _ => iprop(emp)) u₀
    (by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V m) (Pipeline.hmain_prefix cfgs 0 defs₀ 𝒱₀ m main hostOps0 hostOps0_sub hostOps0_fresh main_chain)
    (fun c => (dats m 0 c).arrays_split_shared launch₀0.sharedIn launch₀0.arr_whole (fun _ _ => rfl) (V m c) _ (fun _ => rfl))
    (fun _ k => k.elim0) (inX m) (outY m) (restZ m)
    (fun c => by
      rw [Pipeline.unscopedRestP_none]
      rw [show Pipeline.unscopedRest (Ix := Unit) (Name := ℕ) (U := UU nD τ) (Lvl := ℕ) ((cfgs 0).toPCfg (Val := Elt F)).spec c (V m c) = _ from unscopedRest0_eq c (V m c), ownSems0_eq]
      unfold inX restZ wholeP
      iintro ⟨⟨H0, H1, H3, H6, HR⟩, ⟨C0, C1, CX, CR⟩, -, -, -⟩; imodintro
      isplitr [H3 H6]
      · isplitl [H0]; · iexact H0
        isplitl [H1]; · iexact H1
        isplitl [HR]; · iexact HR
        isplitl [C0]; · iexact C0
        isplitl [C1]; · iexact C1
        isplitl [CX]; · iexact CX
        iexact CR
      isplitl [H3]; · iexact H3
      iexact H6)
    (fun c => (show _ ⊢ iprop(inX m c ∗ Pipeline.scopedRest (Ix := Unit) (Name := ℕ) (U := UU nD τ) (Lvl := ℕ) (Val := Elt F) spec0 c) from by
      iintro ⟨HX, -, HR⟩; isplitl [HX] <;> iassumption).trans (inv_in m c))
    (fun c => by
      rw [ownSems0_eq]
      exact BIBase.Entails.trans (of_eq (congrArg (inv m c) N_0)) (inv_out m c))
    (QY m)
    (fun c s' => by
      unfold outY restZ
      iintro ⟨⟨H0, H1, HR⟩, ⟨H3, H6⟩, HSI⟩
      unfold wholeP
      icombine HSI H0 gives %h0
      icombine HSI H1 gives %h1
      icombine HSI HR gives %hr
      icombine HSI H3 gives %h3
      icombine HSI H6 gives %h6
      imodintro
      isplitr
      · ipureintro
        exact ⟨Buf.eq_of_forall_mem_univ h0, Buf.eq_of_forall_mem_univ h1, Buf.eq_of_forall_mem_univ hr, Buf.eq_of_forall_mem_univ h3, Buf.eq_of_forall_mem_univ h6⟩
      iexact HSI)
    (fun s h hz => ⟨fun c => ⟨(h c).1, (h c).2.2⟩, hz⟩)

/-- An input window's array ends as the kernel found it. -/
theorem arr_end (c : Dev nD) (w : Fin cfg0.W) : (dats m 0 c).arrAt w cfg0.N = V m c (Pipeline.arrRef spec0 w) :=
  (dats (F := F) m 0 c).arrAt_in w (is_in w) _

/-- The result the run leaves, the arguments unchanged, every semaphore counter at zero. -/
theorem run : θ_run defs (onTc (τ := τ) (main (F := F))) ⟨m, fun _ => 0, ρ⟩ (fun r => (∀ c : Dev nD,
      r.2.mem ((c.tc : Thread nD τ).loc main_v2) = outB m c 16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c =>
    ⟨(h.1 c).2.2.2.1, (h.1 c).2.1.trans (V_main_arg0 m c), (h.1 c).2.2.1.trans (V_main_arg1 m c),
      ((h.1 c).1 7).trans ((arr_end m c 7).trans (V_main_arg2 m c)), (h.1 c).2.2.2.2.1.trans (V_main_arg3 m c),
      ((h.1 c).1 1).trans ((arr_end m c 1).trans (V_main_arg4 m c)), ((h.1 c).1 3).trans ((arr_end m c 3).trans (V_main_arg5 m c)),
      (h.1 c).2.2.2.2.2.trans (V_main_arg6 m c), ((h.1 c).1 6).trans ((arr_end m c 6).trans (V_main_arg7 m c))⟩, h.2⟩) (run_main m ρ)

end Launch

end Cert.Proof.FfnI

end
-- ==== Proof.FfnBits.lean ====
/-
  The ConvFFN kernel as written, on bits: the same program as the one the proof runs, so the same run.
-/
module

public import proofs.«01_k».proof.Proof.FfnFrame
public import proofs.«01_k».proof.Proof.Gen.Ffn.Frame

@[expose] public section

set_option maxRecDepth 16384

noncomputable section

namespace Cert.Proof.FfnI

open Idealize.ShloMosaic Idealize.SL.Sem

/-- The kernel body's table is the same at every label. -/
theorem body_eq (i : Cert.FfnIdeal.grid0.Coords) : @Cert.Ffn.cc0_conv_ffn Bits _ _ i = @Cert.FfnIdeal.cc0_conv_ffn Bits _ _ i := rfl
theorem tab_eq (t : Fin Cert.FfnIdeal.grid0.N) (s) : (Cert.Ffn.defs₀ (F := Bits)) .tc 0 (t, s) = Cert.FfnIdeal.defs₀ (F := Bits) .tc 0 (t, s) := rfl
theorem defs0_eq : (Cert.Ffn.defs₀ (F := Bits)) = Cert.FfnIdeal.defs₀ (F := Bits) := by
  funext p l a
  cases p with
  | tc =>
    match l, a with
    | 0, (t, s) => exact tab_eq t s
  | _ => rfl
theorem main_eq : (Cert.Ffn.main (F := Bits)) = Cert.FfnIdeal.main (F := Bits) := rfl
theorem defs_eq : (Cert.Ffn.defs (F := Bits)) = Cert.FfnIdeal.defs (F := Bits) :=
  congrArg (Pipeline.defs (Cert.FfnIdeal.pcfgs (F := Bits))) defs0_eq

set_option backward.isDefEq.respectTransparency.types false in
theorem frame_bits : Cert.quiescent_Ffn := fun m ρ _ => by
  rw [show (Cert.Ffn.defs (F := Bits)) = Cert.FfnIdeal.defs (F := Bits) from defs_eq, show (Cert.Ffn.main (F := Bits)) = Cert.FfnIdeal.main (F := Bits) from main_eq]
  exact (θ_run (Cert.FfnIdeal.defs (F := Bits)) _ _).mono (fun _ h => ⟨fun c => (h.1 c).2, h.2⟩) (run (F := Bits) m ρ)

end Cert.Proof.FfnI

end
-- ==== Proof.FfnRef.lean ====
/-
  The ConvFFN's reference, read at an index.
-/
module

public import proofs.«01_k».proof.Proof.Gen.FfnRefIdeal.Run
public import proofs.«01_k».proof.Proof.Gen.FfnRefIdeal.Read
public import proofs.«01_k».proof.Proof.OutRef
public import Idealize.ShloMosaic.Lib.Pointwise

@[expose] public section

set_option maxRecDepth 16384

noncomputable section

namespace Cert.FfnMath

open Idealize.ShloMosaic Idealize.ShloMosaic.TcCoe Idealize.SL.Sem

/-- The approximate GELU. -/
def gelu (x : EReal) : EReal :=
  x * (Ideal.ofBits .f32 0x3F000000#32 * (1 + Ideal.tanh (Ideal.ofBits .f32 0x3F4C422A#32 * (x + Ideal.ofBits .f32 0x3D372713#32 * (x * x * x)))))

/-- Row `n` of `h` with one zero row before and after. -/
def row (h : Fin 2048 → Fin 2048 → EReal) (n : ℕ) (k : Fin 2048) : EReal :=
  if p : 1 ≤ n ∧ n ≤ 2048 then h ⟨n - 1, by omega⟩ k else 0

/-- One hidden column's convolution at a token: `u` the three rows, `w` the column, `a` the taps, `b` the bias. -/
def conv (u : Fin 3 → Fin 2048 → EReal) (w : Fin 2048 → EReal) (a : Fin 3 → EReal) (b : EReal) : EReal :=
  b + (∑ k, u 0 k * w k) * a 0 + (∑ k, u 1 k * w k) * a 1 + (∑ k, u 2 k * w k) * a 2

/-- The three rows around token `l`. -/
def rows (h : Fin 2048 → Fin 2048 → EReal) (l : ℕ) : Fin 3 → Fin 2048 → EReal := fun e => row h (l + e.val)

theorem row_sum (h : Fin 2048 → Fin 2048 → EReal) (n : ℕ) (w : Fin 2048 → EReal) :
    ∑ k, row h n k * w k = if p : 1 ≤ n ∧ n ≤ 2048 then ∑ k, h ⟨n - 1, by omega⟩ k * w k else 0 := by
  unfold row
  by_cases p : 1 ≤ n ∧ n ≤ 2048
  · simp only [dif_pos p]
  · simp only [dif_neg p, zero_mul, Finset.sum_const_zero]
theorem row_in (h : Fin 2048 → Fin 2048 → EReal) (l : Fin 2048) : row h (l.val + 1) = h l := by
  funext k
  unfold row
  rw [dif_pos ⟨by omega, by omega⟩]
  rfl

/-- The activation of hidden column `j` at token `l`. -/
def act (h : Fin 2048 → Fin 2048 → EReal) (w : Fin 2048 → Fin 11264 → EReal) (a : Fin 3 → Fin 11264 → EReal) (b : Fin 11264 → EReal)
    (l : ℕ) (j : Fin 5632) : EReal :=
  gelu (conv (rows h l) (fun k => w k ⟨j.val, by omega⟩) (fun e => a e ⟨j.val, by omega⟩) (b ⟨j.val, by omega⟩))
    * conv (rows h l) (fun k => w k ⟨5632 + j.val, by omega⟩) (fun e => a e ⟨5632 + j.val, by omega⟩) (b ⟨5632 + j.val, by omega⟩)

/-- The residual update of a row `y`. -/
def res (x y gt g : Fin 2048 → EReal) (d : Fin 2048) : EReal := x d + y d * OutMath.rr y * (gt d * g d)

end Cert.FfnMath

namespace Cert.FfnRefIdeal.Read

open Cert.FfnRefIdeal Cert.FfnRefIdeal.Gen Idealize.ShloMosaic Idealize.ShloMosaic.TcCoe Idealize.SL.Sem
open Cert.FfnMath

variable (x0 : FVec Ideal S8x2048x2048 .bf16) (x1 : FVec Ideal S8x2048x2048 .f32) (x2 : FVec Ideal S16x6x2048 .f32) (x3 : FVec Ideal S2048 .f32)
  (x4 : FVec Ideal S2048x11264 .f32) (x5 : FVec Ideal S3x11264 .f32) (x6 : FVec Ideal S11264 .f32) (x7 : FVec Ideal S5632x2048 .f32)

theorem zero32 : (FloatOps.sitofp (F := Ideal) .f32 (0#32)) = 0 := by
  show (((0#32 : BitVec 32).toInt : ℝ) : EReal) = 0
  simp

theorem v28_at (b : Fin 8) (l : Fin 2048) (j : Fin 11264) : val_main_v28 (F := Ideal) x0 x4 x5 x6 (ix3 b l j)
    = conv (rows (fun r k => x0 (ix3 b r k)) l.val) (fun k => x4 (ix2 k j)) (fun e => x5 (ix2 e j)) (x6 (ix1 j)) := by
  unfold val_main_v28 val_main_v21 val_main_v14 val_main_v11 val_main_v20 val_main_v27 val_main_v6 val_main_v15 val_main_v22 val_main_v5 val_main_v4 val_main_v3
    val_main_v10 val_main_v9 val_main_v8 val_main_v7 val_main_v13 val_main_v12 val_main_v19 val_main_v18 val_main_v17 val_main_v16
    val_main_v26 val_main_v25 val_main_v24 val_main_v23 val_main_call0_v0 val_main_c
  pointwise
  unfold conv rows
  show _ = _ + (∑ k, row _ (l.val + 0) k * _) * _ + (∑ k, row _ (l.val + 1) k * _) * _ + (∑ k, row _ (l.val + 2) k * _) * _
  rw [row_sum, row_in, row_sum, zero32]
  refine Ideal.add_congr (Ideal.add_congr (Ideal.add_congr rfl (Ideal.mul_congr ?_ rfl)) rfl) (Ideal.mul_congr ?_ rfl)
  · by_cases p : 1 ≤ l.val
    · rw [dif_pos ⟨p, by omega⟩, dif_pos ⟨p, by omega⟩]; rfl
    · rw [dif_neg (by omega), dif_neg (by omega)]
  · by_cases p : l.val + 2 ≤ 2048
    · rw [dif_pos ⟨by omega, by omega⟩, dif_pos ⟨by omega, p⟩]
      refine Finset.sum_congr rfl fun k _ => Ideal.mul_congr (congrArg (fun r => x0 (ix3 b r k)) (Fin.ext ?_)) rfl
      show 2 + l.val - 1 = l.val + 2 - 1
      omega
    · rw [dif_neg (by omega), dif_neg (by omega)]

theorem v44_at (b : Fin 8) (l : Fin 2048) (j : Fin 5632) : val_main_v44 (F := Ideal) x0 x4 x5 x6 (ix3 b l j)
    = act (fun r k => x0 (ix3 b r k)) (fun k n => x4 (ix2 k n)) (fun e n => x5 (ix2 e n)) (fun n => x6 (ix1 n)) l.val j := by
  unfold val_main_v44 val_main_v43 val_main_v42 val_main_v41 val_main_v40 val_main_v39 val_main_v38 val_main_v37 val_main_v36 val_main_v35 val_main_v34
    val_main_v33 val_main_v32 val_main_v31 val_main_v30 val_main_v29 val_main_cst val_main_cst_0 val_main_cst_1 val_main_cst_2
  have e := v28_at x0 x4 x5 x6 b l
  generalize val_main_v28 (F := Ideal) x0 x4 x5 x6 = A at e ⊢
  pointwise
  rw [e, e]
  rfl

theorem v61_at (b : Fin 8) (l d : Fin 2048) : val_main_v61 (F := Ideal) x0 x1 x2 x3 x4 x5 x6 x7 (ix3 b l d)
    = res (fun n => x1 (ix3 b l n))
        (fun n => ∑ j, act (fun r k => x0 (ix3 b r k)) (fun k n => x4 (ix2 k n)) (fun e n => x5 (ix2 e n)) (fun n => x6 (ix1 n)) l.val j * x7 (ix2 j n))
        (fun n => x2 (ix3 ⟨b.val, by omega⟩ 5 n)) (fun n => x3 (ix1 n)) d := by
  unfold val_main_v61 val_main_v60 val_main_v59 val_main_v58 val_main_v57 val_main_v56 val_main_v55 val_main_v54 val_main_v53 val_main_v52 val_main_v51 val_main_v50
    val_main_v49 val_main_v48 val_main_v47 val_main_v46 val_main_v45 val_main_cst_3 val_main_cst_4 val_main_cst_5 val_main_v2 val_main_v1 val_main_v0
  simp only [← v44_at]
  generalize val_main_v44 (F := Ideal) x0 x4 x5 x6 = A
  pointwise
  unfold res OutMath.rr
  refine Ideal.add_congr rfl ?_
  rw [mul_comm]
  simp only [mul_assoc]
  refine Ideal.mul_congr rfl (Ideal.mul_congr rfl ?_)
  exact mul_comm _ _

end Cert.FfnRefIdeal.Read

end
-- ==== Proof.FfnValue.lean ====
/-
  One block of the ConvFFN kernel, in closed form: the hidden activations of a tile's rows, what a block adds to the
  accumulator, and the tile the last block writes.
-/
module

public import proofs.«01_k».proof.Proof.FfnFrame
public import proofs.«01_k».proof.Proof.FfnRef
public import Idealize.ShloMosaic.Lib.Pipeline.ValueKit

@[expose] public section

set_option maxRecDepth 16384

noncomputable section

namespace Cert.Proof.FfnI

open Cert.FfnIdeal Cert.FfnIdeal.Gen Idealize.ShloMosaic Idealize.ShloMosaic.TcCoe Idealize.SL.Sem
open Cert.FfnMath

theorem pay10_eq : k0_pay10 (F := Ideal) = k0_pay6 := rfl
theorem pay13_eq : k0_pay13 (F := Ideal) = k0_pay6 := rfl
theorem pay11_eq : k0_pay11 (F := Ideal) = k0_pay7 := rfl
theorem pay14_eq : k0_pay14 (F := Ideal) = k0_pay7 := rfl

/-- The three slot rows around row `r` of the tile. -/
def win (L : Vec Ideal S1x1056x2048 .bf16) (r : Fin 1024) : Fin 3 → Fin 2048 → EReal := fun e k => L (ix3 0 ⟨15 + r.val + e.val, by omega⟩ k)
/-- One branch's convolution in a block. -/
def blkConv (L : Vec Ideal S1x1056x2048 .bf16) (w : Vec Ideal S2048x512 .f32) (a : Vec Ideal S3x512 .f32) (b : Vec Ideal S1x512 .f32)
    (r : Fin 1024) (q : Fin 512) : EReal :=
  conv (win L r) (fun k => w (ix2 k q)) (fun e => a (ix2 e q)) (b (ix2 0 q))
/-- The activation in a block. -/
def blkAct (L : Vec Ideal S1x1056x2048 .bf16) (x5 x6 : Vec Ideal S2048x512 .f32) (x7 x8 : Vec Ideal S3x512 .f32) (x9 x10 : Vec Ideal S1x512 .f32)
    (r : Fin 1024) (q : Fin 512) : EReal :=
  gelu (blkConv L x5 x7 x9 r q) * blkConv L x6 x8 x10 r q

theorem conv_win (L : Vec Ideal S1x1056x2048 .bf16) (r : Fin 1024) (w : Fin 2048 → EReal) (a0 a1 a2 b : EReal) (h0 h1 h2) :
    b + (∑ k, L (ix3 0 ⟨(16 + r.val + 1056 - 1) % 1056, h0⟩ k) * w k) * a0 + (∑ k, L (ix3 0 ⟨16 + r.val, h1⟩ k) * w k) * a1
      + (∑ k, L (ix3 0 ⟨(16 + r.val + 1056 - 1055) % 1056, h2⟩ k) * w k) * a2
    = b + (∑ k, win L r 0 k * w k) * a0 + (∑ k, win L r 1 k * w k) * a1 + (∑ k, win L r 2 k * w k) * a2 := by
  have hr := r.isLt
  have e0 : (⟨(16 + r.val + 1056 - 1) % 1056, h0⟩ : Fin 1056) = ⟨15 + r.val + (0 : Fin 3).val, by omega⟩ :=
    Fin.ext (by show (16 + r.val + 1056 - 1) % 1056 = 15 + r.val + 0; omega)
  have e1 : (⟨16 + r.val, h1⟩ : Fin 1056) = ⟨15 + r.val + (1 : Fin 3).val, by omega⟩ :=
    Fin.ext (by show 16 + r.val = 15 + r.val + 1; omega)
  have e2 : (⟨(16 + r.val + 1056 - 1055) % 1056, h2⟩ : Fin 1056) = ⟨15 + r.val + (2 : Fin 3).val, by omega⟩ :=
    Fin.ext (by show (16 + r.val + 1056 - 1055) % 1056 = 15 + r.val + 2; omega)
  rw [e0, e1, e2]
  rfl

theorem pay7_at (L : Vec Ideal S1x1056x2048 .bf16) (w : Vec Ideal S2048x512 .f32) (r : Fin 1056) (q : Fin 512) :
    k0_pay7 L (View.ld w RW) (ix2 r q) = ∑ k, L (ix3 0 r k) * w (ix2 k q) := by
  pointwise [k0_pay7]

theorem pay6_at (L : Vec Ideal S1x1056x2048 .bf16) (w : Vec Ideal S2048x512 .f32) (b : Vec Ideal S1x512 .f32) (a : Vec Ideal S3x512 .f32) (r : Fin 1024) (q : Fin 512) :
    k0_pay6 L (View.ld w RW) (View.ld b RB) (View.ld a RC0) (View.ld a RC1) (View.ld a RC2) (ix2 r q) = blkConv L w a b r q := by
  pointwise [k0_pay6]
  exact conv_win L r (fun k => w (ix2 k q)) _ _ _ _ _ _ _

/-- The gated activation from the first branch `G` and the second branch's product `U`. -/
theorem gate_at (G : FVec Ideal S1024x512 .f32) (L : Vec Ideal S1x1056x2048 .bf16) (x5 x6 : Vec Ideal S2048x512 .f32) (x7 x8 : Vec Ideal S3x512 .f32)
    (x9 x10 : Vec Ideal S1x512 .f32) (r : Fin 1024) (q : Fin 512) (hG : G (ix2 r q) = blkConv L x5 x7 x9 r q) :
    k0_pay16 G (k0_pay7 L (View.ld x6 RW)) (k0_pay15 (View.ld x10 RB)) (Scalar.ofBits .f32 0x00000000#32) (View.ld x8 RC0) (View.ld x8 RC1) (View.ld x8 RC2) (ix2 r q)
      = blkAct L x5 x6 x7 x8 x9 x10 r q := by
  have e := pay7_at L x6
  generalize k0_pay7 L (View.ld x6 RW) = U at e ⊢
  pointwise [k0_pay16, k0_pay15]
  rw [e, e, e, hG, conv_win L r (fun k => x6 (ix2 k q))]
  unfold blkAct gelu
  rw [mul_assoc (blkConv L x5 x7 x9 r q) (blkConv L x5 x7 x9 r q) (blkConv L x5 x7 x9 r q)]
  rfl

theorem finL_at (L : Vec Ideal S1x1056x2048 .bf16) (x5 x6 : Vec Ideal S2048x512 .f32) (x7 x8 : Vec Ideal S3x512 .f32) (x9 x10 : Vec Ideal S1x512 .f32)
    (r : Fin 1024) (q : Fin 512) : finL L x5 x6 x7 x8 x9 x10 (ix2 r q) = blkAct L x5 x6 x7 x8 x9 x10 r q := by
  unfold finL
  rw [pay13_eq, pay14_eq]
  exact gate_at _ L x5 x6 x7 x8 x9 x10 r q (pay6_at L x5 x9 x7 r q)

/-- What a block contributes is its activation times its rows of the second weight. -/
theorem pay9_eq (G : FVec Ideal S1024x512 .f32) (U : FVec Ideal S1056x512 .f32) (b : FVec Ideal S1x512 .f32) (z : EReal)
    (a0 a1 a2 : Vec Ideal S1x512 .f32) (w : Vec Ideal S512x2048 .f32) :
    k0_pay9 (F := Ideal) G U b z a0 a1 a2 w = shapeCast S1024x2048 (matmul dot_S1024x512_S512x2048_S1024x2048_1_0_0_1_n_n none (k0_pay16 G U b z a0 a1 a2) (k0_pay17 w) (constant S1024x2048 .f32 0x00000000#32)) shapeCasts_S1024x2048_S1024x2048 := rfl
theorem pay12_eq (A : Vec Ideal S1024x2048 .f32) (G : FVec Ideal S1024x512 .f32) (U : FVec Ideal S1056x512 .f32) (b : Vec Ideal S1x512 .f32)
    (a0 a1 a2 : Vec Ideal S1x512 .f32) (w : Vec Ideal S512x2048 .f32) :
    k0_pay12 (F := Ideal) A G U b a0 a1 a2 w = addf A (matmul dot_S1024x512_S512x2048_S1024x2048_1_0_0_1_n_n none (k0_pay16 G U (k0_pay15 b) (Scalar.ofBits .f32 0x00000000#32) a0 a1 a2) (k0_pay17 w) (constant S1024x2048 .f32 0x00000000#32)) := rfl

section Blk
variable (L : Vec Ideal S1x1056x2048 .bf16) (x5 x6 : Vec Ideal S2048x512 .f32) (x7 x8 : Vec Ideal S3x512 .f32) (x9 x10 : Vec Ideal S1x512 .f32)
  (x11 : Vec Ideal S512x2048 .f32)

/-- What a block adds at row `r`, column `d`. -/
def blkSum (r : Fin 1024) (d : Fin 2048) : EReal := ∑ q, blkAct L x5 x6 x7 x8 x9 x10 r q * x11 (ix2 q d)

theorem accFst_at (r : Fin 1024) (d : Fin 2048) : accFst L x5 x6 x7 x8 x9 x10 x11 (ix2 r d) = blkSum L x5 x6 x7 x8 x9 x10 x11 r d := by
  unfold accFst blkSum
  rw [pay9_eq]
  have e := fun q => gate_at (k0_pay6 L (View.ld x5 RW) (View.ld x9 RB) (View.ld x7 RC0) (View.ld x7 RC1) (View.ld x7 RC2)) L x5 x6 x7 x8 x9 x10 r q (pay6_at L x5 x9 x7 r q)
  rw [show k0_pay8 (F := Ideal) (View.ld x10 RB) = k0_pay15 (View.ld x10 RB) from rfl]
  generalize k0_pay16 (F := Ideal) _ _ _ _ _ _ _ = P at e ⊢
  pointwise [k0_pay17]
  simp only [e]
theorem accNxt_at (A : Vec Ideal S1024x2048 .f32) (r : Fin 1024) (d : Fin 2048) :
    accNxt L x5 x6 x7 x8 x9 x10 x11 A (ix2 r d) = A (ix2 r d) + blkSum L x5 x6 x7 x8 x9 x10 x11 r d := by
  unfold accNxt blkSum
  rw [pay12_eq, pay10_eq, pay11_eq]
  have e := fun q => gate_at (k0_pay6 L (View.ld x5 RW) (View.ld x9 RB) (View.ld x7 RC0) (View.ld x7 RC1) (View.ld x7 RC2)) L x5 x6 x7 x8 x9 x10 r q (pay6_at L x5 x9 x7 r q)
  generalize k0_pay16 (F := Ideal) _ _ _ _ _ _ _ = P at e ⊢
  pointwise [k0_pay17, k0_pay4]
  simp only [e]

/-! ## The tile -/

/-- The last block's row of a tile, normed and added to `x1`'s. -/
def outRow (P : FVec Ideal S1024x512 .bf16) (x12 : Vec Ideal S1x6x2048 .f32) (x13 : Vec Ideal S1x2048 .f32) (A X : Vec Ideal S1024x2048 .f32) (r : Fin 1024) : Fin 2048 → EReal :=
  res (fun n => X (ix2 r n)) (fun n => A (ix2 r n) + ∑ q, P (ix2 r q) * x11 (ix2 q n)) (fun n => x12 (ix3 0 5 n)) (fun n => x13 (ix2 0 n))

variable (P : FVec Ideal S1024x512 .bf16) (x12 : Vec Ideal S1x6x2048 .f32) (x13 : Vec Ideal S1x2048 .f32) (A X : Vec Ideal S1024x2048 .f32)

theorem q0_at (r : Fin 256) (d : Fin 2048) :
    k0_pay19 P (finR x11) (View.ld x12 RM) (View.ld x13 RG) (View.ld A RQ0) (View.ld X RQ0) (ix2 r d) = outRow x11 P x12 x13 A X ⟨r.val, by omega⟩ d := by
  pointwise [k0_pay19, k0_pay18, finR, k0_pay17]
  rfl
theorem q1_at (r : Fin 256) (d : Fin 2048) :
    k0_pay22 (k0_pay18 (View.ld x12 RM) (View.ld x13 RG)) (k0_pay20 P (finR x11) (View.ld A RQ1)) (View.ld X RQ1) (k0_pay21 P (finR x11) (View.ld A RQ1)) (ix2 r d)
      = outRow x11 P x12 x13 A X ⟨256 + r.val, by omega⟩ d := by
  pointwise [k0_pay22, k0_pay21, k0_pay20, k0_pay18, finR, k0_pay17]
  rfl
theorem q2_at (r : Fin 256) (d : Fin 2048) :
    k0_pay23 P (finR x11) (k0_pay18 (View.ld x12 RM) (View.ld x13 RG)) (View.ld A RQ2) (View.ld X RQ2) (ix2 r d)
      = outRow x11 P x12 x13 A X ⟨512 + r.val, by omega⟩ d := by
  pointwise [k0_pay23, k0_pay18, finR, k0_pay17]
  rfl
theorem q3_at (r : Fin 256) (d : Fin 2048) :
    k0_pay5 (k0_pay18 (View.ld x12 RM) (View.ld x13 RG)) (k0_pay24 P (finR x11) (View.ld A RQ3)) (View.ld X RQ3) (k0_pay25 P (finR x11) (View.ld A RQ3)) (ix2 r d)
      = outRow x11 P x12 x13 A X ⟨768 + r.val, by omega⟩ d := by
  pointwise [k0_pay5, k0_pay25, k0_pay24, k0_pay18, finR, k0_pay17]
  rfl

theorem ix2_eta {m n : ℕ} (x : (⟨2, ![m, n]⟩ : Shape).Idx) : x = ix2 (x 0) (x 1) := by
  funext a
  fin_cases a <;> rfl
theorem outRow_congr {r r' : Fin 1024} {d d' : Fin 2048} (hr : r.val = r'.val) (hd : d.val = d'.val) :
    outRow x11 P x12 x13 A X r d = outRow x11 P x12 x13 A X r' d' := by
  rw [Fin.ext hr, Fin.ext hd]

theorem tileV_at (y : S1024x2048.Idx) :
    tileV L x5 x6 x7 x8 x9 x10 x11 x12 x13 A X y = outRow x11 (finL L x5 x6 x7 x8 x9 x10) x12 x13 A X (y 0) (y 1) := by
  unfold tileV tileL
  canon_tiles x h
  · exact (congrArg _ (ix2_eta x)).trans ((q3_at x11 _ x12 x13 A X (x 0) (x 1)).trans (outRow_congr x11 _ x12 x13 A X h0.symm h1.symm))
  · exact (congrArg _ (ix2_eta x)).trans ((q2_at x11 _ x12 x13 A X (x 0) (x 1)).trans (outRow_congr x11 _ x12 x13 A X h0.symm h1.symm))
  · exact (congrArg _ (ix2_eta x)).trans ((q1_at x11 _ x12 x13 A X (x 0) (x 1)).trans (outRow_congr x11 _ x12 x13 A X h0.symm h1.symm))
  · exact (congrArg _ (ix2_eta x)).trans ((q0_at x11 _ x12 x13 A X (x 0) (x 1)).trans (outRow_congr x11 _ x12 x13 A X h0.symm h1.symm))
end Blk

/-- The slot's rows around row `r` are the batch's rows around the tile's token, with a zero row before and after the batch. -/
theorem win_slot (XH : S8x2048x2048.Idx → Elt Ideal .bf16) (b : Fin 8) (s : Fin 2) (r : Fin 1024) :
    win (slotV XH b s) r = rows (fun n k => XH (ix3 b n k)) (1024 * s.val + r.val) := by
  funext e k
  have hs := s.isLt
  have hr := r.isLt
  have he := e.isLt
  unfold win rows row slotV
  by_cases p : 1 ≤ 1024 * s.val + r.val + e.val ∧ 1024 * s.val + r.val + e.val ≤ 2048
  · rw [dif_pos p]
    have q : 16 - 16 * s.val ≤ 15 + r.val + e.val ∧ 15 + r.val + e.val < 1056 - 16 * s.val := by omega
    refine (dif_pos (c := 16 - 16 * s.val ≤ 15 + r.val + e.val ∧ 15 + r.val + e.val < 1056 - 16 * s.val) q).trans ?_
    refine congrArg (fun n => XH (ix3 b n k)) (Fin.ext ?_)
    show 15 + r.val + e.val + 1024 * s.val - 16 = 1024 * s.val + r.val + e.val - 1
    omega
  · rw [dif_neg p]
    have q : ¬(16 - 16 * s.val ≤ 15 + r.val + e.val ∧ 15 + r.val + e.val < 1056 - 16 * s.val) := by omega
    refine (dif_neg (c := 16 - 16 * s.val ≤ 15 + r.val + e.val ∧ 15 + r.val + e.val < 1056 - 16 * s.val) q).trans ?_
    simp [Scalar.ofBits, FloatOps.ofBits, Ideal.ofBits, Ideal.ieee]

end Cert.Proof.FfnI

end
-- ==== Proof.FfnFinal.lean ====
/-
  The ConvFFN kernel's result array, in closed form: it is the reference's.
-/
module

public import proofs.«01_k».proof.Proof.FfnValue
public import Idealize.ShloMosaic.Lib.Claim

@[expose] public section

set_option maxRecDepth 16384

noncomputable section

namespace Cert.Proof.FfnI

open Cert.FfnIdeal Cert.FfnIdeal.Gen Idealize.ShloMosaic Idealize.ShloMosaic.TcCoe Idealize.SL.Sem
open Cert.FfnMath

variable (m : (ℓ : Loc nD τ sig) → Buf (Elt Ideal) ℓ)

/-- Every window's block index at a point. -/
theorem idx_val : ∀ t : Fin cfg0.N, win0_0.index t = ![0, t.val % 11]
    ∧ win0_1.index t = ![0, t.val % 11 + 11]
    ∧ win0_2.index t = ![0, t.val % 11]
    ∧ win0_3.index t = ![0, t.val % 11 + 11]
    ∧ win0_4.index t = ![0, t.val % 11]
    ∧ win0_5.index t = ![0, t.val % 11 + 11]
    ∧ win0_6.index t = ![t.val % 11, 0]
    ∧ win0_7.index t = ![t.val / 22, 0, 0]
    ∧ win0_8.index t = ![0, 0] :=
  (by decide +kernel : ∀ t : Fin grid0.N, _)

/-- The bias and the gain as the host reshapes them. -/
theorem bias_at (c : Dev nD) (n : Fin 11264) : (show FVec Ideal S1x11264 .f32 from V m c main_v0) (ix2 0 n) = m ((c : Thread nD τ).loc main_arg6) (ix1 n) := by
  entry_read
  pointwise
theorem gain_at (c : Dev nD) (n : Fin 2048) : (show FVec Ideal S1x2048 .f32 from V m c main_v1) (ix2 0 n) = m ((c : Thread nD τ).loc main_arg3) (ix1 n) := by
  entry_read
  pointwise

section reads
variable (c : Dev nD) (t : Fin cfg0.N)

theorem rd0 (k : Fin 2048) (q : Fin 512) (j : Fin 11264) (hj : j.val = t.val % 11 * 512 + q.val) :
    (show FVec Ideal S2048x512 .f32 from iblk m c 0 t) (ix2 k q) = m ((c : Thread nD τ).loc main_arg4) (ix2 k j) := by
  blk_ext [iblk, V, idx_val t]
theorem rd1 (k : Fin 2048) (q : Fin 512) (j : Fin 11264) (hj : j.val = (t.val % 11 + 11) * 512 + q.val) :
    (show FVec Ideal S2048x512 .f32 from iblk m c 1 t) (ix2 k q) = m ((c : Thread nD τ).loc main_arg4) (ix2 k j) := by
  blk_ext [iblk, V, idx_val t]
theorem rd2 (e : Fin 3) (q : Fin 512) (j : Fin 11264) (hj : j.val = t.val % 11 * 512 + q.val) :
    (show FVec Ideal S3x512 .f32 from iblk m c 2 t) (ix2 e q) = m ((c : Thread nD τ).loc main_arg5) (ix2 e j) := by
  blk_ext [iblk, V, idx_val t]
theorem rd3 (e : Fin 3) (q : Fin 512) (j : Fin 11264) (hj : j.val = (t.val % 11 + 11) * 512 + q.val) :
    (show FVec Ideal S3x512 .f32 from iblk m c 3 t) (ix2 e q) = m ((c : Thread nD τ).loc main_arg5) (ix2 e j) := by
  blk_ext [iblk, V, idx_val t]
theorem rd4 (q : Fin 512) (j : Fin 11264) (hj : j.val = t.val % 11 * 512 + q.val) :
    (show FVec Ideal S1x512 .f32 from iblk m c 4 t) (ix2 0 q) = m ((c : Thread nD τ).loc main_arg6) (ix1 j) := by
  refine Eq.trans (b := (show FVec Ideal S1x11264 .f32 from V m c main_v0) (ix2 0 j)) (by blk_ext [iblk, idx_val t]) (bias_at m c j)
theorem rd5 (q : Fin 512) (j : Fin 11264) (hj : j.val = (t.val % 11 + 11) * 512 + q.val) :
    (show FVec Ideal S1x512 .f32 from iblk m c 5 t) (ix2 0 q) = m ((c : Thread nD τ).loc main_arg6) (ix1 j) := by
  refine Eq.trans (b := (show FVec Ideal S1x11264 .f32 from V m c main_v0) (ix2 0 j)) (by blk_ext [iblk, idx_val t]) (bias_at m c j)
theorem rd6 (q : Fin 512) (d : Fin 2048) (j : Fin 5632) (hj : j.val = t.val % 11 * 512 + q.val) :
    (show FVec Ideal S512x2048 .f32 from iblk m c 6 t) (ix2 q d) = m ((c : Thread nD τ).loc main_arg7) (ix2 j d) := by
  blk_ext [iblk, V, idx_val t]
theorem rd7 (b : Fin 16) (hb : b.val = t.val / 22) (j : Fin 6) (n : Fin 2048) :
    (show FVec Ideal S1x6x2048 .f32 from iblk m c 7 t) (ix3 0 j n) = m ((c : Thread nD τ).loc main_arg2) (ix3 b j n) := by
  blk_ext [iblk, V, idx_val t]
theorem rd8 (n : Fin 2048) :
    (show FVec Ideal S1x2048 .f32 from iblk m c 8 t) (ix2 0 n) = m ((c : Thread nD τ).loc main_arg3) (ix1 n) := by
  refine Eq.trans (b := (show FVec Ideal S1x2048 .f32 from V m c main_v1) (ix2 0 n)) (by blk_ext [iblk, idx_val t]) (gain_at m c n)
end reads

/-! ## A tile's hidden activations and its accumulator -/

section Tile
variable (c : Dev nD)

/-- The activation of hidden column `j` at token `l` of batch `b`, of the program's own arguments, -/
def hidden (b : Fin 8) (l : ℕ) (j : Fin 5632) : EReal :=
  act (fun r k => m ((c : Thread nD τ).loc main_arg0) (ix3 b r k)) (fun k n => m ((c : Thread nD τ).loc main_arg4) (ix2 k n))
    (fun e n => m ((c : Thread nD τ).loc main_arg5) (ix2 e n)) (fun n => m ((c : Thread nD τ).loc main_arg6) (ix1 n)) l j
/-- its share of output column `d`, -/
def share (b : Fin 8) (l : ℕ) (d : Fin 2048) (j : Fin 5632) : EReal := hidden m c b l j * m ((c : Thread nD τ).loc main_arg7) (ix2 j d)
/-- and the result. -/
def resAt (b : Fin 8) (l d : Fin 2048) : EReal :=
  res (fun n => m ((c : Thread nD τ).loc main_arg1) (ix3 b l n)) (fun n => ∑ j, share m c b l.val n j)
    (fun n => m ((c : Thread nD τ).loc main_arg2) (ix3 ⟨b.val, by omega⟩ 5 n)) (fun n => m ((c : Thread nD τ).loc main_arg3) (ix1 n)) d

theorem conv_congr {u u' : Fin 3 → Fin 2048 → EReal} {w w' : Fin 2048 → EReal} {a a' : Fin 3 → EReal} {b b' : EReal}
    (h0 : u = u') (h1 : w = w') (h2 : a = a') (h3 : b = b') : conv u w a b = conv u' w' a' b' := by
  subst h0 h1 h2 h3; rfl
theorem res_congr {x x' y y' gt gt' g g' : Fin 2048 → EReal} (h0 : x = x') (h1 : y = y') (h2 : gt = gt') (h3 : g = g') (d : Fin 2048) :
    res x y gt g d = res x' y' gt' g' d := by
  subst h0 h1 h2 h3; rfl

theorem blkAct_at (t : Fin cfg0.N) (b : Fin 8) (s : Fin 2) (r : Fin 1024) (q : Fin 512) (j : Fin 5632) (hj : j.val = 512 * (t.val % 11) + q.val) :
    blkAct (slotV (XHm m c) b s) (iblk m c 0 t) (iblk m c 1 t) (iblk m c 2 t) (iblk m c 3 t) (iblk m c 4 t) (iblk m c 5 t) r q
      = hidden m c b (1024 * s.val + r.val) j := by
  have e0 : win (slotV (XHm m c) b s) r = rows (fun n k => m ((c : Thread nD τ).loc main_arg0) (ix3 b n k)) (1024 * s.val + r.val) := by
    rw [win_slot, show XHm m c = _ from V_main_arg0 m c]
  unfold blkAct hidden act blkConv
  refine Ideal.mul_congr (congrArg gelu ?_) ?_
  · exact conv_congr e0 (funext fun k => rd0 m c t k q ⟨j.val, by omega⟩ (by show j.val = _; omega))
      (funext fun e => rd2 m c t e q ⟨j.val, by omega⟩ (by show j.val = _; omega)) (rd4 m c t q ⟨j.val, by omega⟩ (by show j.val = _; omega))
  · exact conv_congr e0 (funext fun k => rd1 m c t k q ⟨5632 + j.val, by omega⟩ (by show 5632 + j.val = _; omega))
      (funext fun e => rd3 m c t e q ⟨5632 + j.val, by omega⟩ (by show 5632 + j.val = _; omega))
      (rd5 m c t q ⟨5632 + j.val, by omega⟩ (by show 5632 + j.val = _; omega))

theorem blkSum_at (t : Fin cfg0.N) (b : Fin 8) (s : Fin 2) (r : Fin 1024) (d : Fin 2048) (k : ℕ) (hk : k < 11) (ht : t.val % 11 = k) :
    blkSum (slotV (XHm m c) b s) (iblk m c 0 t) (iblk m c 1 t) (iblk m c 2 t) (iblk m c 3 t) (iblk m c 4 t) (iblk m c 5 t) (iblk m c 6 t) r d
      = ∑ q : Fin 512, share m c b (1024 * s.val + r.val) d ⟨512 * k + q.val, by omega⟩ := by
  unfold blkSum share
  refine Finset.sum_congr rfl fun q _ => Ideal.mul_congr ?_ ?_
  · exact blkAct_at m c t b s r q ⟨512 * k + q.val, by omega⟩ (by rw [ht])
  · exact rd6 m c t q d ⟨512 * k + q.val, by omega⟩ (by show 512 * k + q.val = _; omega)

theorem tp_val (T k : ℕ) (hT : T < 16) (hk : k < 11) : (tp (11 * T + k)).val = 11 * T + k := Nat.mod_eq_of_lt (by omega)

theorem accV_at (T : ℕ) (hT : T < 16) (r : Fin 1024) (d : Fin 2048) : ∀ (k : ℕ) (hk : k < 11),
    accV m c T k (ix2 r d) = ∑ p : Fin (k + 1), ∑ q : Fin 512, share m c (bT T) (1024 * (sT T).val + r.val) d ⟨512 * p.val + q.val, by have := p.isLt; omega⟩ := by
  intro k
  induction k with
  | zero =>
    intro hk
    have ht := tp_val T 0 hT hk
    unfold accV
    rw [accFst_at, Fin.sum_univ_one]
    exact blkSum_at m c (tp (11 * T)) _ _ r d 0 hk (by rw [Nat.add_zero] at ht; rw [ht]; omega)
  | succ k ih =>
    intro hk
    have ht := tp_val T (k + 1) hT hk
    unfold accV
    rw [accNxt_at, Fin.sum_univ_castSucc, ih (by omega)]
    exact Ideal.add_congr rfl (blkSum_at m c (tp (11 * T + (k + 1))) _ _ r d (k + 1) hk (by rw [ht]; omega))

/-- Eleven blocks of 512 hidden columns are all of them. -/
theorem sum_blocks (D : Fin 5632 → EReal) :
    ∑ p : Fin (10 + 1), ∑ q : Fin 512, D ⟨512 * p.val + q.val, by have := p.isLt; omega⟩ = ∑ j, D j := by
  rw [← Fintype.sum_prod_type' (fun (p : Fin (10 + 1)) (q : Fin 512) => D ⟨512 * p.val + q.val, by have := p.isLt; omega⟩)]
  refine Fintype.sum_equiv (finProdFinEquiv (m := 10 + 1) (n := 512)) _ _ fun x => congrArg D (Fin.ext ?_)
  show 512 * x.1.val + x.2.val = x.2.val + 512 * x.1.val
  omega

/-- A tile's position in the arrays. -/
theorem x1V_at (XX : S8x2048x2048.Idx → Elt Ideal .f32) (b : Fin 8) (s : Fin 2) (r : Fin 1024) (l : Fin 2048) (hl : l.val = 1024 * s.val + r.val) (n : Fin 2048) :
    x1V XX b s (ix2 r n) = XX (ix3 b l n) :=
  congrArg XX (emb_row x1M (tileOff b s) (tileOff_inb b s) (fun _ => rfl) squeezes_S1x1024x2048_S1024x2048 (ix2 r n) (ix3 b l n) rfl hl
    (Nat.zero_add n.val).symm)

theorem tileOf_at (T : ℕ) (hT : T < 16) (r : Fin 1024) (l : Fin 2048) (hl : l.val = 1024 * (sT T).val + r.val) (d : Fin 2048) :
    tileOf m c T (ix2 r d) = resAt m c (bT T) l d := by
  have ht := tp_val T 10 hT (by omega)
  unfold tileOf resAt
  rw [tileV_at]
  refine res_congr (funext fun n => ?_) (funext fun n => ?_) (funext fun n => ?_) (funext fun n => ?_) d
  · exact (x1V_at (XXm m c) _ _ r l hl n).trans (congrFun (V_main_arg1 m c) (ix3 (bT T) l n))
  · refine Eq.trans ?_ ((Fin.sum_univ_castSucc (n := 10) _).symm.trans (sum_blocks (share m c (bT T) l.val n)))
    rw [hl]
    refine Ideal.add_congr ?_ ?_
    · exact accV_at m c T hT r n 9 (by omega)
    · refine Eq.trans (Finset.sum_congr rfl fun q _ => Ideal.mul_congr (finL_at _ _ _ _ _ _ _ r q) rfl) ?_
      exact blkSum_at m c (tp (11 * T + 10)) _ _ r n 10 (by omega) (by rw [ht]; omega)
  · refine rd7 m c (tp (11 * T + 10)) _ ?_ 5 n
    show T / 2 % 8 = (tp (11 * T + 10)).val / 22
    rw [ht]
    omega
  · exact rd8 m c (tp (11 * T + 10)) n

/-! ## The result array -/

theorem resT_emb (b : Fin 8) (s : Fin 2) (y : S1024x2048.Idx) (l : Fin 2048) (hl : l.val = 1024 * s.val + (y 0).val) :
    (resT b s).view.emb y = (ix3 b l (y 1) : S8x2048x2048.Idx) :=
  emb_row resM (tileOff b s) (tileOff_inb b s) (fun _ => rfl) squeezes_S1x1024x2048_S1024x2048 y (ix3 b l (y 1)) rfl hl (Nat.zero_add (y 1).val).symm

theorem read_res (b : Fin 8) (s : Fin 2) (f : S8x2048x2048.Idx → Elt Ideal .f32) (x : S1024x2048.Idx) :
    (resT b s).view.read (Elt Ideal) f x = f ((resT b s).view.emb x) := rfl

/-- In its tile a landed tile is the tile's values. -/
theorem landR_on (b : Fin 8) (s : Fin 2) (v : S1024x2048.Idx → Elt Ideal .f32) (f : S8x2048x2048.Idx → Elt Ideal .f32) (r : Fin 1024) (l : Fin 2048)
    (hl : l.val = 1024 * s.val + r.val) (d : Fin 2048) : landR c b s v f (ix3 b l d : S8x2048x2048.Idx) = v (ix2 r d) := by
  have h := congrFun (View.read_writes_whole (resT b s).view f (ReadAs.same.apply (xoM.view.read (Elt Ideal) v))) (ix2 r d)
  have h' := (read_res b s (landR c b s v f) (ix2 r d)).symm.trans h
  rw [resT_emb b s (ix2 r d) l hl] at h'
  exact h'
/-- Another tile's elements are off it. -/
theorem not_mem_resT (b b' : Fin 8) (s : Fin 2) (l d : Fin 2048) (h : b.val ≠ b'.val ∨ l.val / 1024 ≠ s.val) :
    (ix3 b' l d : S8x2048x2048.Idx) ∉ (resT b s).view.set := by
  intro hm
  obtain ⟨y, e⟩ := View.exists_emb_of_mem_set _ hm
  have hy : (y 0).val < 1024 := (y 0).isLt
  have hs := s.isLt
  rw [resT_emb b s y ⟨1024 * s.val + (y 0).val, by omega⟩ rfl] at e
  have e0 : b.val = b'.val := congrArg (fun i : S8x2048x2048.Idx => (i 0).val) e
  have e1 : 1024 * s.val + (y 0).val = l.val := congrArg (fun i : S8x2048x2048.Idx => (i 1).val) e
  rcases h with h | h
  · exact h e0
  · omega

theorem outB_upto (b : Fin 8) (l d : Fin 2048) : ∀ T : ℕ, T ≤ 16 → 2 * b.val + l.val / 1024 < T →
    outB m c T (ix3 b l d : S8x2048x2048.Idx) = resAt m c b l d := by
  intro T
  induction T with
  | zero => intro _ h; omega
  | succ T ih =>
    intro hT h
    unfold outB
    have hb : (bT T).val = T / 2 % 8 := rfl
    have hs : (sT T).val = T % 2 := rfl
    by_cases p : 2 * b.val + l.val / 1024 = T
    · have eb : b = bT T := Fin.ext (by omega)
      subst eb
      rw [landR_on c (bT T) (sT T) (tileOf m c T) (outB m c T) ⟨l.val % 1024, by omega⟩ l (by show l.val = 1024 * (sT T).val + l.val % 1024; omega) d]
      exact tileOf_at m c T (by omega) _ l (by show l.val = 1024 * (sT T).val + l.val % 1024; omega) d
    · rw [landR_off c (bT T) (sT T) (tileOf m c T) (outB m c T) _ (not_mem_resT _ _ _ l d (by omega))]
      exact ih (by omega) (by omega)

theorem outB_at (b : Fin 8) (l d : Fin 2048) : outB m c 16 (ix3 b l d : S8x2048x2048.Idx) = resAt m c b l d :=
  outB_upto m c b l d 16 (Nat.le_refl _) (by omega)

end Tile

end Cert.Proof.FfnI

end
-- ==== Proof.lean ====
module

public import proofs.«01_k».proof.Defs
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.FfnRefIdeal.Run
public import proofs.«01_k».proof.Proof.Gen.FfnRefIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.InCtx
public import proofs.«01_k».proof.Proof.Gen.InCtx.Skeleton
public import proofs.«01_k».proof.Proof.Gen.InCtx.Launch
public import proofs.«01_k».proof.Proof.Gen.InCtx.Points
public import proofs.«01_k».proof.Proof.Gen.InCtx.Frame
public import proofs.«01_k».proof.Proof.Gen.InCtxIdeal
public import proofs.«01_k».proof.Proof.Gen.InCtxIdeal.Skeleton
public import proofs.«01_k».proof.Proof.Gen.InCtxIdeal.Launch
public import proofs.«01_k».proof.Proof.Gen.InCtxIdeal.Points
public import proofs.«01_k».proof.Proof.Gen.InCtxIdeal.Frame
public import proofs.«01_k».proof.Proof.Gen.InCtxIdeal.Value
public import proofs.«01_k».proof.Proof.Gen.InCtxRefIdeal
public import proofs.«01_k».proof.Proof.Gen.InCtxRefIdeal.Run
public import proofs.«01_k».proof.Proof.Gen.InCtxRefIdeal.Read
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModIdeal.Value
public import proofs.«01_k».proof.Proof.Gen.ModRefIdeal
public import proofs.«01_k».proof.Proof.Gen.ModRefIdeal.Run
public import proofs.«01_k».proof.Proof.Gen.ModRefIdeal.Read
public import proofs.«01_k».proof.Proof.OutFinal
public import proofs.«01_k».proof.Proof.InFinal
public import proofs.«01_k».proof.Proof.CtxFinal
public import proofs.«01_k».proof.Proof.ModFinal
public import proofs.«01_k».proof.Proof.FfnBits
public import proofs.«01_k».proof.Proof.FfnFinal
public import Idealize.ShloMosaic.Adequacy
public import Idealize.ShloMosaic.Init

@[expose] public section

set_option maxRecDepth 16384

noncomputable section

namespace Cert.Proof

open Idealize.ShloMosaic Idealize.SL.Sem

/-- A three-axis index is its coordinates. -/
theorem idx3 (i : Cert.OutProjRefIdeal.S8x2048x2048.Idx) :
    ∃ (b : Fin 8) (l d : Fin 2048), i = ix3 b l d := by
  refine ⟨i 0, i 1, i 2, funext fun a => ?_⟩
  fin_cases a <;> rfl

/-- The same, for a third of the input projection's columns. -/
theorem idx3h (i : Cert.InProjRefIdeal.S8x2048x1024.Idx) :
    ∃ (b : Fin 8) (l : Fin 2048) (d : Fin 1024), i = ix3 b l d := by
  refine ⟨i 0, i 1, i 2, funext fun a => ?_⟩
  fin_cases a <;> rfl

/-- The same, for the context's projection. -/
theorem idx3c (i : Cert.InCtxRefIdeal.S1x2048x1024.Idx) :
    ∃ (l : Fin 2048) (d : Fin 1024), i = ix3 0 l d := by
  refine ⟨i 1, i 2, funext fun a => ?_⟩
  fin_cases a
  · exact Subsingleton.elim (α := Fin 1) _ _
  · rfl
  · rfl

/-- The same, for the modulation. -/
theorem idx2m (i : Cert.ModRefIdeal.S16x12288.Idx) :
    ∃ (b : Fin 16) (j : Fin 12288), i = ix2 b j := by
  refine ⟨i 0, i 1, funext fun a => ?_⟩
  fin_cases a <;> rfl

theorem quiescent_OutProj : Cert.quiescent_OutProj := fun m ρ _ => Cert.OutProj.Gen.frame m ρ

theorem quiescent_OutProjIdeal : Cert.quiescent_OutProjIdeal := fun m ρ _ => Cert.OutProjIdeal.Gen.frame m ρ

theorem quiescent_OutProjRefIdeal : Cert.quiescent_OutProjRefIdeal := fun m ρ _ =>
  (θ_run Cert.OutProjRefIdeal.defs _ _).mono (fun r h => ⟨fun c => (h c).2.2, sem_eq_zero_of_no_sems (by decide) r.2⟩)
    (Cert.OutProjRefIdeal.Value.run m ρ)

theorem quiescent_Ffn : Cert.quiescent_Ffn := FfnI.frame_bits

theorem quiescent_FfnIdeal : Cert.quiescent_FfnIdeal := fun m ρ _ =>
  (θ_run Cert.FfnIdeal.defs _ _).mono (fun _ h => ⟨fun c => (h.1 c).2, h.2⟩) (FfnI.run m ρ)

theorem quiescent_FfnRefIdeal : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run m ρ)

theorem quiescent_InProj : Cert.quiescent_InProj := fun m ρ _ => Cert.InProj.Gen.frame m ρ

theorem quiescent_InProjIdeal : Cert.quiescent_InProjIdeal := fun m ρ _ => Cert.InProjIdeal.Gen.frame m ρ

theorem quiescent_InProjRefIdeal : Cert.quiescent_InProjRefIdeal := fun m ρ _ =>
  (θ_run Cert.InProjRefIdeal.defs _ _).mono (fun r h => ⟨fun c => (h c).2.2.2, sem_eq_zero_of_no_sems (by decide) r.2⟩)
    (Cert.InProjRefIdeal.Value.run m ρ)

theorem preserves_OutProj_OutProjIdeal : Cert.preserves_OutProj_OutProjIdeal := trivial

theorem algebraic_OutProjIdeal_OutProjRefIdeal : Cert.algebraic_OutProjIdeal_OutProjRefIdeal := by
  pair_intro
  · run_from Cert.OutProjIdeal.Value.run_blocks m g
  · run_from Cert.OutProjRefIdeal.Value.run m' g'
    · rw [Cert.OutProjIdeal.Value.final9]
      funext i
      obtain ⟨b, l, d, rfl⟩ := idx3 i
      rw [Cert.OutProjRefIdeal.Value.ref0, (hagree c).1, (hagree c).2.1, (hagree c).2.2.1, (hagree c).2.2.2.1, (hagree c).2.2.2.2.1,
        (hagree c).2.2.2.2.2.2]
      rfl
    · rw [Cert.OutProjIdeal.Value.final10]
      funext i
      obtain ⟨b, l, d, rfl⟩ := idx3 i
      rw [Cert.OutProjRefIdeal.Value.ref1, (hagree c).1, (hagree c).2.1, (hagree c).2.2.1, (hagree c).2.2.2.1, (hagree c).2.2.2.2.1,
        (hagree c).2.2.2.2.2.1, (hagree c).2.2.2.2.2.2]
      rfl

theorem preserves_Ffn_FfnIdeal : Cert.preserves_Ffn_FfnIdeal := trivial

theorem algebraic_FfnIdeal_FfnRefIdeal : Cert.algebraic_FfnIdeal_FfnRefIdeal := by
  intro m g m' g' _ hagree
  refine ⟨fun c => FfnI.outB m c 16, (θ_run Cert.FfnIdeal.defs _ _).mono (fun _ h => h.1) (FfnI.run m g),
    (θ_run Cert.FfnRefIdeal.defs _ _).mono (fun _ h c => ⟨(h c).1.trans ?_, (h c).2⟩) (Cert.FfnRefIdeal.Value.run m' g')⟩
  rw [Cert.FfnRefIdeal.Read.val_main_v61_eq]
  funext i
  obtain ⟨b, l, d, rfl⟩ := idx3 i
  rw [Cert.FfnRefIdeal.Read.v61_at, (hagree c).1, (hagree c).2.1, (hagree c).2.2.1, (hagree c).2.2.2.1, (hagree c).2.2.2.2.1,
    (hagree c).2.2.2.2.2.1, (hagree c).2.2.2.2.2.2.1, (hagree c).2.2.2.2.2.2.2]
  exact (FfnI.outB_at m c b l d).symm

theorem preserves_InProj_InProjIdeal : Cert.preserves_InProj_InProjIdeal := trivial

theorem algebraic_InProjIdeal_InProjRefIdeal : Cert.algebraic_InProjIdeal_InProjRefIdeal := by
  pair_intro
  · run_from Cert.InProjIdeal.Value.run_blocks m g
  · run_from Cert.InProjRefIdeal.Value.run m' g'
    · rw [Cert.InProjIdeal.Value.final6]
      funext i
      obtain ⟨b, l, d, rfl⟩ := idx3h i
      rw [Cert.InProjRefIdeal.Value.ref0, (hagree c).1, (hagree c).2.1, (hagree c).2.2.1, (hagree c).2.2.2]
      rfl
    · rw [Cert.InProjIdeal.Value.final7]
      funext i
      obtain ⟨b, l, d, rfl⟩ := idx3h i
      rw [Cert.InProjRefIdeal.Value.ref1, (hagree c).1, (hagree c).2.1, (hagree c).2.2.1, (hagree c).2.2.2]
      rfl
    · rw [Cert.InProjIdeal.Value.final8]
      funext i
      obtain ⟨b, l, d, rfl⟩ := idx3h i
      rw [Cert.InProjRefIdeal.Value.ref2, (hagree c).1, (hagree c).2.1, (hagree c).2.2.1, (hagree c).2.2.2]
      rfl

theorem quiescent_InCtx : Cert.quiescent_InCtx := fun m ρ _ => Cert.InCtx.Gen.frame m ρ

theorem quiescent_InCtxIdeal : Cert.quiescent_InCtxIdeal := fun m ρ _ => Cert.InCtxIdeal.Gen.frame m ρ

theorem quiescent_InCtxRefIdeal : Cert.quiescent_InCtxRefIdeal := fun m ρ _ =>
  (θ_run Cert.InCtxRefIdeal.defs _ _).mono (fun r h => ⟨fun c => (h c).2, sem_eq_zero_of_no_sems (by decide) r.2⟩)
    (Cert.InCtxRefIdeal.Value.run m ρ)

theorem quiescent_Mod : Cert.quiescent_Mod := fun m ρ _ => Cert.Mod.Gen.frame m ρ

theorem quiescent_ModIdeal : Cert.quiescent_ModIdeal := fun m ρ _ => Cert.ModIdeal.Gen.frame m ρ

theorem quiescent_ModRefIdeal : Cert.quiescent_ModRefIdeal := fun m ρ _ =>
  (θ_run Cert.ModRefIdeal.defs _ _).mono (fun r h => ⟨fun c => (h c).2, sem_eq_zero_of_no_sems (by decide) r.2⟩)
    (Cert.ModRefIdeal.Value.run m ρ)

theorem preserves_InCtx_InCtxIdeal : Cert.preserves_InCtx_InCtxIdeal := trivial

theorem algebraic_InCtxIdeal_InCtxRefIdeal : Cert.algebraic_InCtxIdeal_InCtxRefIdeal := by
  pair_intro
  · run_from Cert.InCtxIdeal.Value.run_blocks m g
  · run_from Cert.InCtxRefIdeal.Value.run m' g'
    · rw [Cert.InCtxRefIdeal.Read.val_main_v29_eq, Cert.InCtxIdeal.Value.final4]
      funext i
      obtain ⟨l, d, rfl⟩ := idx3c i
      exact (Cert.InCtxRefIdeal.Read.v29_at _ _ _ _ l d).trans rfl

theorem preserves_Mod_ModIdeal : Cert.preserves_Mod_ModIdeal := trivial

theorem algebraic_ModIdeal_ModRefIdeal : Cert.algebraic_ModIdeal_ModRefIdeal := by
  pair_intro
  · run_from Cert.ModIdeal.Value.run_blocks m g
  · run_from Cert.ModRefIdeal.Value.run m' g'
    · rw [Cert.ModRefIdeal.Read.val_main_v4_eq, Cert.ModIdeal.Value.final3]
      funext i
      obtain ⟨b, j, rfl⟩ := idx2m i
      exact (Cert.ModRefIdeal.Read.v4_at _ _ _ b j).trans rfl

theorem claim : Cert.Claim :=
  ⟨Cert.OutProj.Gen.facts, Cert.OutProjIdeal.Gen.facts, Cert.OutProjRefIdeal.Gen.facts, Cert.Ffn.Gen.facts, Cert.FfnIdeal.Gen.facts, Cert.FfnRefIdeal.Gen.facts,
   Cert.InProj.Gen.facts, Cert.InProjIdeal.Gen.facts, Cert.InProjRefIdeal.Gen.facts,
   Cert.InCtx.Gen.facts, Cert.InCtxIdeal.Gen.facts, Cert.InCtxRefIdeal.Gen.facts,
   Cert.Mod.Gen.facts, Cert.ModIdeal.Gen.facts, Cert.ModRefIdeal.Gen.facts,
   quiescent_OutProj,
   quiescent_OutProjIdeal,
   quiescent_OutProjRefIdeal,
   quiescent_Ffn,
   quiescent_FfnIdeal,
   quiescent_FfnRefIdeal,
   quiescent_InProj,
   quiescent_InProjIdeal,
   quiescent_InProjRefIdeal,
   quiescent_InCtx,
   quiescent_InCtxIdeal,
   quiescent_InCtxRefIdeal,
   quiescent_Mod,
   quiescent_ModIdeal,
   quiescent_ModRefIdeal,
   preserves_OutProj_OutProjIdeal,
   algebraic_OutProjIdeal_OutProjRefIdeal,
   preserves_Ffn_FfnIdeal,
   algebraic_FfnIdeal_FfnRefIdeal,
   preserves_InProj_InProjIdeal,
   algebraic_InProjIdeal_InProjRefIdeal,
   preserves_InCtx_InCtxIdeal,
   algebraic_InCtxIdeal_InCtxRefIdeal,
   preserves_Mod_ModIdeal,
   algebraic_ModIdeal_ModRefIdeal⟩

end Cert.Proof

end
